-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_SwaRef (m : (ℓ : Loc Cert.SwaRef.nD Cert.SwaRef.τ Cert.SwaRef.sig) → Buf (Elt Bits) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_win [hPre_finite_win : Cert.Pre_finite_win.Facts] (m : (ℓ : Loc Cert.WinIdeal.nD Cert.WinIdeal.τ Cert.WinIdeal.sig) → Buf (Elt Ideal) ℓ) : Prop :=
  ∀ c : Dev Cert.WinIdeal.nD,
    (Cert.Pre_finite_win.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_win [hPre_finite_win : Cert.Pre_finite_win.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_win.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1))) = (fun _ => 1#1)

def Pre_WinRef (m : (ℓ : Loc Cert.WinRef.nD Cert.WinRef.τ Cert.WinRef.sig) → Buf (Elt Bits) ℓ) : Prop :=
  True

def Pre_Slc (m : (ℓ : Loc Cert.Slc.nD Cert.Slc.τ Cert.Slc.sig) → Buf (Elt Bits) ℓ) : Prop :=
  True

def Pre_SlcIdeal (m : (ℓ : Loc Cert.SlcIdeal.nD Cert.SlcIdeal.τ Cert.SlcIdeal.sig) → Buf (Elt Ideal) ℓ) : Prop :=
  True

def Pre_SlcIdeal_finite_slc [hPre_finite_slc : Cert.Pre_finite_slc.Facts] (m : (ℓ : Loc Cert.SlcIdeal.nD Cert.SlcIdeal.τ Cert.SlcIdeal.sig) → Buf (Elt Ideal) ℓ) : Prop :=
  ∀ c : Dev Cert.SlcIdeal.nD,
    (Cert.Pre_finite_slc.fn (F := Ideal) (m ((c.tc : Thread Cert.SlcIdeal.nD Cert.SlcIdeal.τ).loc Cert.SlcIdeal.main_arg0)) (m ((c.tc : Thread Cert.SlcIdeal.nD Cert.SlcIdeal.τ).loc Cert.SlcIdeal.main_arg1)) (m ((c.tc : Thread Cert.SlcIdeal.nD Cert.SlcIdeal.τ).loc Cert.SlcIdeal.main_arg2))) = (fun _ => 1#1)

def Pre_SlcRefIdeal (m : (ℓ : Loc Cert.SlcRefIdeal.nD Cert.SlcRefIdeal.τ Cert.SlcRefIdeal.sig) → Buf (Elt Ideal) ℓ) : Prop :=
  True

def Pre_SlcRefIdeal_finite_slc [hPre_finite_slc : Cert.Pre_finite_slc.Facts] (m : (ℓ : Loc Cert.SlcRefIdeal.nD Cert.SlcRefIdeal.τ Cert.SlcRefIdeal.sig) → Buf (Elt Ideal) ℓ) : Prop :=
  ∀ c : Dev Cert.SlcRefIdeal.nD,
    (Cert.Pre_finite_slc.fn (F := Ideal) (m ((c.tc : Thread Cert.SlcRefIdeal.nD Cert.SlcRefIdeal.τ).loc Cert.SlcRefIdeal.main_arg0)) (m ((c.tc : Thread Cert.SlcRefIdeal.nD Cert.SlcRefIdeal.τ).loc Cert.SlcRefIdeal.main_arg1)) (m ((c.tc : Thread Cert.SlcRefIdeal.nD Cert.SlcRefIdeal.τ).loc Cert.SlcRefIdeal.main_arg2))) = (fun _ => 1#1)

def Pre_SlcRef (m : (ℓ : Loc Cert.SlcRef.nD Cert.SlcRef.τ Cert.SlcRef.sig) → Buf (Elt Bits) ℓ) : Prop :=
  True

def Pre_Experts [hPre_te_range : Cert.Pre_te_range.Facts] (m : (ℓ : Loc Cert.Experts.nD Cert.Experts.τ Cert.Experts.sig) → Buf (Elt Bits) ℓ) : Prop :=
  ∀ c : Dev Cert.Experts.nD,
    (Cert.Pre_te_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_te_range : Cert.Pre_te_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_te_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_te_range [hPre_te_range : Cert.Pre_te_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_te_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRef [hSwaRef : Cert.SwaRef.Facts] : Prop :=
  ∀ (m : (ℓ : Loc Cert.SwaRef.nD Cert.SwaRef.τ Cert.SwaRef.sig) → Buf (Elt Bits) ℓ) (g : Dev Cert.SwaRef.nD → PrngReg), Pre_SwaRef m →
    θ_run (Cert.SwaRef.defs (F := Bits)) (onTc (τ := Cert.SwaRef.τ) (Cert.SwaRef.main (F := Bits))) ⟨m, fun _ => 0, g⟩ (fun r => (∀ c : Dev Cert.SwaRef.nD,
      r.2.mem ((c.tc : Thread Cert.SwaRef.nD Cert.SwaRef.τ).loc Cert.SwaRef.main_arg0) = m ((c.tc : Thread Cert.SwaRef.nD Cert.SwaRef.τ).loc Cert.SwaRef.main_arg0)
      ∧ r.2.mem ((c.tc : Thread Cert.SwaRef.nD Cert.SwaRef.τ).loc Cert.SwaRef.main_arg1) = m ((c.tc : Thread Cert.SwaRef.nD Cert.SwaRef.τ).loc Cert.SwaRef.main_arg1)
      ∧ r.2.mem ((c.tc : Thread Cert.SwaRef.nD Cert.SwaRef.τ).loc Cert.SwaRef.main_arg2) = m ((c.tc : Thread Cert.SwaRef.nD Cert.SwaRef.τ).loc Cert.SwaRef.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinIdeal_pre_finite_win [hWinIdeal : Cert.WinIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_win m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRefIdeal_pre_finite_win [hWinRefIdeal : Cert.WinRefIdeal.Facts] [hPre_finite_win : Cert.Pre_finite_win.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_win m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRef [hWinRef : Cert.WinRef.Facts] : Prop :=
  ∀ (m : (ℓ : Loc Cert.WinRef.nD Cert.WinRef.τ Cert.WinRef.sig) → Buf (Elt Bits) ℓ) (g : Dev Cert.WinRef.nD → PrngReg), Pre_WinRef m →
    θ_run (Cert.WinRef.defs (F := Bits)) (onTc (τ := Cert.WinRef.τ) (Cert.WinRef.main (F := Bits))) ⟨m, fun _ => 0, g⟩ (fun r => (∀ c : Dev Cert.WinRef.nD,
      r.2.mem ((c.tc : Thread Cert.WinRef.nD Cert.WinRef.τ).loc Cert.WinRef.main_arg0) = m ((c.tc : Thread Cert.WinRef.nD Cert.WinRef.τ).loc Cert.WinRef.main_arg0)
      ∧ r.2.mem ((c.tc : Thread Cert.WinRef.nD Cert.WinRef.τ).loc Cert.WinRef.main_arg1) = m ((c.tc : Thread Cert.WinRef.nD Cert.WinRef.τ).loc Cert.WinRef.main_arg1))
      ∧ r.2.sem = fun _ => 0)

def quiescent_Slc [hSlc : Cert.Slc.Facts] : Prop :=
  ∀ (m : (ℓ : Loc Cert.Slc.nD Cert.Slc.τ Cert.Slc.sig) → Buf (Elt Bits) ℓ) (g : Dev Cert.Slc.nD → PrngReg), Pre_Slc m →
    θ_run (Cert.Slc.defs (F := Bits)) (onTc (τ := Cert.Slc.τ) (Cert.Slc.main (F := Bits))) ⟨m, fun _ => 0, g⟩ (fun r => (∀ c : Dev Cert.Slc.nD,
      r.2.mem ((c.tc : Thread Cert.Slc.nD Cert.Slc.τ).loc Cert.Slc.main_arg0) = m ((c.tc : Thread Cert.Slc.nD Cert.Slc.τ).loc Cert.Slc.main_arg0)
      ∧ r.2.mem ((c.tc : Thread Cert.Slc.nD Cert.Slc.τ).loc Cert.Slc.main_arg1) = m ((c.tc : Thread Cert.Slc.nD Cert.Slc.τ).loc Cert.Slc.main_arg1)
      ∧ r.2.mem ((c.tc : Thread Cert.Slc.nD Cert.Slc.τ).loc Cert.Slc.main_arg2) = m ((c.tc : Thread Cert.Slc.nD Cert.Slc.τ).loc Cert.Slc.main_arg2))
      ∧ r.2.sem = fun _ => 0)

def quiescent_SlcIdeal [hSlcIdeal : Cert.SlcIdeal.Facts] : Prop :=
  ∀ (m : (ℓ : Loc Cert.SlcIdeal.nD Cert.SlcIdeal.τ Cert.SlcIdeal.sig) → Buf (Elt Ideal) ℓ) (g : Dev Cert.SlcIdeal.nD → PrngReg), Pre_SlcIdeal m →
    θ_run (Cert.SlcIdeal.defs (F := Ideal)) (onTc (τ := Cert.SlcIdeal.τ) (Cert.SlcIdeal.main (F := Ideal))) ⟨m, fun _ => 0, g⟩ (fun r => (∀ c : Dev Cert.SlcIdeal.nD,
      r.2.mem ((c.tc : Thread Cert.SlcIdeal.nD Cert.SlcIdeal.τ).loc Cert.SlcIdeal.main_arg0) = m ((c.tc : Thread Cert.SlcIdeal.nD Cert.SlcIdeal.τ).loc Cert.SlcIdeal.main_arg0)
      ∧ r.2.mem ((c.tc : Thread Cert.SlcIdeal.nD Cert.SlcIdeal.τ).loc Cert.SlcIdeal.main_arg1) = m ((c.tc : Thread Cert.SlcIdeal.nD Cert.SlcIdeal.τ).loc Cert.SlcIdeal.main_arg1)
      ∧ r.2.mem ((c.tc : Thread Cert.SlcIdeal.nD Cert.SlcIdeal.τ).loc Cert.SlcIdeal.main_arg2) = m ((c.tc : Thread Cert.SlcIdeal.nD Cert.SlcIdeal.τ).loc Cert.SlcIdeal.main_arg2))
      ∧ r.2.sem = fun _ => 0)

def quiescent_SlcIdeal_pre_finite_slc [hSlcIdeal : Cert.SlcIdeal.Facts] [hPre_finite_slc : Cert.Pre_finite_slc.Facts] : Prop :=
  ∀ (m : (ℓ : Loc Cert.SlcIdeal.nD Cert.SlcIdeal.τ Cert.SlcIdeal.sig) → Buf (Elt Ideal) ℓ) (g : Dev Cert.SlcIdeal.nD → PrngReg), Pre_SlcIdeal_finite_slc m →
    θ_run (Cert.SlcIdeal.defs (F := Ideal)) (onTc (τ := Cert.SlcIdeal.τ) (Cert.SlcIdeal.main (F := Ideal))) ⟨m, fun _ => 0, g⟩ (fun r => (∀ c : Dev Cert.SlcIdeal.nD,
      r.2.mem ((c.tc : Thread Cert.SlcIdeal.nD Cert.SlcIdeal.τ).loc Cert.SlcIdeal.main_arg0) = m ((c.tc : Thread Cert.SlcIdeal.nD Cert.SlcIdeal.τ).loc Cert.SlcIdeal.main_arg0)
      ∧ r.2.mem ((c.tc : Thread Cert.SlcIdeal.nD Cert.SlcIdeal.τ).loc Cert.SlcIdeal.main_arg1) = m ((c.tc : Thread Cert.SlcIdeal.nD Cert.SlcIdeal.τ).loc Cert.SlcIdeal.main_arg1)
      ∧ r.2.mem ((c.tc : Thread Cert.SlcIdeal.nD Cert.SlcIdeal.τ).loc Cert.SlcIdeal.main_arg2) = m ((c.tc : Thread Cert.SlcIdeal.nD Cert.SlcIdeal.τ).loc Cert.SlcIdeal.main_arg2))
      ∧ r.2.sem = fun _ => 0)

def quiescent_SlcRefIdeal [hSlcRefIdeal : Cert.SlcRefIdeal.Facts] : Prop :=
  ∀ (m : (ℓ : Loc Cert.SlcRefIdeal.nD Cert.SlcRefIdeal.τ Cert.SlcRefIdeal.sig) → Buf (Elt Ideal) ℓ) (g : Dev Cert.SlcRefIdeal.nD → PrngReg), Pre_SlcRefIdeal m →
    θ_run (Cert.SlcRefIdeal.defs (F := Ideal)) (onTc (τ := Cert.SlcRefIdeal.τ) (Cert.SlcRefIdeal.main (F := Ideal))) ⟨m, fun _ => 0, g⟩ (fun r => (∀ c : Dev Cert.SlcRefIdeal.nD,
      r.2.mem ((c.tc : Thread Cert.SlcRefIdeal.nD Cert.SlcRefIdeal.τ).loc Cert.SlcRefIdeal.main_arg0) = m ((c.tc : Thread Cert.SlcRefIdeal.nD Cert.SlcRefIdeal.τ).loc Cert.SlcRefIdeal.main_arg0)
      ∧ r.2.mem ((c.tc : Thread Cert.SlcRefIdeal.nD Cert.SlcRefIdeal.τ).loc Cert.SlcRefIdeal.main_arg1) = m ((c.tc : Thread Cert.SlcRefIdeal.nD Cert.SlcRefIdeal.τ).loc Cert.SlcRefIdeal.main_arg1)
      ∧ r.2.mem ((c.tc : Thread Cert.SlcRefIdeal.nD Cert.SlcRefIdeal.τ).loc Cert.SlcRefIdeal.main_arg2) = m ((c.tc : Thread Cert.SlcRefIdeal.nD Cert.SlcRefIdeal.τ).loc Cert.SlcRefIdeal.main_arg2))
      ∧ r.2.sem = fun _ => 0)

def quiescent_SlcRefIdeal_pre_finite_slc [hSlcRefIdeal : Cert.SlcRefIdeal.Facts] [hPre_finite_slc : Cert.Pre_finite_slc.Facts] : Prop :=
  ∀ (m : (ℓ : Loc Cert.SlcRefIdeal.nD Cert.SlcRefIdeal.τ Cert.SlcRefIdeal.sig) → Buf (Elt Ideal) ℓ) (g : Dev Cert.SlcRefIdeal.nD → PrngReg), Pre_SlcRefIdeal_finite_slc m →
    θ_run (Cert.SlcRefIdeal.defs (F := Ideal)) (onTc (τ := Cert.SlcRefIdeal.τ) (Cert.SlcRefIdeal.main (F := Ideal))) ⟨m, fun _ => 0, g⟩ (fun r => (∀ c : Dev Cert.SlcRefIdeal.nD,
      r.2.mem ((c.tc : Thread Cert.SlcRefIdeal.nD Cert.SlcRefIdeal.τ).loc Cert.SlcRefIdeal.main_arg0) = m ((c.tc : Thread Cert.SlcRefIdeal.nD Cert.SlcRefIdeal.τ).loc Cert.SlcRefIdeal.main_arg0)
      ∧ r.2.mem ((c.tc : Thread Cert.SlcRefIdeal.nD Cert.SlcRefIdeal.τ).loc Cert.SlcRefIdeal.main_arg1) = m ((c.tc : Thread Cert.SlcRefIdeal.nD Cert.SlcRefIdeal.τ).loc Cert.SlcRefIdeal.main_arg1)
      ∧ r.2.mem ((c.tc : Thread Cert.SlcRefIdeal.nD Cert.SlcRefIdeal.τ).loc Cert.SlcRefIdeal.main_arg2) = m ((c.tc : Thread Cert.SlcRefIdeal.nD Cert.SlcRefIdeal.τ).loc Cert.SlcRefIdeal.main_arg2))
      ∧ r.2.sem = fun _ => 0)

def quiescent_SlcRef [hSlcRef : Cert.SlcRef.Facts] : Prop :=
  ∀ (m : (ℓ : Loc Cert.SlcRef.nD Cert.SlcRef.τ Cert.SlcRef.sig) → Buf (Elt Bits) ℓ) (g : Dev Cert.SlcRef.nD → PrngReg), Pre_SlcRef m →
    θ_run (Cert.SlcRef.defs (F := Bits)) (onTc (τ := Cert.SlcRef.τ) (Cert.SlcRef.main (F := Bits))) ⟨m, fun _ => 0, g⟩ (fun r => (∀ c : Dev Cert.SlcRef.nD,
      r.2.mem ((c.tc : Thread Cert.SlcRef.nD Cert.SlcRef.τ).loc Cert.SlcRef.main_arg0) = m ((c.tc : Thread Cert.SlcRef.nD Cert.SlcRef.τ).loc Cert.SlcRef.main_arg0)
      ∧ r.2.mem ((c.tc : Thread Cert.SlcRef.nD Cert.SlcRef.τ).loc Cert.SlcRef.main_arg1) = m ((c.tc : Thread Cert.SlcRef.nD Cert.SlcRef.τ).loc Cert.SlcRef.main_arg1)
      ∧ r.2.mem ((c.tc : Thread Cert.SlcRef.nD Cert.SlcRef.τ).loc Cert.SlcRef.main_arg2) = m ((c.tc : Thread Cert.SlcRef.nD Cert.SlcRef.τ).loc Cert.SlcRef.main_arg2))
      ∧ r.2.sem = fun _ => 0)

def quiescent_Experts [hExperts : Cert.Experts.Facts] [hPre_te_range : Cert.Pre_te_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_te_range : Cert.Pre_te_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_te_range [hExpertsRefIdeal : Cert.ExpertsRefIdeal.Facts] [hPre_te_range : Cert.Pre_te_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_te_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def preserves_Swa_SwaIdeal : Prop :=
  IdealRules.named_const.Statement Cert.SwaIdeal.κ "mask" .f32 0xF149F2CA#32 ⊥

def preserves_SwaRef_SwaRefIdeal : Prop :=
  True

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v43) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Win_WinIdeal : Prop :=
  IdealRules.named_const.Statement Cert.WinIdeal.κ "mask" .f32 0xF149F2CA#32 ⊥

def preserves_WinRef_WinRefIdeal : Prop :=
  True

def algebraic_WinIdeal_WinRefIdeal_pre_finite_win [hWinIdeal : Cert.WinIdeal.Facts] [hWinRefIdeal : Cert.WinRefIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_win m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v37) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Slc_SlcIdeal : Prop :=
  IdealRules.named_const.Statement Cert.SlcIdeal.κ "mask" .f32 0xF149F2CA#32 ⊥

def preserves_SlcRef_SlcRefIdeal : Prop :=
  True

def algebraic_SlcIdeal_SlcRefIdeal_pre_finite_slc [hSlcIdeal : Cert.SlcIdeal.Facts] [hSlcRefIdeal : Cert.SlcRefIdeal.Facts] [hPre_finite_slc : Cert.Pre_finite_slc.Facts] : Prop :=
  ∀ (m : (ℓ : Loc Cert.SlcIdeal.nD Cert.SlcIdeal.τ Cert.SlcIdeal.sig) → Buf (Elt Ideal) ℓ) (g : Dev Cert.SlcIdeal.nD → PrngReg)
    (m' : (ℓ : Loc Cert.SlcRefIdeal.nD Cert.SlcRefIdeal.τ Cert.SlcRefIdeal.sig) → Buf (Elt Ideal) ℓ) (g' : Dev Cert.SlcRefIdeal.nD → PrngReg), Pre_SlcIdeal_finite_slc m →
    (∀ c : Dev Cert.SlcIdeal.nD,
      m' ((c.tc : Thread Cert.SlcRefIdeal.nD Cert.SlcRefIdeal.τ).loc Cert.SlcRefIdeal.main_arg0) = m ((c.tc : Thread Cert.SlcIdeal.nD Cert.SlcIdeal.τ).loc Cert.SlcIdeal.main_arg0)
      ∧ m' ((c.tc : Thread Cert.SlcRefIdeal.nD Cert.SlcRefIdeal.τ).loc Cert.SlcRefIdeal.main_arg1) = m ((c.tc : Thread Cert.SlcIdeal.nD Cert.SlcIdeal.τ).loc Cert.SlcIdeal.main_arg1)
      ∧ m' ((c.tc : Thread Cert.SlcRefIdeal.nD Cert.SlcRefIdeal.τ).loc Cert.SlcRefIdeal.main_arg2) = m ((c.tc : Thread Cert.SlcIdeal.nD Cert.SlcIdeal.τ).loc Cert.SlcIdeal.main_arg2)) →
    ∃ (v0 : (c : Dev Cert.SlcIdeal.nD) → Buf (Elt Ideal) ((c.tc : Thread Cert.SlcIdeal.nD Cert.SlcIdeal.τ).loc Cert.SlcIdeal.main_v0)),
      θ_run (Cert.SlcIdeal.defs (F := Ideal)) (onTc (τ := Cert.SlcIdeal.τ) (Cert.SlcIdeal.main (F := Ideal))) ⟨m, fun _ => 0, g⟩ (fun r => ∀ c : Dev Cert.SlcIdeal.nD,
          r.2.mem ((c.tc : Thread Cert.SlcIdeal.nD Cert.SlcIdeal.τ).loc Cert.SlcIdeal.main_v0) = v0 c
          ∧ r.2.mem ((c.tc : Thread Cert.SlcIdeal.nD Cert.SlcIdeal.τ).loc Cert.SlcIdeal.main_arg0) = m ((c.tc : Thread Cert.SlcIdeal.nD Cert.SlcIdeal.τ).loc Cert.SlcIdeal.main_arg0)
          ∧ r.2.mem ((c.tc : Thread Cert.SlcIdeal.nD Cert.SlcIdeal.τ).loc Cert.SlcIdeal.main_arg1) = m ((c.tc : Thread Cert.SlcIdeal.nD Cert.SlcIdeal.τ).loc Cert.SlcIdeal.main_arg1)
          ∧ r.2.mem ((c.tc : Thread Cert.SlcIdeal.nD Cert.SlcIdeal.τ).loc Cert.SlcIdeal.main_arg2) = m ((c.tc : Thread Cert.SlcIdeal.nD Cert.SlcIdeal.τ).loc Cert.SlcIdeal.main_arg2))
      ∧ θ_run (Cert.SlcRefIdeal.defs (F := Ideal)) (onTc (τ := Cert.SlcRefIdeal.τ) (Cert.SlcRefIdeal.main (F := Ideal))) ⟨m', fun _ => 0, g'⟩ (fun r => ∀ c : Dev Cert.SlcRefIdeal.nD,
          r.2.mem ((c.tc : Thread Cert.SlcRefIdeal.nD Cert.SlcRefIdeal.τ).loc Cert.SlcRefIdeal.main_v43) = v0 c
          ∧ r.2.mem ((c.tc : Thread Cert.SlcRefIdeal.nD Cert.SlcRefIdeal.τ).loc Cert.SlcRefIdeal.main_arg0) = m' ((c.tc : Thread Cert.SlcRefIdeal.nD Cert.SlcRefIdeal.τ).loc Cert.SlcRefIdeal.main_arg0)
          ∧ r.2.mem ((c.tc : Thread Cert.SlcRefIdeal.nD Cert.SlcRefIdeal.τ).loc Cert.SlcRefIdeal.main_arg1) = m' ((c.tc : Thread Cert.SlcRefIdeal.nD Cert.SlcRefIdeal.τ).loc Cert.SlcRefIdeal.main_arg1)
          ∧ r.2.mem ((c.tc : Thread Cert.SlcRefIdeal.nD Cert.SlcRefIdeal.τ).loc Cert.SlcRefIdeal.main_arg2) = m' ((c.tc : Thread Cert.SlcRefIdeal.nD Cert.SlcRefIdeal.τ).loc Cert.SlcRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_te_range : Cert.Pre_te_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v74) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v21) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def Claim : Prop :=
  ∃ (hSwa : Cert.Swa.Facts) (hSwaIdeal : Cert.SwaIdeal.Facts) (hSwaRefIdeal : Cert.SwaRefIdeal.Facts) (hSwaRef : Cert.SwaRef.Facts) (hWin : Cert.Win.Facts) (hWinIdeal : Cert.WinIdeal.Facts) (hWinRefIdeal : Cert.WinRefIdeal.Facts) (hWinRef : Cert.WinRef.Facts) (hSlc : Cert.Slc.Facts) (hSlcIdeal : Cert.SlcIdeal.Facts) (hSlcRefIdeal : Cert.SlcRefIdeal.Facts) (hSlcRef : Cert.SlcRef.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hPre_finite_swa : Cert.Pre_finite_swa.Facts) (hPre_finite_win : Cert.Pre_finite_win.Facts) (hPre_finite_slc : Cert.Pre_finite_slc.Facts) (hPre_te_range : Cert.Pre_te_range.Facts),
    quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_SwaRef (hSwaRef := hSwaRef)
    ∧ quiescent_Win (hWin := hWin)
    ∧ quiescent_WinIdeal (hWinIdeal := hWinIdeal)
    ∧ quiescent_WinIdeal_pre_finite_win (hWinIdeal := hWinIdeal) (hPre_finite_win := hPre_finite_win)
    ∧ quiescent_WinRefIdeal (hWinRefIdeal := hWinRefIdeal)
    ∧ quiescent_WinRefIdeal_pre_finite_win (hWinRefIdeal := hWinRefIdeal) (hPre_finite_win := hPre_finite_win)
    ∧ quiescent_WinRef (hWinRef := hWinRef)
    ∧ quiescent_Slc (hSlc := hSlc)
    ∧ quiescent_SlcIdeal (hSlcIdeal := hSlcIdeal)
    ∧ quiescent_SlcIdeal_pre_finite_slc (hSlcIdeal := hSlcIdeal) (hPre_finite_slc := hPre_finite_slc)
    ∧ quiescent_SlcRefIdeal (hSlcRefIdeal := hSlcRefIdeal)
    ∧ quiescent_SlcRefIdeal_pre_finite_slc (hSlcRefIdeal := hSlcRefIdeal) (hPre_finite_slc := hPre_finite_slc)
    ∧ quiescent_SlcRef (hSlcRef := hSlcRef)
    ∧ quiescent_Experts (hExperts := hExperts) (hPre_te_range := hPre_te_range)
    ∧ quiescent_ExpertsIdeal (hExpertsIdeal := hExpertsIdeal) (hPre_te_range := hPre_te_range)
    ∧ quiescent_ExpertsRefIdeal (hExpertsRefIdeal := hExpertsRefIdeal)
    ∧ quiescent_ExpertsRefIdeal_pre_te_range (hExpertsRefIdeal := hExpertsRefIdeal) (hPre_te_range := hPre_te_range)
    ∧ quiescent_Combine (hCombine := hCombine)
    ∧ quiescent_CombineIdeal (hCombineIdeal := hCombineIdeal)
    ∧ quiescent_CombineRefIdeal (hCombineRefIdeal := hCombineRefIdeal)
    ∧ preserves_Swa_SwaIdeal
    ∧ preserves_SwaRef_SwaRefIdeal
    ∧ algebraic_SwaIdeal_SwaRefIdeal_pre_finite_swa (hSwaIdeal := hSwaIdeal) (hSwaRefIdeal := hSwaRefIdeal) (hPre_finite_swa := hPre_finite_swa)
    ∧ preserves_Win_WinIdeal
    ∧ preserves_WinRef_WinRefIdeal
    ∧ algebraic_WinIdeal_WinRefIdeal_pre_finite_win (hWinIdeal := hWinIdeal) (hWinRefIdeal := hWinRefIdeal) (hPre_finite_win := hPre_finite_win)
    ∧ preserves_Slc_SlcIdeal
    ∧ preserves_SlcRef_SlcRefIdeal
    ∧ algebraic_SlcIdeal_SlcRefIdeal_pre_finite_slc (hSlcIdeal := hSlcIdeal) (hSlcRefIdeal := hSlcRefIdeal) (hPre_finite_slc := hPre_finite_slc)
    ∧ preserves_Experts_ExpertsIdeal
    ∧ algebraic_ExpertsIdeal_ExpertsRefIdeal (hExpertsIdeal := hExpertsIdeal) (hExpertsRefIdeal := hExpertsRefIdeal) (hPre_te_range := hPre_te_range)
    ∧ preserves_Combine_CombineIdeal
    ∧ algebraic_CombineIdeal_CombineRefIdeal (hCombineIdeal := hCombineIdeal) (hCombineRefIdeal := hCombineRefIdeal)
-- ==== Pre_finite_slc.lean ====
abbrev S32768x1536 : Shape := ⟨2, ![32768, 1536]⟩
abbrev S32768x9856 : Shape := ⟨2, ![32768, 9856]⟩
abbrev S32768x128 : Shape := ⟨2, ![32768, 128]⟩
abbrev S8x64x64x2x64 : Shape := ⟨5, ![8, 64, 64, 2, 64]⟩
abbrev S_ : Shape := ⟨0, ![]⟩
abbrev S8x64x64x2 : Shape := ⟨4, ![8, 64, 64, 2]⟩
abbrev S32768x1280 : Shape := ⟨2, ![32768, 1280]⟩

class Facts : Prop where
  bitsLt_bf16_f32 : FTy.bits .bf16 < FTy.bits .f32
  shapeCasts_S32768x128_S8x64x64x2x64 : S32768x128.ShapeCasts S8x64x64x2x64
  bcast_S_S8x64x64x2x64 : S_.BroadcastsInDim S8x64x64x2x64 (![] : Fin 0 → Fin S8x64x64x2x64.rank)
  reducesTo_S8x64x64x2x64_S8x64x64x2_d4 : S8x64x64x2x64.ReducesTo [4] S8x64x64x2
  h_S_ : 0 < S_.numel
  slices_S32768x1536_S32768x1280_0_0 : S32768x1536.Slices ![0, 0] S32768x1280
  bcast_S_S32768x1280 : S_.BroadcastsInDim S32768x1280 (![] : Fin 0 → Fin S32768x1280.rank)
  reducesTo_S32768x1280_S_d0_1 : S32768x1280.ReducesTo [0, 1] S_
  bcast_S_S8x64x64x2 : S_.BroadcastsInDim S8x64x64x2 (![] : Fin 0 → Fin S8x64x64x2.rank)
  reducesTo_S8x64x64x2_S_d0_1_2_3 : S8x64x64x2.ReducesTo [0, 1, 2, 3] S_

variable [Facts]

def fn {F : FTy → Type} [FloatOps F] (main_arg0 : FVec F S32768x1536 .bf16) (main_arg1 : FVec F S32768x9856 .bf16) (main_arg2 : FVec F S32768x128 .bf16) : IVec S_ 1 :=
  let main_v0 : IVec S8x64x64x2x64 32 := iotaInDim S8x64x64x2x64 32 4
  let main_v1 : IVec S8x64x64x2x64 32 := iotaInDim S8x64x64x2x64 32 1
  let main_v2 : IVec S8x64x64x2x64 1 := cmpi .sle main_v0 main_v1
  let main_v3 : FVec F S32768x128 .f32 := (extf .f32 · bitsLt_bf16_f32) main_arg2
  let main_v4 : FVec F S8x64x64x2x64 .f32 := shapeCast S8x64x64x2x64 main_v3 shapeCasts_S32768x128_S8x64x64x2x64
  let main_cst : FVec F S_ .f32 := constant S_ .f32 0x00000000#32
  let main_v5 : FVec F S8x64x64x2x64 .f32 := broadcastInDim S8x64x64x2x64 ![] bcast_S_S8x64x64x2x64 main_cst
  let main_v6 : FVec F S8x64x64x2x64 .f32 := select main_v2 main_v4 main_v5
  let main_cst_0 : FVec F S_ .f32 := constant S_ .f32 0xFF800000#32
  let main_v7 : FVec F S8x64x64x2 .f32 := (fun x v => Host.reduce FloatOps.maximumf x v reducesTo_S8x64x64x2x64_S8x64x64x2_d4 h_S_) main_v6 main_cst_0
  let main_v8 : FVec F S32768x1280 .bf16 := (extractStridedSlice S32768x1280 ![0, 0] · slices_S32768x1536_S32768x1280_0_0) main_arg0
  let main_v9 : FVec F S32768x1280 .bf16 := Host.absf main_v8
  let main_cst_1 : FVec F S_ .bf16 := constant S_ .bf16 0x7F80#16
  let main_v10 : FVec F S32768x1280 .bf16 := broadcastInDim S32768x1280 ![] bcast_S_S32768x1280 main_cst_1
  let main_v11 : IVec S32768x1280 1 := cmpf .olt main_v9 main_v10
  let main_c : IVec S_ 1 := constantI S_ 1 1#1
  let main_v12 : IVec S_ 1 := (fun x v => Host.reduce IntOp.andi x v reducesTo_S32768x1280_S_d0_1 h_S_) main_v11 main_c
  let main_cst_2 : FVec F S_ .f32 := constant S_ .f32 0x3F000000#32
  let main_v13 : FVec F S8x64x64x2 .f32 := broadcastInDim S8x64x64x2 ![] bcast_S_S8x64x64x2 main_cst_2
  let main_v14 : IVec S8x64x64x2 1 := cmpf .ogt main_v7 main_v13
  let main_c_3 : IVec S_ 1 := constantI S_ 1 1#1
  let main_v15 : IVec S_ 1 := (fun x v => Host.reduce IntOp.andi x v reducesTo_S8x64x64x2_S_d0_1_2_3 h_S_) main_v14 main_c_3
  let main_v16 : IVec S_ 1 := andi main_v12 main_v15
  main_v16
-- ==== Pre_finite_swa.lean ====
abbrev S16 : Shape := ⟨1, ![16]⟩
abbrev S32768x1152 : Shape := ⟨2, ![32768, 1152]⟩
abbrev S32768x9856 : Shape := ⟨2, ![32768, 9856]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x1152 : S_.BroadcastsInDim S32768x1152 (![] : Fin 0 → Fin S32768x1152.rank)
  reducesTo_S32768x1152_S_d0_1 : S32768x1152.ReducesTo [0, 1] S_

variable [Facts]

def fn {F : FTy → Type} [FloatOps F] (main_arg0 : FVec F S16 .f32) (main_arg1 : FVec F S32768x1152 .bf16) (main_arg2 : FVec F S32768x9856 .bf16) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S32768x1152 .bf16 := Host.absf main_arg1
  let main_cst_0 : FVec F S_ .bf16 := constant S_ .bf16 0x7F80#16
  let main_v5 : FVec F S32768x1152 .bf16 := broadcastInDim S32768x1152 ![] bcast_S_S32768x1152 main_cst_0
  let main_v6 : IVec S32768x1152 1 := cmpf .olt main_v4 main_v5
  let main_c_1 : IVec S_ 1 := constantI S_ 1 1#1
  let main_v7 : IVec S_ 1 := (fun x v => Host.reduce IntOp.andi x v reducesTo_S32768x1152_S_d0_1 h_S_) main_v6 main_c_1
  let main_v8 : IVec S_ 1 := andi main_v3 main_v7
  main_v8
-- ==== Pre_finite_win.lean ====
abbrev S32768x1536 : Shape := ⟨2, ![32768, 1536]⟩
abbrev S32768x9856 : Shape := ⟨2, ![32768, 9856]⟩
abbrev S32768x1024 : Shape := ⟨2, ![32768, 1024]⟩
abbrev S32768x256 : Shape := ⟨2, ![32768, 256]⟩
abbrev S_ : Shape := ⟨0, ![]⟩

class Facts : Prop where
  slices_S32768x1536_S32768x1024_0_0 : S32768x1536.Slices ![0, 0] S32768x1024
  slices_S32768x1536_S32768x256_0_1280 : S32768x1536.Slices ![0, 1280] S32768x256
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_

variable [Facts]

def fn {F : FTy → Type} [FloatOps F] (main_arg0 : FVec F S32768x1536 .bf16) (main_arg1 : FVec F S32768x9856 .bf16) : IVec S_ 1 :=
  let main_v0 : FVec F S32768x1024 .bf16 := (extractStridedSlice S32768x1024 ![0, 0] · slices_S32768x1536_S32768x1024_0_0) main_arg0
  let main_v1 : FVec F S32768x256 .bf16 := (extractStridedSlice S32768x256 ![0, 1280] · slices_S32768x1536_S32768x256_0_1280) main_arg0
  let main_v2 : FVec F S32768x1024 .bf16 := Host.absf main_v0
  let main_cst : FVec F S_ .bf16 := constant S_ .bf16 0x7F80#16
  let main_v3 : FVec F S32768x1024 .bf16 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S32768x256 .bf16 := Host.absf main_v1
  let main_cst_0 : FVec F S_ .bf16 := constant S_ .bf16 0x7F80#16
  let main_v7 : FVec F S32768x256 .bf16 := broadcastInDim S32768x256 ![] bcast_S_S32768x256 main_cst_0
  let main_v8 : IVec S32768x256 1 := cmpf .olt main_v6 main_v7
  let main_c_1 : IVec S_ 1 := constantI S_ 1 1#1
  let main_v9 : IVec S_ 1 := (fun x v => Host.reduce IntOp.andi x v reducesTo_S32768x256_S_d0_1 h_S_) main_v8 main_c_1
  let main_v10 : IVec S_ 1 := andi main_v5 main_v9
  main_v10
-- ==== Pre_te_range.lean ====
abbrev S288 : Shape := ⟨1, ![288]⟩
abbrev S73728x2048 : Shape := ⟨2, ![73728, 2048]⟩
abbrev S4x8x2048x512 : Shape := ⟨4, ![4, 8, 2048, 512]⟩
abbrev S4x8x512x2048 : Shape := ⟨4, ![4, 8, 512, 2048]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : FVec F S73728x2048 .bf16) (main_arg2 : FVec F S4x8x2048x512 .f32) (main_arg3 : FVec F S4x8x2048x512 .f32) (main_arg4 : FVec F S4x8x512x2048 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Swa.lean ====
abbrev S16 : Shape := ⟨1, ![16]⟩
abbrev S32768x1152 : Shape := ⟨2, ![32768, 1152]⟩
abbrev S32768x9856 : Shape := ⟨2, ![32768, 9856]⟩
abbrev S32768x1024 : Shape := ⟨2, ![32768, 1024]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 4
  | .vmem => 12
  | .smem => 1
  | _ => 0

abbrev bufTy : (tb : Table) → Fin (tcTables nBuf tb) → BufTy
  | .hbm, ⟨0, _⟩ => ⟨S16, .f32⟩
  | .hbm, ⟨1, _⟩ => ⟨S32768x1152, .bf16⟩
  | .hbm, ⟨2, _⟩ => ⟨S32768x9856, .bf16⟩
  | .hbm, ⟨3, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c76_i32 : BitVec 32 := 76#32
  let c0_i32_0 : BitVec 32 := 0#32
  ![v3.toNat, c76_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c76_i32 : BitVec 32 := 76#32
  let c0_i32 : BitVec 32 := 0#32
  ![v1.toNat, c76_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "mask" => some ⊥
  | _ => none
-- ==== SwaRefIdeal.lean ====
def κ : String → Option EReal := fun
  | "mask" => some ⊥
  | _ => none
-- ==== SwaRef.lean ====
abbrev S16 : Shape := ⟨1, ![16]⟩
abbrev S32768x1152 : Shape := ⟨2, ![32768, 1152]⟩
abbrev S32768x9856 : Shape := ⟨2, ![32768, 9856]⟩
abbrev S32768x1024 : Shape := ⟨2, ![32768, 1024]⟩
abbrev S8x4096x2x8x64 : Shape := ⟨5, ![8, 4096, 2, 8, 64]⟩
abbrev S32768x128 : Shape := ⟨2, ![32768, 128]⟩
abbrev S8x4096x2x64 : Shape := ⟨4, ![8, 4096, 2, 64]⟩
abbrev S8x2x4096x4096x8 : Shape := ⟨5, ![8, 2, 4096, 4096, 8]⟩
abbrev S8x2x8x4096x4096 : Shape := ⟨5, ![8, 2, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x8 : Shape := ⟨2, ![2, 8]⟩
abbrev S1x2x8x1x1 : Shape := ⟨5, ![1, 2, 8, 1, 1]⟩
abbrev S8x2x8x4096 : Shape := ⟨4, ![8, 2, 8, 4096]⟩
abbrev S8x2x8x4096x1 : Shape := ⟨5, ![8, 2, 8, 4096, 1]⟩
abbrev S8x2x64x8x4096 : Shape := ⟨5, ![8, 2, 64, 8, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16, .f32⟩
  | .hbm, ⟨1, _⟩ => ⟨S32768x1152, .bf16⟩
  | .hbm, ⟨2, _⟩ => ⟨S32768x9856, .bf16⟩
  | .hbm, ⟨3, _⟩ => ⟨S32768x1024, .bf16⟩
  | .hbm, ⟨4, _⟩ => ⟨S32768x1024, .f32⟩
  | .hbm, ⟨5, _⟩ => ⟨S8x4096x2x8x64, .f32⟩
  | .hbm, ⟨6, _⟩ => ⟨S32768x128, .bf16⟩
  | .hbm, ⟨7, _⟩ => ⟨S32768x128, .f32⟩
  | .hbm, ⟨8, _⟩ => ⟨S8x4096x2x64, .f32⟩
  | .hbm, ⟨9, _⟩ => ⟨S32768x128, .bf16⟩
  | .hbm, ⟨10, _⟩ => ⟨S32768x128, .f32⟩
  | .hbm, ⟨11, _⟩ => ⟨S8x4096x2x64, .f32⟩
  | .hbm, ⟨12, _⟩ => ⟨S8x2x4096x4096x8, .f32⟩
  | .hbm, ⟨13, _⟩ => ⟨S8x2x8x4096x4096, .f32⟩
  | .hbm, ⟨14, _⟩ => ⟨S4096, .i32⟩
  | .hbm, ⟨15, _⟩ => ⟨S4096x1, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S8x2x8x4096x4096, .i1⟩
  | .hbm, ⟨30, _⟩ => ⟨S8x2x8x4096x4096, .f32⟩
  | .hbm, ⟨31, _⟩ => ⟨S8x2x8x4096x4096, .f32⟩
  | .hbm, ⟨32, _⟩ => ⟨S2x8, .f32⟩
  | .hbm, ⟨33, _⟩ => ⟨S1x2x8x1x1, .f32⟩
  | .hbm, ⟨34, _⟩ => ⟨S_, .f32⟩
  | .hbm, ⟨35, _⟩ => ⟨S8x2x8x4096, .f32⟩
  | .hbm, ⟨36, _⟩ => ⟨S8x2x8x4096x1, .f32⟩
  | .hbm, ⟨37, _⟩ => ⟨S8x2x8x4096x1, .f32⟩
  | .hbm, ⟨38, _⟩ => ⟨S8x2x8x4096x1, .f32⟩
  | .hbm, ⟨39, _⟩ => ⟨S8x2x8x4096x4096, .f32⟩
  | .hbm, ⟨40, _⟩ => ⟨S8x2x8x4096x4096, .f32⟩
  | .hbm, ⟨41, _⟩ => ⟨S8x2x8x4096x4096, .f32⟩
  | .hbm, ⟨42, _⟩ => ⟨S_, .f32⟩
  | .hbm, ⟨43, _⟩ => ⟨S8x2x8x4096, .f32⟩
  | .hbm, ⟨44, _⟩ => ⟨S8x2x8x4096x1, .f32⟩
  | .hbm, ⟨45, _⟩ => ⟨S8x2x8x4096x1, .f32⟩
  | .hbm, ⟨46, _⟩ => ⟨S8x2x8x4096x1, .f32⟩
  | .hbm, ⟨47, _⟩ => ⟨S8x2x8x4096x1, .f32⟩
  | .hbm, ⟨48, _⟩ => ⟨S8x2x8x4096x1, .f32⟩
  | .hbm, ⟨49, _⟩ => ⟨S8x2x8x4096x4096, .f32⟩
  | .hbm, ⟨50, _⟩ => ⟨S8x2x8x4096x4096, .f32⟩
  | .hbm, ⟨51, _⟩ => ⟨S8x2x64x8x4096, .f32⟩
  | .hbm, ⟨52, _⟩ => ⟨S8x4096x2x8x64, .f32⟩
  | .hbm, ⟨53, _⟩ => ⟨S32768x1024, .f32⟩
  | .hbm, ⟨54, _⟩ => ⟨S32768x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Win.lean ====
abbrev S32768x1536 : Shape := ⟨2, ![32768, 1536]⟩
abbrev S32768x9856 : Shape := ⟨2, ![32768, 9856]⟩
abbrev S32768x1024 : Shape := ⟨2, ![32768, 1024]⟩
abbrev S128x1024 : Shape := ⟨2, ![128, 1024]⟩
abbrev S4096x256 : Shape := ⟨2, ![4096, 256]⟩
abbrev S512x128 : Shape := ⟨2, ![512, 128]⟩
abbrev S128x128 : Shape := ⟨2, ![128, 128]⟩
abbrev S512 : Shape := ⟨1, ![512]⟩
abbrev S512x1 : Shape := ⟨2, ![512, 1]⟩

abbrev nBuf : Space → Nat
  | .hbm => 3
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S32768x9856, .bf16⟩
  | .hbm, ⟨2, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S128x1024, .bf16⟩
  | .local _ .vmem, ⟨7, _⟩ => ⟨S128x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v25 : BitVec 32 := Scalar.subi v7 v6
  let c1_i32_13 : BitVec 32 := 1#32
  let v27 : BitVec 32 := Scalar.divsi v25 c1_i32_13
  let v28 : BitVec 32 := Scalar.muli v27 c1_i32_13
  let v29 : BitVec 32 := Scalar.addi v6 v28
  let c1_i32_14 : BitVec 32 := 1#32
  ⟨v6, v29, c1_i32_14⟩
def k0_mult1 (i : grid0.Coords) (k0_t1 : Fin (k0_t1_loop i).trips) : BitVec 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32_14 : BitVec 32 := 1#32
  let arg9 : BitVec 32 := Scf.iv v6 c1_i32_14 k0_t1
  let c128_i32_57 : BitVec 32 := 128#32
  let v82 : BitVec 32 := Scalar.muli arg9 c128_i32_57
  v82
def k0_off1 (i : grid0.Coords) (k0_t1 : Fin (k0_t1_loop i).trips) : Fin 2 → Nat :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32_14 : BitVec 32 := 1#32
  let arg9 : BitVec 32 := Scf.iv v6 c1_i32_14 k0_t1
  let c128_i32_57 : BitVec 32 := 128#32
  let v82 : BitVec 32 := Scalar.muli arg9 c128_i32_57
  let v83 : BitVec 32 := v82
  let v84 : Index := Scalar.indexCast v83
  let c0_58 : Index := 0#32
  ![v84.toNat, 0]
@[reducible] def k0_t2_loop (i : grid0.Coords) : Scf.Loop 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v25 : BitVec 32 := Scalar.subi v7 v6
  let c1_i32_13 : BitVec 32 := 1#32
  let v27 : BitVec 32 := Scalar.divsi v25 c1_i32_13
  let v28 : BitVec 32 := Scalar.muli v27 c1_i32_13
  let v29 : BitVec 32 := Scalar.addi v6 v28
  let v26 : BitVec 32 := Scalar.addi v6 v25
  let c1_i32_15 : BitVec 32 := 1#32
  ⟨v29, v26, c1_i32_15⟩
def k0_mult2 (i : grid0.Coords) (k0_t2 : Fin (k0_t2_loop i).trips) : BitVec 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v25 : BitVec 32 := Scalar.subi v7 v6
  let c1_i32_13 : BitVec 32 := 1#32
  let v27 : BitVec 32 := Scalar.divsi v25 c1_i32_13
  let v28 : BitVec 32 := Scalar.muli v27 c1_i32_13
  let v29 : BitVec 32 := Scalar.addi v6 v28
  let c1_i32_15 : BitVec 32 := 1#32
  let arg9 : BitVec 32 := Scf.iv v29 c1_i32_15 k0_t2
  let c128_i32_57 : BitVec 32 := 128#32
  let v82 : BitVec 32 := Scalar.muli arg9 c128_i32_57
  v82
def k0_off2 (i : grid0.Coords) (k0_t2 : Fin (k0_t2_loop i).trips) : Fin 2 → Nat :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v25 : BitVec 32 := Scalar.subi v7 v6
  let c1_i32_13 : BitVec 32 := 1#32
  let v27 : BitVec 32 := Scalar.divsi v25 c1_i32_13
  let v28 : BitVec 32 := Scalar.muli v27 c1_i32_13
  let v29 : BitVec 32 := Scalar.addi v6 v28
  let c1_i32_15 : BitVec 32 := 1#32
  let arg9 : BitVec 32 := Scf.iv v29 c1_i32_15 k0_t2
  let c128_i32_57 : BitVec 32 := 128#32
  let v82 : BitVec 32 := Scalar.muli arg9 c128_i32_57
  let v83 : BitVec 32 := v82
  let v84 : Index := Scalar.indexCast v83
  let c0_58 : Index := 0#32
  ![v84.toNat, 0]
@[reducible] def k0_t3_loop (i : grid0.Coords) : Scf.Loop 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v62 : BitVec 32 := Scalar.subi v7 v6
  let c1_i32_42 : BitVec 32 := 1#32
  let v64 : BitVec 32 := Scalar.divsi v62 c1_i32_42
  let v65 : BitVec 32 := Scalar.muli v64 c1_i32_42
  let v66 : BitVec 32 := Scalar.addi v6 v65
  let c1_i32_43 : BitVec 32 := 1#32
  ⟨v6, v66, c1_i32_43⟩
def k0_mult3 (i : grid0.Coords) (k0_t3 : Fin (k0_t3_loop i).trips) : BitVec 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32_43 : BitVec 32 := 1#32
  let arg9 : BitVec 32 := Scf.iv v6 c1_i32_43 k0_t3
  let c128_i32_57 : BitVec 32 := 128#32
  let v82 : BitVec 32 := Scalar.muli arg9 c128_i32_57
  v82
def k0_off3 (i : grid0.Coords) (k0_t3 : Fin (k0_t3_loop i).trips) : Fin 2 → Nat :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32_43 : BitVec 32 := 1#32
  let arg9 : BitVec 32 := Scf.iv v6 c1_i32_43 k0_t3
  let c128_i32_57 : BitVec 32 := 128#32
  let v82 : BitVec 32 := Scalar.muli arg9 c128_i32_57
  let v83 : BitVec 32 := v82
  let v84 : Index := Scalar.indexCast v83
  let c128_58 : Index := 128#32
  ![v84.toNat, 128]
@[reducible] def k0_t4_loop (i : grid0.Coords) : Scf.Loop 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v62 : BitVec 32 := Scalar.subi v7 v6
  let c1_i32_42 : BitVec 32 := 1#32
  let v64 : BitVec 32 := Scalar.divsi v62 c1_i32_42
  let v65 : BitVec 32 := Scalar.muli v64 c1_i32_42
  let v66 : BitVec 32 := Scalar.addi v6 v65
  let v63 : BitVec 32 := Scalar.addi v6 v62
  let c1_i32_44 : BitVec 32 := 1#32
  ⟨v66, v63, c1_i32_44⟩
def k0_mult4 (i : grid0.Coords) (k0_t4 : Fin (k0_t4_loop i).trips) : BitVec 32 :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v62 : BitVec 32 := Scalar.subi v7 v6
  let c1_i32_42 : BitVec 32 := 1#32
  let v64 : BitVec 32 := Scalar.divsi v62 c1_i32_42
  let v65 : BitVec 32 := Scalar.muli v64 c1_i32_42
  let v66 : BitVec 32 := Scalar.addi v6 v65
  let c1_i32_44 : BitVec 32 := 1#32
  let arg9 : BitVec 32 := Scf.iv v66 c1_i32_44 k0_t4
  let c128_i32_57 : BitVec 32 := 128#32
  let v82 : BitVec 32 := Scalar.muli arg9 c128_i32_57
  v82
def k0_off4 (i : grid0.Coords) (k0_t4 : Fin (k0_t4_loop i).trips) : Fin 2 → Nat :=
  let arg1 : BitVec 32 := BitVec.ofNat 32 (i 1).val
  let c4_i32 : BitVec 32 := 4#32
  let v5 : BitVec 32 := Scalar.subi arg1 c4_i32
  let c0_i32 : BitVec 32 := 0#32
  let v6 : BitVec 32 := Scalar.maxsi v5 c0_i32
  let c1_i32 : BitVec 32 := 1#32
  let v7 : BitVec 32 := Scalar.addi arg1 c1_i32
  let v62 : BitVec 32 := Scalar.subi v7 v6
  let c1_i32_42 : BitVec 32 := 1#32
  let v64 : BitVec 32 := Scalar.divsi v62 c1_i32_42
  let v65 : BitVec 32 := Scalar.muli v64 c1_i32_42
  let v66 : BitVec 32 := Scalar.addi v6 v65
  let c1_i32_44 : BitVec 32 := 1#32
  let arg9 : BitVec 32 := Scf.iv v66 c1_i32_44 k0_t4
  let c128_i32_57 : BitVec 32 := 128#32
  let v82 : BitVec 32 := Scalar.muli arg9 c128_i32_57
  let v83 : BitVec 32 := v82
  let v84 : Index := Scalar.indexCast v83
  let c128_58 : Index := 128#32
  ![v84.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, c37_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WinIdeal.lean ====
variable {F : FTy → Type} [FloatOps F] [Named F]
def κ : String → Option EReal := fun
  | "mask" => some ⊥
  | _ => none
-- ==== WinRefIdeal.lean ====
def κ : String → Option EReal := fun
  | "mask" => some ⊥
  | _ => none
-- ==== WinRef.lean ====
abbrev S32768x1536 : Shape := ⟨2, ![32768, 1536]⟩
abbrev S32768x9856 : Shape := ⟨2, ![32768, 9856]⟩
abbrev S32768x1024 : Shape := ⟨2, ![32768, 1024]⟩
abbrev S8x4096x2x4x128 : Shape := ⟨5, ![8, 4096, 2, 4, 128]⟩
abbrev S32768x256 : Shape := ⟨2, ![32768, 256]⟩
abbrev S8x4096x2x128 : Shape := ⟨4, ![8, 4096, 2, 128]⟩
abbrev S8x2x4096x4096x4 : Shape := ⟨5, ![8, 2, 4096, 4096, 4]⟩
abbrev S8x2x4x4096x4096 : Shape := ⟨5, ![8, 2, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x9856, .bf16⟩
  | .hbm, ⟨2, _⟩ => ⟨S32768x1024, .bf16⟩
  | .hbm, ⟨3, _⟩ => ⟨S32768x1024, .f32⟩
  | .hbm, ⟨4, _⟩ => ⟨S8x4096x2x4x128, .f32⟩
  | .hbm, ⟨5, _⟩ => ⟨S32768x256, .bf16⟩
  | .hbm, ⟨6, _⟩ => ⟨S32768x256, .f32⟩
  | .hbm, ⟨7, _⟩ => ⟨S8x4096x2x128, .f32⟩
  | .hbm, ⟨8, _⟩ => ⟨S32768x256, .bf16⟩
  | .hbm, ⟨9, _⟩ => ⟨S32768x256, .f32⟩
  | .hbm, ⟨10, _⟩ => ⟨S8x4096x2x128, .f32⟩
  | .hbm, ⟨11, _⟩ => ⟨S8x2x4096x4096x4, .f32⟩
  | .hbm, ⟨12, _⟩ => ⟨S8x2x4x4096x4096, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x2x4x4096x4096, .i1⟩
  | .hbm, ⟨29, _⟩ => ⟨S8x2x4x4096x4096, .f32⟩
  | .hbm, ⟨30, _⟩ => ⟨S8x2x4x4096x4096, .f32⟩
  | .hbm, ⟨31, _⟩ => ⟨S_, .f32⟩
  | .hbm, ⟨32, _⟩ => ⟨S8x2x4x4096, .f32⟩
  | .hbm, ⟨33, _⟩ => ⟨S_, .f32⟩
  | .hbm, ⟨34, _⟩ => ⟨S8x2x4x4096, .f32⟩
  | .hbm, ⟨35, _⟩ => ⟨S8x2x4x4096, .f32⟩
  | .hbm, ⟨36, _⟩ => ⟨S8x2x4x4096x1, .f32⟩
  | .hbm, ⟨37, _⟩ => ⟨S8x2x4x4096x4096, .f32⟩
  | .hbm, ⟨38, _⟩ => ⟨S8x2x4x4096x4096, .f32⟩
  | .hbm, ⟨39, _⟩ => ⟨S8x2x4x4096x4096, .f32⟩
  | .hbm, ⟨40, _⟩ => ⟨S_, .f32⟩
  | .hbm, ⟨41, _⟩ => ⟨S8x2x4x4096, .f32⟩
  | .hbm, ⟨42, _⟩ => ⟨S8x2x4x4096x1, .f32⟩
  | .hbm, ⟨43, _⟩ => ⟨S8x2x4x4096x4096, .f32⟩
  | .hbm, ⟨44, _⟩ => ⟨S8x2x4x4096x4096, .f32⟩
  | .hbm, ⟨45, _⟩ => ⟨S8x2x128x4x4096, .f32⟩
  | .hbm, ⟨46, _⟩ => ⟨S8x4096x2x4x128, .f32⟩
  | .hbm, ⟨47, _⟩ => ⟨S32768x1024, .f32⟩
  | .hbm, ⟨48, _⟩ => ⟨S32768x1024, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Slc.lean ====
abbrev S32768x1536 : Shape := ⟨2, ![32768, 1536]⟩
abbrev S32768x9856 : Shape := ⟨2, ![32768, 9856]⟩
abbrev S32768x128 : Shape := ⟨2, ![32768, 128]⟩
abbrev S32768x1024 : Shape := ⟨2, ![32768, 1024]⟩
abbrev S128x1024 : Shape := ⟨2, ![128, 1024]⟩
abbrev S4096x256 : Shape := ⟨2, ![4096, 256]⟩
abbrev S128x128 : Shape := ⟨2, ![128, 128]⟩
abbrev S512x128 : Shape := ⟨2, ![512, 128]⟩
abbrev S128x256 : Shape := ⟨2, ![128, 256]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S32768x1536, .bf16⟩
  | .hbm, ⟨1, _⟩ => ⟨S32768x9856, .bf16⟩
  | .hbm, ⟨2, _⟩ => ⟨S32768x128, .bf16⟩
  | .hbm, ⟨3, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S128x128, .bf16⟩
  | .local _ .vmem, ⟨7, _⟩ => ⟨S128x128, .bf16⟩
  | .local _ .vmem, ⟨8, _⟩ => ⟨S128x1024, .bf16⟩
  | .local _ .vmem, ⟨9, _⟩ => ⟨S128x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_21 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v43 : BitVec 32 := Scalar.subi v25 c0_i32_21
  let c1_i32_22 : BitVec 32 := 1#32
  let v45 : BitVec 32 := Scalar.divsi v43 c1_i32_22
  let v46 : BitVec 32 := Scalar.muli v45 c1_i32_22
  let v47 : BitVec 32 := Scalar.addi c0_i32_21 v46
  let c1_i32_23 : BitVec 32 := 1#32
  ⟨c0_i32_21, v47, c1_i32_23⟩
def k0_mult1 (i : grid0.Coords) (k0_t1 : Fin (k0_t1_loop i).trips) : BitVec 32 :=
  let c0_i32_21 : BitVec 32 := 0#32
  let c1_i32_23 : BitVec 32 := 1#32
  let arg10 : BitVec 32 := Scf.iv c0_i32_21 c1_i32_23 k0_t1
  let c256_i32_67 : BitVec 32 := 256#32
  let v100 : BitVec 32 := Scalar.muli arg10 c256_i32_67
  v100
def k0_off1 (i : grid0.Coords) (k0_t1 : Fin (k0_t1_loop i).trips) : Fin 2 → Nat :=
  let c0_i32_21 : BitVec 32 := 0#32
  let c1_i32_23 : BitVec 32 := 1#32
  let arg10 : BitVec 32 := Scf.iv c0_i32_21 c1_i32_23 k0_t1
  let c256_i32_67 : BitVec 32 := 256#32
  let v100 : BitVec 32 := Scalar.muli arg10 c256_i32_67
  let v101 : BitVec 32 := v100
  let v102 : Index := Scalar.indexCast v101
  let c0_68 : Index := 0#32
  ![v102.toNat, 0]
@[reducible] def k0_t2_loop (i : grid0.Coords) : Scf.Loop 32 :=
  let c0_i32_21 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v43 : BitVec 32 := Scalar.subi v25 c0_i32_21
  let c1_i32_22 : BitVec 32 := 1#32
  let v45 : BitVec 32 := Scalar.divsi v43 c1_i32_22
  let v46 : BitVec 32 := Scalar.muli v45 c1_i32_22
  let v47 : BitVec 32 := Scalar.addi c0_i32_21 v46
  let v44 : BitVec 32 := Scalar.addi c0_i32_21 v43
  let c1_i32_24 : BitVec 32 := 1#32
  ⟨v47, v44, c1_i32_24⟩
def k0_mult2 (i : grid0.Coords) (k0_t2 : Fin (k0_t2_loop i).trips) : BitVec 32 :=
  let c0_i32_21 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v43 : BitVec 32 := Scalar.subi v25 c0_i32_21
  let c1_i32_22 : BitVec 32 := 1#32
  let v45 : BitVec 32 := Scalar.divsi v43 c1_i32_22
  let v46 : BitVec 32 := Scalar.muli v45 c1_i32_22
  let v47 : BitVec 32 := Scalar.addi c0_i32_21 v46
  let c1_i32_24 : BitVec 32 := 1#32
  let arg10 : BitVec 32 := Scf.iv v47 c1_i32_24 k0_t2
  let c256_i32_67 : BitVec 32 := 256#32
  let v100 : BitVec 32 := Scalar.muli arg10 c256_i32_67
  v100
def k0_off2 (i : grid0.Coords) (k0_t2 : Fin (k0_t2_loop i).trips) : Fin 2 → Nat :=
  let c0_i32_21 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v43 : BitVec 32 := Scalar.subi v25 c0_i32_21
  let c1_i32_22 : BitVec 32 := 1#32
  let v45 : BitVec 32 := Scalar.divsi v43 c1_i32_22
  let v46 : BitVec 32 := Scalar.muli v45 c1_i32_22
  let v47 : BitVec 32 := Scalar.addi c0_i32_21 v46
  let c1_i32_24 : BitVec 32 := 1#32
  let arg10 : BitVec 32 := Scf.iv v47 c1_i32_24 k0_t2
  let c256_i32_67 : BitVec 32 := 256#32
  let v100 : BitVec 32 := Scalar.muli arg10 c256_i32_67
  let v101 : BitVec 32 := v100
  let v102 : Index := Scalar.indexCast v101
  let c0_68 : Index := 0#32
  ![v102.toNat, 0]
@[reducible] def k0_t3_loop (i : grid0.Coords) : Scf.Loop 32 :=
  let c0_i32_51 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v80 : BitVec 32 := Scalar.subi v25 c0_i32_51
  let c1_i32_52 : BitVec 32 := 1#32
  let v82 : BitVec 32 := Scalar.divsi v80 c1_i32_52
  let v83 : BitVec 32 := Scalar.muli v82 c1_i32_52
  let v84 : BitVec 32 := Scalar.addi c0_i32_51 v83
  let c1_i32_53 : BitVec 32 := 1#32
  ⟨c0_i32_51, v84, c1_i32_53⟩
def k0_mult3 (i : grid0.Coords) (k0_t3 : Fin (k0_t3_loop i).trips) : BitVec 32 :=
  let c0_i32_51 : BitVec 32 := 0#32
  let c1_i32_53 : BitVec 32 := 1#32
  let arg10 : BitVec 32 := Scf.iv c0_i32_51 c1_i32_53 k0_t3
  let c256_i32_67 : BitVec 32 := 256#32
  let v100 : BitVec 32 := Scalar.muli arg10 c256_i32_67
  v100
def k0_off3 (i : grid0.Coords) (k0_t3 : Fin (k0_t3_loop i).trips) : Fin 2 → Nat :=
  let c0_i32_51 : BitVec 32 := 0#32
  let c1_i32_53 : BitVec 32 := 1#32
  let arg10 : BitVec 32 := Scf.iv c0_i32_51 c1_i32_53 k0_t3
  let c256_i32_67 : BitVec 32 := 256#32
  let v100 : BitVec 32 := Scalar.muli arg10 c256_i32_67
  let v101 : BitVec 32 := v100
  let v102 : Index := Scalar.indexCast v101
  let c128_68 : Index := 128#32
  ![v102.toNat, 128]
@[reducible] def k0_t4_loop (i : grid0.Coords) : Scf.Loop 32 :=
  let c0_i32_51 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v80 : BitVec 32 := Scalar.subi v25 c0_i32_51
  let c1_i32_52 : BitVec 32 := 1#32
  let v82 : BitVec 32 := Scalar.divsi v80 c1_i32_52
  let v83 : BitVec 32 := Scalar.muli v82 c1_i32_52
  let v84 : BitVec 32 := Scalar.addi c0_i32_51 v83
  let v81 : BitVec 32 := Scalar.addi c0_i32_51 v80
  let c1_i32_54 : BitVec 32 := 1#32
  ⟨v84, v81, c1_i32_54⟩
def k0_mult4 (i : grid0.Coords) (k0_t4 : Fin (k0_t4_loop i).trips) : BitVec 32 :=
  let c0_i32_51 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v80 : BitVec 32 := Scalar.subi v25 c0_i32_51
  let c1_i32_52 : BitVec 32 := 1#32
  let v82 : BitVec 32 := Scalar.divsi v80 c1_i32_52
  let v83 : BitVec 32 := Scalar.muli v82 c1_i32_52
  let v84 : BitVec 32 := Scalar.addi c0_i32_51 v83
  let c1_i32_54 : BitVec 32 := 1#32
  let arg10 : BitVec 32 := Scf.iv v84 c1_i32_54 k0_t4
  let c256_i32_67 : BitVec 32 := 256#32
  let v100 : BitVec 32 := Scalar.muli arg10 c256_i32_67
  v100
def k0_off4 (i : grid0.Coords) (k0_t4 : Fin (k0_t4_loop i).trips) : Fin 2 → Nat :=
  let c0_i32_51 : BitVec 32 := 0#32
  let arg1 : BitVec 32 := BitVec.ofNat 32 (i 1).val
  let c128_i32_0 : BitVec 32 := 128#32
  let v5 : BitVec 32 := Scalar.muli arg1 c128_i32_0
  let c128_i32_1 : BitVec 32 := 128#32
  let v6 : BitVec 32 := Scalar.addi v5 c128_i32_1
  let c256_i32 : BitVec 32 := 256#32
  let v7 : BitVec 32 := Scalar.addi v6 c256_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c256_i32_2 : BitVec 32 := 256#32
  let c0_i32_4 : BitVec 32 := 0#32
  let v15 : BitVec 1 := Scalar.cmpi .sgt c256_i32_2 c0_i32_4
  let v16 : BitVec 32 := Scalar.extui v15
  let c0_i32_5 : BitVec 32 := 0#32
  let v17 : BitVec 1 := Scalar.cmpi .slt c256_i32_2 c0_i32_5
  let v18 : BitVec 32 := Scalar.extui v17
  let v19 : BitVec 32 := Scalar.subi v16 v18
  let v20 : BitVec 1 := Scalar.cmpi .ne v14 v19
  let v21 : BitVec 32 := Scalar.remsi v8 c256_i32_2
  let c0_i32_6 : BitVec 32 := 0#32
  let v22 : BitVec 1 := Scalar.cmpi .ne v21 c0_i32_6
  let v23 : BitVec 1 := Scalar.andi v20 v22
  let v9 : BitVec 32 := Scalar.divsi v8 c256_i32_2
  let c1_i32_7 : BitVec 32 := 1#32
  let v24 : BitVec 32 := Scalar.subi v9 c1_i32_7
  let v25 : BitVec 32 := Scalar.select v23 v24 v9
  let v80 : BitVec 32 := Scalar.subi v25 c0_i32_51
  let c1_i32_52 : BitVec 32 := 1#32
  let v82 : BitVec 32 := Scalar.divsi v80 c1_i32_52
  let v83 : BitVec 32 := Scalar.muli v82 c1_i32_52
  let v84 : BitVec 32 := Scalar.addi c0_i32_51 v83
  let c1_i32_54 : BitVec 32 := 1#32
  let arg10 : BitVec 32 := Scf.iv v84 c1_i32_54 k0_t4
  let c256_i32_67 : BitVec 32 := 256#32
  let v100 : BitVec 32 := Scalar.muli arg10 c256_i32_67
  let v101 : BitVec 32 := v100
  let v102 : Index := Scalar.indexCast v101
  let c128_68 : Index := 128#32
  ![v102.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, c36_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SlcIdeal.lean ====
variable {F : FTy → Type} [FloatOps F] [Named F]
def κ : String → Option EReal := fun
  | "mask" => some ⊥
  | _ => none
-- ==== SlcRefIdeal.lean ====
def κ : String → Option EReal := fun
  | "mask" => some ⊥
  | _ => none
-- ==== SlcRef.lean ====
abbrev S32768x1536 : Shape := ⟨2, ![32768, 1536]⟩
abbrev S32768x9856 : Shape := ⟨2, ![32768, 9856]⟩
abbrev S32768x128 : Shape := ⟨2, ![32768, 128]⟩
abbrev S32768x1024 : Shape := ⟨2, ![32768, 1024]⟩
abbrev S8x4096x2x4x128 : Shape := ⟨5, ![8, 4096, 2, 4, 128]⟩
abbrev S32768x256 : Shape := ⟨2, ![32768, 256]⟩
abbrev S8x4096x2x128 : Shape := ⟨4, ![8, 4096, 2, 128]⟩
abbrev S8x2x4096x4096x4 : Shape := ⟨5, ![8, 2, 4096, 4096, 4]⟩
abbrev S8x2x4x4096x4096 : Shape := ⟨5, ![8, 2, 4, 4096, 4096]⟩
abbrev S8x4096x2x64 : Shape := ⟨4, ![8, 4096, 2, 64]⟩
abbrev S_ : Shape := ⟨0, ![]⟩
abbrev S8x2x4096x64 : Shape := ⟨4, ![8, 2, 4096, 64]⟩
abbrev S8x2x4096x64x64 : Shape := ⟨5, ![8, 2, 4096, 64, 64]⟩
abbrev S8x2x4096x4096 : Shape := ⟨4, ![8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x2x1x4096x4096 : Shape := ⟨5, ![8, 2, 1, 4096, 4096]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 55
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x9856, .bf16⟩
  | .hbm, ⟨2, _⟩ => ⟨S32768x128, .bf16⟩
  | .hbm, ⟨3, _⟩ => ⟨S32768x1024, .bf16⟩
  | .hbm, ⟨4, _⟩ => ⟨S32768x1024, .f32⟩
  | .hbm, ⟨5, _⟩ => ⟨S8x4096x2x4x128, .f32⟩
  | .hbm, ⟨6, _⟩ => ⟨S32768x256, .bf16⟩
  | .hbm, ⟨7, _⟩ => ⟨S32768x256, .f32⟩
  | .hbm, ⟨8, _⟩ => ⟨S8x4096x2x128, .f32⟩
  | .hbm, ⟨9, _⟩ => ⟨S32768x256, .bf16⟩
  | .hbm, ⟨10, _⟩ => ⟨S32768x256, .f32⟩
  | .hbm, ⟨11, _⟩ => ⟨S8x4096x2x128, .f32⟩
  | .hbm, ⟨12, _⟩ => ⟨S8x2x4096x4096x4, .f32⟩
  | .hbm, ⟨13, _⟩ => ⟨S8x2x4x4096x4096, .f32⟩
  | .hbm, ⟨14, _⟩ => ⟨S32768x128, .f32⟩
  | .hbm, ⟨15, _⟩ => ⟨S8x4096x2x64, .f32⟩
  | .hbm, ⟨16, _⟩ => ⟨S_, .f32⟩
  | .hbm, ⟨17, _⟩ => ⟨S8x4096x2x64, .f32⟩
  | .hbm, ⟨18, _⟩ => ⟨S8x4096x2x64, .i1⟩
  | .hbm, ⟨19, _⟩ => ⟨S8x2x4096x64, .i1⟩
  | .hbm, ⟨20, _⟩ => ⟨S8x2x4096x64x64, .i1⟩
  | .hbm, ⟨21, _⟩ => ⟨S8x2x4096x4096, .i1⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x1x4096x4096, .i1⟩
  | .hbm, ⟨29, _⟩ => ⟨S8x2x4096x4096, .i1⟩
  | .hbm, ⟨30, _⟩ => ⟨S8x2x4096x4096, .i1⟩
  | .hbm, ⟨31, _⟩ => ⟨S8x2x1x4096x4096, .i1⟩
  | .hbm, ⟨32, _⟩ => ⟨S_, .f32⟩
  | .hbm, ⟨33, _⟩ => ⟨S_, .f32⟩
  | .hbm, ⟨34, _⟩ => ⟨S8x2x4x4096x4096, .i1⟩
  | .hbm, ⟨35, _⟩ => ⟨S8x2x4x4096x4096, .f32⟩
  | .hbm, ⟨36, _⟩ => ⟨S8x2x4x4096x4096, .f32⟩
  | .hbm, ⟨37, _⟩ => ⟨S_, .f32⟩
  | .hbm, ⟨38, _⟩ => ⟨S8x2x4x4096, .f32⟩
  | .hbm, ⟨39, _⟩ => ⟨S_, .f32⟩
  | .hbm, ⟨40, _⟩ => ⟨S8x2x4x4096, .f32⟩
  | .hbm, ⟨41, _⟩ => ⟨S8x2x4x4096, .f32⟩
  | .hbm, ⟨42, _⟩ => ⟨S8x2x4x4096x1, .f32⟩
  | .hbm, ⟨43, _⟩ => ⟨S8x2x4x4096x4096, .f32⟩
  | .hbm, ⟨44, _⟩ => ⟨S8x2x4x4096x4096, .f32⟩
  | .hbm, ⟨45, _⟩ => ⟨S8x2x4x4096x4096, .f32⟩
  | .hbm, ⟨46, _⟩ => ⟨S_, .f32⟩
  | .hbm, ⟨47, _⟩ => ⟨S8x2x4x4096, .f32⟩
  | .hbm, ⟨48, _⟩ => ⟨S8x2x4x4096x1, .f32⟩
  | .hbm, ⟨49, _⟩ => ⟨S8x2x4x4096x4096, .f32⟩
  | .hbm, ⟨50, _⟩ => ⟨S8x2x4x4096x4096, .f32⟩
  | .hbm, ⟨51, _⟩ => ⟨S8x2x128x4x4096, .f32⟩
  | .hbm, ⟨52, _⟩ => ⟨S8x4096x2x4x128, .f32⟩
  | .hbm, ⟨53, _⟩ => ⟨S32768x1024, .f32⟩
  | .hbm, ⟨54, _⟩ => ⟨S32768x1024, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Experts.lean ====
abbrev S288 : Shape := ⟨1, ![288]⟩
abbrev S73728x2048 : Shape := ⟨2, ![73728, 2048]⟩
abbrev S4x8x2048x512 : Shape := ⟨4, ![4, 8, 2048, 512]⟩
abbrev S4x8x512x2048 : Shape := ⟨4, ![4, 8, 512, 2048]⟩
abbrev S4x8x2048x1024 : Shape := ⟨4, ![4, 8, 2048, 1024]⟩
abbrev S32x2048x1024 : Shape := ⟨3, ![32, 2048, 1024]⟩
abbrev S32x512x2048 : Shape := ⟨3, ![32, 512, 2048]⟩
abbrev S256x2048 : Shape := ⟨2, ![256, 2048]⟩
abbrev S1x2048x1024 : Shape := ⟨3, ![1, 2048, 1024]⟩
abbrev S1 : Shape := ⟨1, ![1]⟩
abbrev S1x512x2048 : Shape := ⟨3, ![1, 512, 2048]⟩
abbrev S2048x1024 : Shape := ⟨2, ![2048, 1024]⟩
abbrev S256x1024 : Shape := ⟨2, ![256, 1024]⟩
abbrev S256x512 : Shape := ⟨2, ![256, 512]⟩
abbrev S512x2048 : Shape := ⟨2, ![512, 2048]⟩

abbrev nBuf : Space → Nat
  | .hbm => 10
  | .vmem => 8
  | .smem => 1
  | _ => 0

abbrev bufTy : (tb : Table) → Fin (tcTables nBuf tb) → BufTy
  | .hbm, ⟨0, _⟩ => ⟨S73728x2048, .bf16⟩
  | .hbm, ⟨1, _⟩ => ⟨S4x8x2048x512, .f32⟩
  | .hbm, ⟨2, _⟩ => ⟨S4x8x2048x512, .f32⟩
  | .hbm, ⟨3, _⟩ => ⟨S4x8x512x2048, .f32⟩
  | .hbm, ⟨4, _⟩ => ⟨S4x8x2048x1024, .f32⟩
  | .hbm, ⟨5, _⟩ => ⟨S32x2048x1024, .f32⟩
  | .hbm, ⟨6, _⟩ => ⟨S32x2048x1024, .bf16⟩
  | .hbm, ⟨7, _⟩ => ⟨S32x512x2048, .f32⟩
  | .hbm, ⟨8, _⟩ => ⟨S32x512x2048, .bf16⟩
  | .hbm, ⟨9, _⟩ => ⟨S73728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S256x2048, .bf16⟩
  | .local _ .vmem, ⟨7, _⟩ => ⟨S256x2048, .bf16⟩
  | .local _ .smem, ⟨0, _⟩ => ⟨S288, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S288 : Shape := ⟨1, ![288]⟩
abbrev S73728x2048 : Shape := ⟨2, ![73728, 2048]⟩
abbrev S4x8x2048x512 : Shape := ⟨4, ![4, 8, 2048, 512]⟩
abbrev S4x8x512x2048 : Shape := ⟨4, ![4, 8, 512, 2048]⟩
abbrev S288x256 : Shape := ⟨2, ![288, 256]⟩
abbrev S73728 : Shape := ⟨1, ![73728]⟩
abbrev S73728x1 : Shape := ⟨2, ![73728, 1]⟩
abbrev S1x32 : Shape := ⟨2, ![1, 32]⟩
abbrev S73728x32 : Shape := ⟨2, ![73728, 32]⟩
abbrev S73728x4x8 : Shape := ⟨3, ![73728, 4, 8]⟩
abbrev S_ : Shape := ⟨0, ![]⟩
abbrev S1x8x2048x512 : Shape := ⟨4, ![1, 8, 2048, 512]⟩
abbrev S8x2048x512 : Shape := ⟨3, ![8, 2048, 512]⟩
abbrev S73728x8x512 : Shape := ⟨3, ![73728, 8, 512]⟩
abbrev S73728x1x8 : Shape := ⟨3, ![73728, 1, 8]⟩
abbrev S73728x8 : Shape := ⟨2, ![73728, 8]⟩
abbrev S73728x8x1 : Shape := ⟨3, ![73728, 8, 1]⟩
abbrev S1x8x512x2048 : Shape := ⟨4, ![1, 8, 512, 2048]⟩
abbrev S8x512x2048 : Shape := ⟨3, ![8, 512, 2048]⟩

abbrev nBuf : Space → Nat
  | .hbm => 118
  | .vmem => 0
  | .smem => 0
  | _ => 0

abbrev bufTy : (tb : Table) → Fin (tcTables nBuf tb) → BufTy
  | .hbm, ⟨0, _⟩ => ⟨S288, .i32⟩
  | .hbm, ⟨1, _⟩ => ⟨S73728x2048, .bf16⟩
  | .hbm, ⟨2, _⟩ => ⟨S4x8x2048x512, .f32⟩
  | .hbm, ⟨3, _⟩ => ⟨S4x8x2048x512, .f32⟩
  | .hbm, ⟨4, _⟩ => ⟨S4x8x512x2048, .f32⟩
  | .hbm, ⟨5, _⟩ => ⟨S73728x2048, .f32⟩
  | .hbm, ⟨6, _⟩ => ⟨S288x256, .i32⟩
  | .hbm, ⟨7, _⟩ => ⟨S73728, .i32⟩
  | .hbm, ⟨8, _⟩ => ⟨S73728x1, .i32⟩
  | .hbm, ⟨9, _⟩ => ⟨S1x32, .i32⟩
  | .hbm, ⟨10, _⟩ => ⟨S73728x32, .i32⟩
  | .hbm, ⟨11, _⟩ => ⟨S73728x32, .i32⟩
  | .hbm, ⟨12, _⟩ => ⟨S73728x32, .i1⟩
  | .hbm, ⟨13, _⟩ => ⟨S73728x32, .f32⟩
  | .hbm, ⟨14, _⟩ => ⟨S73728x4x8, .f32⟩
  | .hbm, ⟨15, _⟩ => ⟨S_, .f32⟩
  | .hbm, ⟨16, _⟩ => ⟨S73728x2048, .f32⟩
  | .hbm, ⟨17, _⟩ => ⟨S1x8x2048x512, .f32⟩
  | .hbm, ⟨18, _⟩ => ⟨S8x2048x512, .f32⟩
  | .hbm, ⟨19, _⟩ => ⟨S73728x8x512, .f32⟩
  | .hbm, ⟨20, _⟩ => ⟨S73728x8x512, .f32⟩
  | .hbm, ⟨21, _⟩ => ⟨S73728x8x512, .f32⟩
  | .hbm, ⟨22, _⟩ => ⟨S_, .f32⟩
  | .hbm, ⟨23, _⟩ => ⟨S73728x8x512, .f32⟩
  | .hbm, ⟨24, _⟩ => ⟨S73728x8x512, .f32⟩
  | .hbm, ⟨25, _⟩ => ⟨S_, .f32⟩
  | .hbm, ⟨26, _⟩ => ⟨S73728x8x512, .f32⟩
  | .hbm, ⟨27, _⟩ => ⟨S73728x8x512, .f32⟩
  | .hbm, ⟨28, _⟩ => ⟨S73728x8x512, .f32⟩
  | .hbm, ⟨29, _⟩ => ⟨S1x8x2048x512, .f32⟩
  | .hbm, ⟨30, _⟩ => ⟨S8x2048x512, .f32⟩
  | .hbm, ⟨31, _⟩ => ⟨S73728x8x512, .f32⟩
  | .hbm, ⟨32, _⟩ => ⟨S73728x8x512, .f32⟩
  | .hbm, ⟨33, _⟩ => ⟨S73728x1x8, .f32⟩
  | .hbm, ⟨34, _⟩ => ⟨S73728x8, .f32⟩
  | .hbm, ⟨35, _⟩ => ⟨S73728x8x1, .f32⟩
  | .hbm, ⟨36, _⟩ => ⟨S73728x8x512, .f32⟩
  | .hbm, ⟨37, _⟩ => ⟨S73728x8x512, .f32⟩
  | .hbm, ⟨38, _⟩ => ⟨S1x8x512x2048, .f32⟩
  | .hbm, ⟨39, _⟩ => ⟨S8x512x2048, .f32⟩
  | .hbm, ⟨40, _⟩ => ⟨S73728x2048, .f32⟩
  | .hbm, ⟨41, _⟩ => ⟨S73728x2048, .f32⟩
  | .hbm, ⟨42, _⟩ => ⟨S1x8x2048x512, .f32⟩
  | .hbm, ⟨43, _⟩ => ⟨S8x2048x512, .f32⟩
  | .hbm, ⟨44, _⟩ => ⟨S73728x8x512, .f32⟩
  | .hbm, ⟨45, _⟩ => ⟨S73728x8x512, .f32⟩
  | .hbm, ⟨46, _⟩ => ⟨S73728x8x512, .f32⟩
  | .hbm, ⟨47, _⟩ => ⟨S_, .f32⟩
  | .hbm, ⟨48, _⟩ => ⟨S73728x8x512, .f32⟩
  | .hbm, ⟨49, _⟩ => ⟨S73728x8x512, .f32⟩
  | .hbm, ⟨50, _⟩ => ⟨S_, .f32⟩
  | .hbm, ⟨51, _⟩ => ⟨S73728x8x512, .f32⟩
  | .hbm, ⟨52, _⟩ => ⟨S73728x8x512, .f32⟩
  | .hbm, ⟨53, _⟩ => ⟨S73728x8x512, .f32⟩
  | .hbm, ⟨54, _⟩ => ⟨S1x8x2048x512, .f32⟩
  | .hbm, ⟨55, _⟩ => ⟨S8x2048x512, .f32⟩
  | .hbm, ⟨56, _⟩ => ⟨S73728x8x512, .f32⟩
  | .hbm, ⟨57, _⟩ => ⟨S73728x8x512, .f32⟩
  | .hbm, ⟨58, _⟩ => ⟨S73728x1x8, .f32⟩
  | .hbm, ⟨59, _⟩ => ⟨S73728x8, .f32⟩
  | .hbm, ⟨60, _⟩ => ⟨S73728x8x1, .f32⟩
  | .hbm, ⟨61, _⟩ => ⟨S73728x8x512, .f32⟩
  | .hbm, ⟨62, _⟩ => ⟨S73728x8x512, .f32⟩
  | .hbm, ⟨63, _⟩ => ⟨S1x8x512x2048, .f32⟩
  | .hbm, ⟨64, _⟩ => ⟨S8x512x2048, .f32⟩
  | .hbm, ⟨65, _⟩ => ⟨S73728x2048, .f32⟩
  | .hbm, ⟨66, _⟩ => ⟨S73728x2048, .f32⟩
  | .hbm, ⟨67, _⟩ => ⟨S1x8x2048x512, .f32⟩
  | .hbm, ⟨68, _⟩ => ⟨S8x2048x512, .f32⟩
  | .hbm, ⟨69, _⟩ => ⟨S73728x8x512, .f32⟩
  | .hbm, ⟨70, _⟩ => ⟨S73728x8x512, .f32⟩
  | .hbm, ⟨71, _⟩ => ⟨S73728x8x512, .f32⟩
  | .hbm, ⟨72, _⟩ => ⟨S_, .f32⟩
  | .hbm, ⟨73, _⟩ => ⟨S73728x8x512, .f32⟩
  | .hbm, ⟨74, _⟩ => ⟨S73728x8x512, .f32⟩
  | .hbm, ⟨75, _⟩ => ⟨S_, .f32⟩
  | .hbm, ⟨76, _⟩ => ⟨S73728x8x512, .f32⟩
  | .hbm, ⟨77, _⟩ => ⟨S73728x8x512, .f32⟩
  | .hbm, ⟨78, _⟩ => ⟨S73728x8x512, .f32⟩
  | .hbm, ⟨79, _⟩ => ⟨S1x8x2048x512, .f32⟩
  | .hbm, ⟨80, _⟩ => ⟨S8x2048x512, .f32⟩
  | .hbm, ⟨81, _⟩ => ⟨S73728x8x512, .f32⟩
  | .hbm, ⟨82, _⟩ => ⟨S73728x8x512, .f32⟩
  | .hbm, ⟨83, _⟩ => ⟨S73728x1x8, .f32⟩
  | .hbm, ⟨84, _⟩ => ⟨S73728x8, .f32⟩
  | .hbm, ⟨85, _⟩ => ⟨S73728x8x1, .f32⟩
  | .hbm, ⟨86, _⟩ => ⟨S73728x8x512, .f32⟩
  | .hbm, ⟨87, _⟩ => ⟨S73728x8x512, .f32⟩
  | .hbm, ⟨88, _⟩ => ⟨S1x8x512x2048, .f32⟩
  | .hbm, ⟨89, _⟩ => ⟨S8x512x2048, .f32⟩
  | .hbm, ⟨90, _⟩ => ⟨S73728x2048, .f32⟩
  | .hbm, ⟨91, _⟩ => ⟨S73728x2048, .f32⟩
  | .hbm, ⟨92, _⟩ => ⟨S1x8x2048x512, .f32⟩
  | .hbm, ⟨93, _⟩ => ⟨S8x2048x512, .f32⟩
  | .hbm, ⟨94, _⟩ => ⟨S73728x8x512, .f32⟩
  | .hbm, ⟨95, _⟩ => ⟨S73728x8x512, .f32⟩
  | .hbm, ⟨96, _⟩ => ⟨S73728x8x512, .f32⟩
  | .hbm, ⟨97, _⟩ => ⟨S_, .f32⟩
  | .hbm, ⟨98, _⟩ => ⟨S73728x8x512, .f32⟩
  | .hbm, ⟨99, _⟩ => ⟨S73728x8x512, .f32⟩
  | .hbm, ⟨100, _⟩ => ⟨S_, .f32⟩
  | .hbm, ⟨101, _⟩ => ⟨S73728x8x512, .f32⟩
  | .hbm, ⟨102, _⟩ => ⟨S73728x8x512, .f32⟩
  | .hbm, ⟨103, _⟩ => ⟨S73728x8x512, .f32⟩
  | .hbm, ⟨104, _⟩ => ⟨S1x8x2048x512, .f32⟩
  | .hbm, ⟨105, _⟩ => ⟨S8x2048x512, .f32⟩
  | .hbm, ⟨106, _⟩ => ⟨S73728x8x512, .f32⟩
  | .hbm, ⟨107, _⟩ => ⟨S73728x8x512, .f32⟩
  | .hbm, ⟨108, _⟩ => ⟨S73728x1x8, .f32⟩
  | .hbm, ⟨109, _⟩ => ⟨S73728x8, .f32⟩
  | .hbm, ⟨110, _⟩ => ⟨S73728x8x1, .f32⟩
  | .hbm, ⟨111, _⟩ => ⟨S73728x8x512, .f32⟩
  | .hbm, ⟨112, _⟩ => ⟨S73728x8x512, .f32⟩
  | .hbm, ⟨113, _⟩ => ⟨S1x8x512x2048, .f32⟩
  | .hbm, ⟨114, _⟩ => ⟨S8x512x2048, .f32⟩
  | .hbm, ⟨115, _⟩ => ⟨S73728x2048, .f32⟩
  | .hbm, ⟨116, _⟩ => ⟨S73728x2048, .f32⟩
  | .hbm, ⟨117, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩

abbrev nD : Nat := 1
abbrev τ : Topo := Topo.v7x

variable {F : FTy → Type} [FloatOps F]
-- ==== Combine.lean ====
abbrev S32768x2048 : Shape := ⟨2, ![32768, 2048]⟩
abbrev S32768x128 : Shape := ⟨2, ![32768, 128]⟩
abbrev S1x2048 : Shape := ⟨2, ![1, 2048]⟩
abbrev S512x2048 : Shape := ⟨2, ![512, 2048]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x2048, .bf16⟩
  | .hbm, ⟨3, _⟩ => ⟨S32768x128, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768x2048 : Shape := ⟨2, ![32768, 2048]⟩
abbrev S32768x128 : Shape := ⟨2, ![32768, 128]⟩
abbrev S1x2048 : Shape := ⟨2, ![1, 2048]⟩
abbrev S32768x1 : Shape := ⟨2, ![32768, 1]⟩
abbrev S_ : Shape := ⟨0, ![]⟩
abbrev S32768 : Shape := ⟨1, ![32768]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S32768x2048, .bf16⟩
  | .hbm, ⟨3, _⟩ => ⟨S32768x128, .f32⟩
  | .hbm, ⟨4, _⟩ => ⟨S1x2048, .f32⟩
  | .hbm, ⟨5, _⟩ => ⟨S32768x1, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x1, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.SlcFacts.lean ====
/-
  The side conditions the selected branch's precondition states.
-/
module

public import proofs.«01_k».proof.Pre_finite_slc
public import Idealize.ShloMosaic.Lib.Affine
public import Idealize.ShloMosaic.Lib.Decide
public import Idealize.ShloMosaic.Lib.Exec

@[expose] public section

namespace Cert.SlcFacts

open Idealize.ShloMosaic Cert.Pre_finite_slc

/-- The relations of the shapes, each decided. -/
instance facts : Cert.Pre_finite_slc.Facts where
  bitsLt_bf16_f32 := by decide
  shapeCasts_S32768x128_S8x64x64x2x64 := by decide
  bcast_S_S8x64x64x2x64 := by decide
  reducesTo_S8x64x64x2x64_S8x64x64x2_d4 := by decide
  h_S_ := by decide
  slices_S32768x1536_S32768x1280_0_0 := by decide
  bcast_S_S32768x1280 := by decide
  reducesTo_S32768x1280_S_d0_1 := by decide
  bcast_S_S8x64x64x2 := by decide
  reducesTo_S8x64x64x2_S_d0_1_2_3 := by decide

end Cert.SlcFacts
-- ==== Proof.ExpertsTable.lean ====
/-
  The experts call: what the range of the expert table gives — the side condition of the frame at either instance.
-/
module

public import proofs.«01_k».proof.Proof.Gen.Experts.Frame
public import proofs.«01_k».proof.Proof.Gen.ExpertsIdeal.Frame
public import proofs.«01_k».proof.Proof.Gen.Pre_te_range
public import Idealize.ShloMosaic.Lib.ReduceAll
public import Idealize.ShloMosaic.Lib.Pointwise

@[expose] public section

set_option maxRecDepth 16384

noncomputable section

namespace Cert.ExpertsProof

open Idealize.ShloMosaic Idealize.ShloMosaic.TcCoe Idealize.SL.Sem

/-- A word that is at least 0 and below 32 as a signed number is below 32 as a natural number. -/
theorem word_range (w : BitVec 32) (h : IntOp.andi (IntOp.cmpi .sge w 0#32) (IntOp.cmpi .slt w 32#32) = 1#1) : w.toNat < 32 := by
  unfold IntOp.andi IntOp.cmpi at h
  dsimp only at h
  cases hb : (0#32).sle w
  · rw [hb] at h; cases hc : w.slt 32#32 <;> rw [hc] at h <;> exact absurd h (by decide)
  cases hc : w.slt 32#32
  · rw [hb, hc] at h; exact absurd h (by decide)
  rw [BitVec.sle_iff_toInt_le, show (0#32 : BitVec 32).toInt = 0 from rfl, BitVec.toInt_eq_toNat_cond] at hb
  rw [BitVec.slt_iff_toInt_lt, show (32#32 : BitVec 32).toInt = 32 from rfl, BitVec.toInt_eq_toNat_cond] at hc
  have := w.isLt
  split at hb <;> omega

/-- The precondition says that every word of the table is below 32. -/
theorem word_lt {F : FTy → Type} [FloatOps F] {te x wg wu wd}
    (h : Cert.Pre_te_range.fn (F := F) te x wg wu wd = fun _ => 1#1) (i : Fin 288) : (te (ix1 i)).toNat < 32 := by
  have h' := congrFun h (fun a => a.elim0)
  unfold Cert.Pre_te_range.fn at h'
  dsimp only at h'
  have := Host.reduce_andi_all (hu := Cert.Pre_te_range.Facts.h_S_) _ _ _ _ h' (ix1 i)
  pointwise at this
  exact word_range _ this

/-- The frame's side condition on the table of the kernel. -/
theorem ok {F : FTy → Type} [FloatOps F] (m : (ℓ : Loc Cert.Experts.nD Cert.Experts.τ Cert.Experts.sig) → Buf (Elt F) ℓ)
    (h : ∀ i : Fin 288, (m ((0 : Dev Cert.Experts.nD).tc.loc Cert.Experts.main_arg0) (ix1 i)).toNat < 32) : Cert.Experts.Gen.Ok m := by
  have hv : ∀ j : Cert.Experts.S288.Idx, (Cert.Experts.Gen.tbl m 0 j : BitVec 32).toNat < 32 := by
    intro j
    rw [show Cert.Experts.Gen.tbl m 0 = _ from Cert.Experts.Gen.V_main_arg0 m 0, show j = ix1 (j 0) from ?_]
    · exact h (j 0)
    · funext a; fin_cases a; rfl
  refine ⟨fun i => ⟨fun a => ?_, .inr (Affine.block_words_dvd (of_decide_eq_true rfl) (by decide))⟩,
    fun i => ⟨fun a => ?_, .inr (Affine.block_words_dvd (of_decide_eq_true rfl) (by decide))⟩⟩
  · have ht : (Cert.Experts.cc0_transform_1 Cert.Experts.Facts₀.k0_off1_inb Cert.Experts.Facts₀.numel1_S1 (Cert.Experts.Gen.tbl m) i) 0 < 32 := hv _
    fin_cases a
    · exact (Nat.mul_one _).trans_le ht
    · exact Nat.le_refl _
    · exact Nat.le_refl _
  · have ht : (Cert.Experts.cc0_transform_2 Cert.Experts.Facts₀.k0_off1_inb Cert.Experts.Facts₀.numel1_S1 (Cert.Experts.Gen.tbl m) i) 0 < 32 := hv _
    fin_cases a
    · exact (Nat.mul_one _).trans_le ht
    · exact Nat.le_refl _
    · exact Nat.le_refl _

/-- The frame's side condition on the table of the idealized kernel. -/
theorem okIdeal {F : FTy → Type} [FloatOps F] (m : (ℓ : Loc Cert.ExpertsIdeal.nD Cert.ExpertsIdeal.τ Cert.ExpertsIdeal.sig) → Buf (Elt F) ℓ)
    (h : ∀ i : Fin 288, (m ((0 : Dev Cert.ExpertsIdeal.nD).tc.loc Cert.ExpertsIdeal.main_arg0) (ix1 i)).toNat < 32) : Cert.ExpertsIdeal.Gen.Ok m := by
  have hv : ∀ j : Cert.ExpertsIdeal.S288.Idx, (Cert.ExpertsIdeal.Gen.tbl m 0 j : BitVec 32).toNat < 32 := by
    intro j
    rw [show Cert.ExpertsIdeal.Gen.tbl m 0 = _ from Cert.ExpertsIdeal.Gen.V_main_arg0 m 0, show j = ix1 (j 0) from ?_]
    · exact h (j 0)
    · funext a; fin_cases a; rfl
  refine ⟨fun i => ⟨fun a => ?_, .inr (Affine.block_words_dvd (of_decide_eq_true rfl) (by decide))⟩,
    fun i => ⟨fun a => ?_, .inr (Affine.block_words_dvd (of_decide_eq_true rfl) (by decide))⟩⟩
  · have ht : (Cert.ExpertsIdeal.cc0_transform_1 Cert.ExpertsIdeal.Facts₀.k0_off1_inb Cert.ExpertsIdeal.Facts₀.numel1_S1 (Cert.ExpertsIdeal.Gen.tbl m) i) 0 < 32 := hv _
    fin_cases a
    · exact (Nat.mul_one _).trans_le ht
    · exact Nat.le_refl _
    · exact Nat.le_refl _
  · have ht : (Cert.ExpertsIdeal.cc0_transform_2 Cert.ExpertsIdeal.Facts₀.k0_off1_inb Cert.ExpertsIdeal.Facts₀.numel1_S1 (Cert.ExpertsIdeal.Gen.tbl m) i) 0 < 32 := hv _
    fin_cases a
    · exact (Nat.mul_one _).trans_le ht
    · exact Nat.le_refl _
    · exact Nat.le_refl _

end Cert.ExpertsProof

end
-- ==== Proof.SwaOut.lean ====
/-
  A softmax with a sink: one row of scores, its largest, its normalizer and what it makes of a column of values.
-/
module

public import Idealize.ShloMosaic.PureOps.Ideal.Laws
public import Idealize.ShloMosaic.Lib.Pointwise

@[expose] public section

noncomputable section

namespace Cert.SwaProof

open Idealize.ShloMosaic

/-- The largest of a row of scores and of the sink. -/
def top {n : ℕ} (S : Fin n → EReal) (sk : EReal) : EReal := max (Finset.univ.fold max ⊥ S) sk

/-- The normalizer of a row of scores with the sink. -/
def norm {n : ℕ} (S : Fin n → EReal) (sk : EReal) : EReal := ∑ j, Ideal.exp (S j - top S sk) + Ideal.exp (sk - top S sk)

/-- The softmax of a row of scores with the sink, weighing a column of values. -/
def out {n : ℕ} (S : Fin n → EReal) (sk : EReal) (v : Fin n → EReal) : EReal :=
  ∑ k, Ideal.div (Ideal.exp (S k - top S sk)) (norm S sk) * v k

end Cert.SwaProof

end
-- ==== Proof.SwaHead.lean ====
/-
  The sliding-window call: one head of the tile, its scores and what the head makes of a column of values.
-/
module

public import proofs.«01_k».proof.Proof.SwaOut
public import proofs.«01_k».proof.Proof.Gen.SwaIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.SwaProof

open Idealize.ShloMosaic Idealize.ShloMosaic.TcCoe Idealize.SL.Sem
open Cert.SwaIdeal Cert.SwaIdeal.Gen

/-- A head's scores in the tile, those outside of the window hidden. -/
def scores (ok : IVec S128x256 1) (q : FVec Ideal S128x128 .bf16) (k : FVec Ideal S256x128 .bf16) (a : Fin 128) (j : Fin 256) : EReal :=
  if ok (ix2 a j) = 1#1 then ∑ d : Fin 128, q (ix2 a d) * k (ix2 j d) else ⊥

theorem head_at (ok : IVec S128x256 1) (k v : FVec Ideal S256x128 .bf16) (q : FVec Ideal S128x128 .bf16) (sk : Elt Ideal .f32) (a : Fin 128) (c : Fin 128) :
    k0_pay12 (F := Ideal) ok k v q sk (ix2 a c) = out (scores ok q k a) sk (fun j => v (ix2 j c)) := by
  unfold out norm top scores
  pointwise [k0_pay12]
  rw [show (Named.named κ "mask" 4048155338#32 : Ideal .f32) = (⊥ : EReal) from rfl, show Ideal.ofBits FTy.f32 4286578688#32 = (⊥ : EReal) from rfl]
  rfl

end Cert.SwaProof

end
-- ==== Proof.SwaHalves.lean ====
/-
  The sliding-window call: the two halves of the key and value rows, and the roll that brings the second group to the first lanes.
-/
module

public import proofs.«01_k».proof.Proof.SwaHead
public import proofs.«01_k».proof.Proof.Gen.SwaIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.SwaProof

open Idealize.ShloMosaic Idealize.ShloMosaic.TcCoe Idealize.SL.Sem
open Cert.SwaIdeal Cert.SwaIdeal.Gen

/-- Two tiles of 128 rows, one after the other. -/
def cat (p c : Vec Ideal S128x128 .bf16) (j : Fin 256) (d : Fin 128) : EReal :=
  if h : j.val < 128 then p (ix2 ⟨j.val, h⟩ d) else c (ix2 ⟨j.val - 128, by omega⟩ d)

/-- A half of the lanes holding a group's 64 columns, zeros in the other: the low half, -/
def Low (g : Fin 2) (K : Fin 256 → Fin 128 → EReal) (k : FVec Ideal S256x128 .bf16) : Prop :=
  ∀ (j : Fin 256) (d : Fin 128), k (ix2 j d) = if h : d.val < 64 then K j ⟨g.val * 64 + d.val, by omega⟩ else 0

/-- and the high half. -/
def High (g : Fin 2) (K : Fin 256 → Fin 128 → EReal) (k : FVec Ideal S256x128 .bf16) : Prop :=
  ∀ (j : Fin 256) (d : Fin 128), k (ix2 j d) = if h : d.val < 64 then 0 else K j ⟨g.val * 64 + (d.val - 64), by omega⟩

theorem cat_at (p c : Vec Ideal S128x128 .bf16) (j : Fin 256) (d : Fin 128) : k0_pay4 (F := Ideal) p c (ix2 j d) = cat p c j d := by
  unfold cat
  pointwise [k0_pay4]

theorem rot_at (p c : Vec Ideal S128x128 .bf16) (j : Fin 256) (d : Fin 128) : k0_pay6 (F := Ideal) p c (ix2 j d) = cat p c j ⟨(d.val + 64) % 128, by omega⟩ := by
  rw [← cat_at]
  pointwise [k0_pay6]
  congr 3

theorem lane (j : Fin 256) (d : Fin 128) : k0_pay3 (ix2 j d) = if d.val < 64 then 1#1 else 0#1 := by
  pointwise [k0_pay3]
  revert d
  decide

theorem lo0 (p c : Vec Ideal S128x128 .bf16) : Low 0 (cat p c) (k0_pay8 (F := Ideal) p c) := by
  intro j d
  pointwise [k0_pay8]
  rw [lane, cat_at]
  by_cases h : d.val < 64
  · rw [if_pos h, dif_pos h]
    exact congrArg (cat p c j) (Fin.ext rfl)
  · rw [if_neg h, dif_neg h]
    exact rfl

theorem hi0 (p c : Vec Ideal S128x128 .bf16) : High 0 (cat p c) (k0_pay9 (F := Ideal) p c) := by
  intro j d
  pointwise [k0_pay9]
  rw [lane, rot_at]
  by_cases h : d.val < 64
  · rw [if_pos h, dif_pos h]
    exact rfl
  · rw [if_neg h, dif_neg h]
    exact congrArg (cat p c j) (Fin.ext (by show (d.val + 64) % 128 = d.val - 64; omega))

theorem lo1 (p c : Vec Ideal S128x128 .bf16) : Low 1 (cat p c) (k0_pay31 (F := Ideal) k0_pay3 (k0_pay6 p c)) := by
  intro j d
  pointwise [k0_pay31]
  rw [lane, rot_at]
  by_cases h : d.val < 64
  · rw [if_pos h, dif_pos h]
    exact congrArg (cat p c j) (Fin.ext (by show (d.val + 64) % 128 = 1 * 64 + d.val; omega))
  · rw [if_neg h, dif_neg h]
    exact rfl

theorem hi1 (p c : Vec Ideal S128x128 .bf16) : High 1 (cat p c) (k0_pay32 (F := Ideal) k0_pay3 (k0_pay4 p c)) := by
  intro j d
  pointwise [k0_pay32]
  rw [lane, cat_at]
  by_cases h : d.val < 64
  · rw [if_pos h, dif_pos h]
    exact rfl
  · rw [if_neg h, dif_neg h]
    exact congrArg (cat p c j) (Fin.ext (by show d.val = 1 * 64 + (d.val - 64); omega))

end Cert.SwaProof

end
-- ==== Proof.SwaPair.lean ====
/-
  The sliding-window call: two heads of the tile, side by side in one store.
-/
module

public import proofs.«01_k».proof.Proof.SwaHalves
public import proofs.«01_k».proof.Proof.Gen.SwaIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.SwaProof

open Idealize.ShloMosaic Idealize.ShloMosaic.TcCoe Idealize.SL.Sem
open Cert.SwaIdeal Cert.SwaIdeal.Gen

/-- The values' halves are the same functions of their tiles. -/
theorem vlo0 (p c : Vec Ideal S128x128 .bf16) : Low 0 (cat p c) (k0_pay10 (F := Ideal) p c) := lo0 p c
theorem vhi0 (p c : Vec Ideal S128x128 .bf16) : High 0 (cat p c) (k0_pay11 (F := Ideal) k0_pay3 (k0_pay7 p c) (FloatOps.ofBits .f32 0#32)) := hi0 p c
theorem vlo1 (p c : Vec Ideal S128x128 .bf16) : Low 1 (cat p c) (k0_pay33 (F := Ideal) k0_pay3 (k0_pay7 p c)) := lo1 p c
theorem vhi1 (p c : Vec Ideal S128x128 .bf16) : High 1 (cat p c) (k0_pay34 (F := Ideal) k0_pay3 (k0_pay5 p c)) := hi1 p c

/-- A head's scores: the query row against the keys of the head's group. -/
def headScores (ok : IVec S128x256 1) (Q : Vec Ideal S128x1024 .bf16) (K : Fin 256 → Fin 128 → EReal) (a : Fin 128) (h : Fin 16) (j : Fin 256) : EReal :=
  if ok (ix2 a j) = 1#1 then ∑ d : Fin 64, Q (ix2 a ⟨h.val * 64 + d.val, by omega⟩) * K j ⟨h.val / 8 * 64 + d.val, by omega⟩ else ⊥

theorem sum_halves (f : Fin 128 → EReal) : ∑ d, f d = ∑ d : Fin 64, f ⟨d.val, by omega⟩ + ∑ d : Fin 64, f ⟨64 + d.val, by omega⟩ :=
  Fin.sum_univ_add (a := 64) (b := 64) f

theorem score_lo (ok : IVec S128x256 1) (Q : Vec Ideal S128x1024 .bf16) (K : Fin 256 → Fin 128 → EReal) (p : Fin 8) (g : Fin 2) (hg : g.val = p.val / 4)
    (q : FVec Ideal S128x128 .bf16) (hq : ∀ (a d : Fin 128), q (ix2 a d) = Q (ix2 a ⟨128 * p.val + d.val, by omega⟩))
    (k : FVec Ideal S256x128 .bf16) (hk : Low g K k) (a : Fin 128) :
    scores ok q k a = headScores ok Q K a ⟨2 * p.val, by omega⟩ := by
  funext j
  unfold scores headScores
  refine congrArg (fun x : EReal => if ok (ix2 a j) = 1#1 then x else ⊥) ?_
  rw [sum_halves, Finset.sum_eq_zero (f := fun d : Fin 64 => q (ix2 a ⟨64 + d.val, by omega⟩) * k (ix2 j ⟨64 + d.val, by omega⟩)), add_zero]
  · refine Finset.sum_congr rfl fun d _ => ?_
    rw [hq, hk, dif_pos d.isLt]
    refine congrArg₂ (fun x y : EReal => x * y) (congrArg (fun x => Q (ix2 a x)) (Fin.ext ?_)) (congrArg (K j) (Fin.ext ?_))
    · show 128 * p.val + d.val = 2 * p.val * 64 + d.val
      omega
    · show g.val * 64 + d.val = 2 * p.val / 8 * 64 + d.val
      omega
  · intro d _
    rw [hk, dif_neg (by show ¬ 64 + d.val < 64; omega), mul_zero]

theorem score_hi (ok : IVec S128x256 1) (Q : Vec Ideal S128x1024 .bf16) (K : Fin 256 → Fin 128 → EReal) (p : Fin 8) (g : Fin 2) (hg : g.val = p.val / 4)
    (q : FVec Ideal S128x128 .bf16) (hq : ∀ (a d : Fin 128), q (ix2 a d) = Q (ix2 a ⟨128 * p.val + d.val, by omega⟩))
    (k : FVec Ideal S256x128 .bf16) (hk : High g K k) (a : Fin 128) :
    scores ok q k a = headScores ok Q K a ⟨2 * p.val + 1, by omega⟩ := by
  funext j
  unfold scores headScores
  refine congrArg (fun x : EReal => if ok (ix2 a j) = 1#1 then x else ⊥) ?_
  rw [sum_halves, Finset.sum_eq_zero (f := fun d : Fin 64 => q (ix2 a ⟨d.val, by omega⟩) * k (ix2 j ⟨d.val, by omega⟩)), zero_add]
  · refine Finset.sum_congr rfl fun d _ => ?_
    rw [hq, hk, dif_neg (by show ¬ 64 + d.val < 64; omega)]
    refine congrArg₂ (fun x y : EReal => x * y) (congrArg (fun x => Q (ix2 a x)) (Fin.ext ?_)) (congrArg (K j) (Fin.ext ?_))
    · show 128 * p.val + (64 + d.val) = (2 * p.val + 1) * 64 + d.val
      omega
    · show g.val * 64 + (64 + d.val - 64) = (2 * p.val + 1) / 8 * 64 + d.val
      omega
  · intro d _
    rw [hk, dif_pos d.isLt, mul_zero]

/-- A head's output at one of its columns. -/
def headOut (ok : IVec S128x256 1) (Q : Vec Ideal S128x1024 .bf16) (K V : Fin 256 → Fin 128 → EReal) (sinks : Vec Ideal S16 .f32) (a : Fin 128) (col : Fin 1024) : EReal :=
  out (headScores ok Q K a ⟨col.val / 64, by omega⟩) (sinks (ix1 ⟨col.val / 64, by omega⟩)) (fun j => V j ⟨col.val / 512 * 64 + col.val % 64, by omega⟩)

/-- A sum whose values are zero is zero. -/
theorem out_zero {n : ℕ} (S : Fin n → EReal) (sk : EReal) (v : Fin n → EReal) (hv : ∀ j, v j = 0) : out S sk v = 0 :=
  Finset.sum_eq_zero fun j _ => by rw [hv j, mul_zero]

/-- A pair of heads: the two halves of the lanes, each head's values in its own half. -/
theorem pair_at (ok : IVec S128x256 1) (Q : Vec Ideal S128x1024 .bf16) (K V : Fin 256 → Fin 128 → EReal) (sinks : Vec Ideal S16 .f32) (p : Fin 8) (g : Fin 2) (hg : g.val = p.val / 4)
    (q : FVec Ideal S128x128 .bf16) (hq : ∀ (a d : Fin 128), q (ix2 a d) = Q (ix2 a ⟨128 * p.val + d.val, by omega⟩))
    (klo khi vlo vhi : FVec Ideal S256x128 .bf16) (hkl : Low g K klo) (hkh : High g K khi) (hvl : Low g V vlo) (hvh : High g V vhi)
    (s0 s1 : EReal) (h0 : s0 = sinks (ix1 ⟨2 * p.val, by omega⟩)) (h1 : s1 = sinks (ix1 ⟨2 * p.val + 1, by omega⟩))
    (a c : Fin 128) :
    truncf (F := Ideal) .bf16 (addf (k0_pay12 ok klo vlo q s0) (k0_pay12 ok khi vhi q s1)) bitsLt_bf16_f32 (ix2 a c)
      = headOut ok Q K V sinks a ⟨128 * p.val + c.val, by omega⟩ := by
  pointwise
  refine (congrArg₂ (fun x y : EReal => x + y) (head_at ok klo vlo q s0 a c) (head_at ok khi vhi q s1 a c)).trans ?_
  rw [score_lo ok Q K p g hg q hq klo hkl a, score_hi ok Q K p g hg q hq khi hkh a, h0, h1]
  unfold headOut
  by_cases h : c.val < 64
  · rw [out_zero (fun j => headScores ok Q K a ⟨2 * p.val + 1, by omega⟩ j) _ (fun j => vhi (ix2 j c)) (fun j => by rw [hvh, dif_pos h]), add_zero]
    have e : (⟨2 * p.val, by omega⟩ : Fin 16) = ⟨(128 * p.val + c.val) / 64, by omega⟩ := Fin.ext (by show 2 * p.val = (128 * p.val + c.val) / 64; omega)
    rw [e]
    refine congrArg (out _ _) (funext fun j => ?_)
    rw [hvl, dif_pos h]
    refine congrArg (V j) (Fin.ext ?_)
    show g.val * 64 + c.val = (128 * p.val + c.val) / 512 * 64 + (128 * p.val + c.val) % 64
    omega
  · rw [out_zero (fun j => headScores ok Q K a ⟨2 * p.val, by omega⟩ j) _ (fun j => vlo (ix2 j c)) (fun j => by rw [hvl, dif_neg h]), zero_add]
    have e : (⟨2 * p.val + 1, by omega⟩ : Fin 16) = ⟨(128 * p.val + c.val) / 64, by omega⟩ := Fin.ext (by show 2 * p.val + 1 = (128 * p.val + c.val) / 64; omega)
    rw [e]
    refine congrArg (out _ _) (funext fun j => ?_)
    rw [hvh, dif_neg h]
    refine congrArg (V j) (Fin.ext ?_)
    show g.val * 64 + (c.val - 64) = (128 * p.val + c.val) / 512 * 64 + (128 * p.val + c.val) % 64
    omega

end Cert.SwaProof

end
-- ==== Proof.SwaPieces.lean ====
/-
  The sliding-window call: the eight stores of a tile, and the tile's output at a row and a column.
-/
module

public import proofs.«01_k».proof.Proof.Gen.SwaIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise
public import proofs.«01_k».proof.Proof.SwaPair

@[expose] public section

set_option maxRecDepth 16384

noncomputable section

namespace Cert.SwaProof

open Idealize.ShloMosaic Idealize.ShloMosaic.TcCoe Idealize.SL.Sem
open Cert.SwaIdeal Cert.SwaIdeal.Gen

variable (m : (ℓ : Loc nD τ sig) → Buf (Elt Ideal) ℓ)

/-- A row's index from its coordinates. -/
theorem piece_idx (x : S128x128.Idx) : ∃ a c : Fin 128, x = ix2 a c := ⟨x 0, x 1, by funext b; fin_cases b <;> rfl⟩

theorem out_at (t : Fin cfg0.N) (a : Fin 128) (col : Fin 1024)  :
    @Eq EReal (outsAt0 m 0 t (ix2 a col : S128x1024.Idx)) (headOut (k0_pay2 (grid0.coords t)) (X0_1 m 0 t) (cat (iblk m 0 2 t) (iblk m 0 3 t)) (cat (iblk m 0 4 t) (iblk m 0 5 t)) (iblk m 0 0 t) a col) := by
  unfold outsAt0
  frame_out
  canon_tiles x h
  case piece0 =>
    obtain ⟨a', c', rfl⟩ := piece_idx x
    obtain rfl : a = a' := Fin.ext h0
    have hc : col = ⟨128 * (⟨7, by omega⟩ : Fin 8).val + c'.val, by omega⟩ := Fin.ext (h1.trans (by show _ = 128 * 7 + c'.val; first | rfl | exact (Nat.zero_add _).symm))
    rw [hc]
    exact pair_at _ (X0_1 m 0 t) _ _ (iblk m 0 0 t) 7 1 rfl _ (fun a d => by pointwise) _ _ _ _ (lo1 _ _) (hi1 _ _) (vlo1 _ _) (vhi1 _ _) _ _ (by pointwise) (by pointwise) a c'
  case piece1 =>
    obtain ⟨a', c', rfl⟩ := piece_idx x
    obtain rfl : a = a' := Fin.ext h0
    have hc : col = ⟨128 * (⟨6, by omega⟩ : Fin 8).val + c'.val, by omega⟩ := Fin.ext (h1.trans (by show _ = 128 * 6 + c'.val; first | rfl | exact (Nat.zero_add _).symm))
    rw [hc]
    exact pair_at _ (X0_1 m 0 t) _ _ (iblk m 0 0 t) 6 1 rfl _ (fun a d => by pointwise) _ _ _ _ (lo1 _ _) (hi1 _ _) (vlo1 _ _) (vhi1 _ _) _ _ (by pointwise) (by pointwise) a c'
  case piece2 =>
    obtain ⟨a', c', rfl⟩ := piece_idx x
    obtain rfl : a = a' := Fin.ext h0
    have hc : col = ⟨128 * (⟨5, by omega⟩ : Fin 8).val + c'.val, by omega⟩ := Fin.ext (h1.trans (by show _ = 128 * 5 + c'.val; first | rfl | exact (Nat.zero_add _).symm))
    rw [hc]
    exact pair_at _ (X0_1 m 0 t) _ _ (iblk m 0 0 t) 5 1 rfl _ (fun a d => by pointwise) _ _ _ _ (lo1 _ _) (hi1 _ _) (vlo1 _ _) (vhi1 _ _) _ _ (by pointwise) (by pointwise) a c'
  case piece3 =>
    obtain ⟨a', c', rfl⟩ := piece_idx x
    obtain rfl : a = a' := Fin.ext h0
    have hc : col = ⟨128 * (⟨4, by omega⟩ : Fin 8).val + c'.val, by omega⟩ := Fin.ext (h1.trans (by show _ = 128 * 4 + c'.val; first | rfl | exact (Nat.zero_add _).symm))
    rw [hc]
    exact pair_at _ (X0_1 m 0 t) _ _ (iblk m 0 0 t) 4 1 rfl _ (fun a d => by pointwise) _ _ _ _ (lo1 _ _) (hi1 _ _) (vlo1 _ _) (vhi1 _ _) _ _ (by pointwise) (by pointwise) a c'
  case piece4 =>
    obtain ⟨a', c', rfl⟩ := piece_idx x
    obtain rfl : a = a' := Fin.ext h0
    have hc : col = ⟨128 * (⟨3, by omega⟩ : Fin 8).val + c'.val, by omega⟩ := Fin.ext (h1.trans (by show _ = 128 * 3 + c'.val; first | rfl | exact (Nat.zero_add _).symm))
    rw [hc]
    exact pair_at _ (X0_1 m 0 t) _ _ (iblk m 0 0 t) 3 0 rfl _ (fun a d => by pointwise) _ _ _ _ (lo0 _ _) (hi0 _ _) (vlo0 _ _) (vhi0 _ _) _ _ (by pointwise) (by pointwise) a c'
  case piece5 =>
    obtain ⟨a', c', rfl⟩ := piece_idx x
    obtain rfl : a = a' := Fin.ext h0
    have hc : col = ⟨128 * (⟨2, by omega⟩ : Fin 8).val + c'.val, by omega⟩ := Fin.ext (h1.trans (by show _ = 128 * 2 + c'.val; first | rfl | exact (Nat.zero_add _).symm))
    rw [hc]
    exact pair_at _ (X0_1 m 0 t) _ _ (iblk m 0 0 t) 2 0 rfl _ (fun a d => by pointwise) _ _ _ _ (lo0 _ _) (hi0 _ _) (vlo0 _ _) (vhi0 _ _) _ _ (by pointwise) (by pointwise) a c'
  case piece6 =>
    obtain ⟨a', c', rfl⟩ := piece_idx x
    obtain rfl : a = a' := Fin.ext h0
    have hc : col = ⟨128 * (⟨1, by omega⟩ : Fin 8).val + c'.val, by omega⟩ := Fin.ext (h1.trans (by show _ = 128 * 1 + c'.val; first | rfl | exact (Nat.zero_add _).symm))
    rw [hc]
    exact pair_at _ (X0_1 m 0 t) _ _ (iblk m 0 0 t) 1 0 rfl _ (fun a d => by pointwise) _ _ _ _ (lo0 _ _) (hi0 _ _) (vlo0 _ _) (vhi0 _ _) _ _ (by pointwise) (by pointwise) a c'
  case piece7 =>
    obtain ⟨a', c', rfl⟩ := piece_idx x
    obtain rfl : a = a' := Fin.ext h0
    have hc : col = ⟨128 * (⟨0, by omega⟩ : Fin 8).val + c'.val, by omega⟩ := Fin.ext (h1.trans (by show _ = 128 * 0 + c'.val; first | rfl | exact (Nat.zero_add _).symm))
    rw [hc]
    exact pair_at _ (X0_1 m 0 t) _ _ (iblk m 0 0 t) 0 0 rfl _ (fun a d => by pointwise) _ _ _ _ (lo0 _ _) (hi0 _ _) (vlo0 _ _) (vhi0 _ _) _ _ (by pointwise) (by pointwise) a c'

end Cert.SwaProof

end
-- ==== Proof.SwaWords.lean ====
/-
  Words and the sliding window: the comparison of two positions.
-/
module

public import proofs.«01_k».proof.Proof.Gen.SwaRefIdeal.Read
public import Idealize.ShloMosaic.Lib.Pointwise

@[expose] public section

noncomputable section

namespace Cert.SwaWords

open Idealize.ShloMosaic

theorem and_one : ∀ x y : BitVec 1, IntOp.andi x y = 1#1 ↔ x = 1#1 ∧ y = 1#1 := by decide

theorem ofNat_toInt (x : ℕ) (hx : x < 65536) : (BitVec.ofNat 32 x).toInt = x := by
  rw [BitVec.toInt_eq_toNat_cond, BitVec.toNat_ofNat]
  split <;> omega

theorem sub_toInt (x y : ℕ) (hx : x < 65536) (hy : y < 65536) : (IntOp.subi (BitVec.ofNat 32 x) (BitVec.ofNat 32 y)).toInt = (x : ℤ) - y := by
  unfold IntOp.subi
  rw [BitVec.toInt_sub, ofNat_toInt x hx, ofNat_toInt y hy, Int.bmod_def]
  split <;> omega

theorem ofBool_one (b : Bool) : BitVec.ofBool b = 1#1 ↔ b = true := by cases b <;> decide

/-- The test on two positions' difference: at least zero and under 128. -/
theorem window_iff (x y : ℕ) (hx : x < 65536) (hy : y < 65536) :
    IntOp.andi (IntOp.cmpi .sge (IntOp.subi (BitVec.ofNat 32 x) (BitVec.ofNat 32 y)) 0#32) (IntOp.cmpi .slt (IntOp.subi (BitVec.ofNat 32 x) (BitVec.ofNat 32 y)) 128#32) = 1#1
      ↔ y ≤ x ∧ x < y + 128 := by
  rw [and_one]
  unfold IntOp.cmpi
  dsimp only
  rw [ofBool_one, ofBool_one, BitVec.sle_eq_decide, BitVec.slt_eq_decide, decide_eq_true_iff, decide_eq_true_iff, sub_toInt x y hx hy,
    show (0#32).toInt = 0 from rfl, show (128#32).toInt = 128 from rfl]
  omega

/-- The first tile of a batch has no keys before it. -/
theorem floor_iff (t j : ℕ) (ht : t < 65536) (hj : j < 65536) :
    IntOp.cmpi .sge (BitVec.ofNat 32 j) (Scalar.select (Scalar.cmpi .sgt (BitVec.ofNat 32 t) 0#32) 0#32 128#32) = 1#1 ↔ (t = 0 → 128 ≤ j) := by
  have hc : IntOp.cmpi .sgt (BitVec.ofNat 32 t) 0#32 = 1#1 ↔ t ≠ 0 := by
    unfold IntOp.cmpi
    dsimp only
    rw [ofBool_one, BitVec.slt_eq_decide, decide_eq_true_iff, ofNat_toInt t ht, show (0#32).toInt = 0 from rfl]
    omega
  have hs : (Scalar.select (Scalar.cmpi .sgt (BitVec.ofNat 32 t) 0#32) 0#32 128#32 : BitVec 32).toInt = if t = 0 then 128 else 0 := by
    by_cases h : t = 0
    · rw [if_pos h]
      exact congrArg BitVec.toInt (if_neg fun hh => hc.mp hh h)
    · rw [if_neg h]
      exact congrArg BitVec.toInt (if_pos (hc.mpr h))
  unfold IntOp.cmpi
  dsimp only
  rw [ofBool_one, BitVec.sle_eq_decide, decide_eq_true_iff, ofNat_toInt j hj, hs]
  split <;> omega

end Cert.SwaWords

end
-- ==== Proof.SwaBlocks.lean ====
/-
  The sliding-window call: the blocks the grid point reads and writes, and the window's mask, at an index of the arrays.
-/
module

public import proofs.«01_k».proof.Proof.Gen.SwaIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise
public import proofs.«01_k».proof.Proof.SwaPieces
public import proofs.«01_k».proof.Proof.SwaWords

@[expose] public section

set_option maxRecDepth 16384

noncomputable section

namespace Cert.SwaProof

open Idealize.ShloMosaic Idealize.ShloMosaic.TcCoe Idealize.SL.Sem
open Cert.SwaIdeal Cert.SwaIdeal.Gen

variable (m : (ℓ : Loc nD τ sig) → Buf (Elt Ideal) ℓ)

/-- The grid's second coordinate is the tile within the batch. -/
theorem coord1 : ∀ t : Fin cfg0.N, (grid0.coords t 1).val = t.val % 32 := (by decide +kernel : ∀ t : Fin grid0.N, (grid0.coords t 1).val = t.val % 32)

/-- The blocks of the windows at a grid point. -/
theorem idx1 : ∀ t : Fin cfg0.N, ∀ b : Fin 2, win0_1.index t b = (![t.val, 0] : Fin 2 → ℕ) b := (by decide +kernel : ∀ t : Fin grid0.N, ∀ b : Fin 2, win0_1.index t b = (![t.val, 0] : Fin 2 → ℕ) b)
theorem idx2 : ∀ t : Fin cfg0.N, ∀ b : Fin 2, win0_2.index t b = (![t.val - (if t.val % 32 = 0 then 0 else 1), 8] : Fin 2 → ℕ) b := (by decide +kernel : ∀ t : Fin grid0.N, ∀ b : Fin 2, win0_2.index t b = (![t.val - (if t.val % 32 = 0 then 0 else 1), 8] : Fin 2 → ℕ) b)
theorem idx3 : ∀ t : Fin cfg0.N, ∀ b : Fin 2, win0_3.index t b = (![t.val, 8] : Fin 2 → ℕ) b := (by decide +kernel : ∀ t : Fin grid0.N, ∀ b : Fin 2, win0_3.index t b = (![t.val, 8] : Fin 2 → ℕ) b)
theorem idx4 : ∀ t : Fin cfg0.N, ∀ b : Fin 2, win0_4.index t b = (![t.val - (if t.val % 32 = 0 then 0 else 1), 76] : Fin 2 → ℕ) b := (by decide +kernel : ∀ t : Fin grid0.N, ∀ b : Fin 2, win0_4.index t b = (![t.val - (if t.val % 32 = 0 then 0 else 1), 76] : Fin 2 → ℕ) b)
theorem idx5 : ∀ t : Fin cfg0.N, ∀ b : Fin 2, win0_5.index t b = (![t.val, 76] : Fin 2 → ℕ) b := (by decide +kernel : ∀ t : Fin grid0.N, ∀ b : Fin 2, win0_5.index t b = (![t.val, 76] : Fin 2 → ℕ) b)
theorem idx6 : ∀ t : Fin cfg0.N, ∀ b : Fin 2, win0_6.index t b = (![t.val, 0] : Fin 2 → ℕ) b := (by decide +kernel : ∀ t : Fin grid0.N, ∀ b : Fin 2, win0_6.index t b = (![t.val, 0] : Fin 2 → ℕ) b)

theorem ok_at (t : Fin cfg0.N) (a : Fin 128) (j : Fin 256) :
    k0_pay2 (grid0.coords t) (ix2 a j) = 1#1 ↔ (j.val ≤ 128 + a.val ∧ a.val < j.val ∧ (t.val % 32 = 0 → 128 ≤ j.val)) := by
  have e : k0_pay2 (grid0.coords t) (ix2 a j) = IntOp.andi (IntOp.andi (IntOp.cmpi .sge (IntOp.subi (BitVec.ofNat 32 (128 + a.val)) (BitVec.ofNat 32 j.val)) 0#32) (IntOp.cmpi .slt (IntOp.subi (BitVec.ofNat 32 (128 + a.val)) (BitVec.ofNat 32 j.val)) 128#32))
      (IntOp.cmpi .sge (BitVec.ofNat 32 j.val) (Scalar.select (Scalar.cmpi .sgt (BitVec.ofNat 32 (grid0.coords t 1).val) 0#32) 0#32 128#32)) := by
    rw [show BitVec.ofNat 32 (128 + a.val) = IntOp.addi 128#32 (BitVec.ofNat 32 a.val) from BitVec.ofNat_add 128 a.val]
    pointwise [k0_pay2]
  rw [e, Cert.SwaWords.and_one, Cert.SwaWords.window_iff _ _ (by omega) (by omega), coord1, Cert.SwaWords.floor_iff _ _ (by omega) (by omega)]
  omega

/-- The sinks' block is the sinks. -/
theorem sinks_at (t : Fin cfg0.N) (h : Fin 16) :
    @Eq EReal (iblk m 0 0 t (ix1 h : S16.Idx)) ((m (((0 : Dev nD) : Thread nD τ).loc main_arg0) : (⟨S16, .f32⟩ : BufTy).Contents (Elt Ideal)) (ix1 h)) := by
  refine (show _ = (V m 0 main_arg0 : (⟨S16, .f32⟩ : BufTy).Contents (Elt Ideal)) (((cfg0.win 0).rect t).emb (ix1 h : S16.Idx)) from rfl).trans ?_
  rw [V_main_arg0 m 0]
  refine congrArg (m (((0 : Dev nD) : Thread nD τ).loc main_arg0) : (⟨S16, .f32⟩ : BufTy).Contents (Elt Ideal)) ?_
  funext b
  apply Fin.ext
  refine (Pipeline.Window.rect_emb_val _ _ _ _).trans ?_
  fin_cases b
  exact (by omega : 0 * 16 + h.val = h.val)

/-- The block of queries at a grid point. -/
theorem q_at (t : Fin 256) (a : Fin 128) (k : Fin 1024) :
    @Eq EReal (X0_1 m 0 t (ix2 a k : S128x1024.Idx)) ((m (((0 : Dev nD) : Thread nD τ).loc main_arg1) : (⟨S32768x1152, .bf16⟩ : BufTy).Contents (Elt Ideal)) (ix2 ⟨t.val * 128 + a.val, by omega⟩ ⟨k.val, by omega⟩)) := by
  unfold X0_1 Pipeline.Window.fill
  rw [dif_pos (moved0_1 t _)]
  refine (show _ = (V m 0 main_arg1 : (⟨S32768x1152, .bf16⟩ : BufTy).Contents (Elt Ideal)) (((cfg0.win 1).rect t).emb _) from rfl).trans ?_
  rw [V_main_arg1 m 0]
  refine congrArg (m (((0 : Dev nD) : Thread nD τ).loc main_arg1) : (⟨S32768x1152, .bf16⟩ : BufTy).Contents (Elt Ideal)) ?_
  funext b
  apply Fin.ext
  refine (Pipeline.Window.rect_emb_val _ _ _ _).trans ?_
  rw [show (cfg0.win 1).index t b = (![t.val, 0] : Fin 2 → ℕ) b from idx1 t b, show (cfg0.win 1).size b = S128x1024.size b from rfl]
  fin_cases b
  · exact (by omega : t.val * 128 + a.val = t.val * 128 + a.val)
  · exact (by omega : 0 * 1024 + k.val = k.val)

/-- The block of keys before a grid point's rows. -/
theorem kp_at (t : Fin 256) (a : Fin 128) (k : Fin 128) :
    @Eq EReal (iblk m 0 2 t (ix2 a k : S128x128.Idx)) ((m (((0 : Dev nD) : Thread nD τ).loc main_arg1) : (⟨S32768x1152, .bf16⟩ : BufTy).Contents (Elt Ideal)) (ix2 ⟨(t.val - (if t.val % 32 = 0 then 0 else 1)) * 128 + a.val, by omega⟩ ⟨1024 + k.val, by omega⟩)) := by
  refine (show _ = (V m 0 main_arg1 : (⟨S32768x1152, .bf16⟩ : BufTy).Contents (Elt Ideal)) (((cfg0.win 2).rect t).emb (ix2 a k : S128x128.Idx)) from rfl).trans ?_
  rw [V_main_arg1 m 0]
  refine congrArg (m (((0 : Dev nD) : Thread nD τ).loc main_arg1) : (⟨S32768x1152, .bf16⟩ : BufTy).Contents (Elt Ideal)) ?_
  funext b
  apply Fin.ext
  refine (Pipeline.Window.rect_emb_val _ _ _ _).trans ?_
  rw [show (cfg0.win 2).index t b = (![t.val - (if t.val % 32 = 0 then 0 else 1), 8] : Fin 2 → ℕ) b from idx2 t b, show (cfg0.win 2).size b = S128x128.size b from rfl]
  fin_cases b
  · exact (by omega : (t.val - (if t.val % 32 = 0 then 0 else 1)) * 128 + a.val = (t.val - (if t.val % 32 = 0 then 0 else 1)) * 128 + a.val)
  · exact (by omega : 8 * 128 + k.val = 1024 + k.val)

/-- The block of keys of a grid point's rows. -/
theorem kc_at (t : Fin 256) (a : Fin 128) (k : Fin 128) :
    @Eq EReal (iblk m 0 3 t (ix2 a k : S128x128.Idx)) ((m (((0 : Dev nD) : Thread nD τ).loc main_arg1) : (⟨S32768x1152, .bf16⟩ : BufTy).Contents (Elt Ideal)) (ix2 ⟨(t.val) * 128 + a.val, by omega⟩ ⟨1024 + k.val, by omega⟩)) := by
  refine (show _ = (V m 0 main_arg1 : (⟨S32768x1152, .bf16⟩ : BufTy).Contents (Elt Ideal)) (((cfg0.win 3).rect t).emb (ix2 a k : S128x128.Idx)) from rfl).trans ?_
  rw [V_main_arg1 m 0]
  refine congrArg (m (((0 : Dev nD) : Thread nD τ).loc main_arg1) : (⟨S32768x1152, .bf16⟩ : BufTy).Contents (Elt Ideal)) ?_
  funext b
  apply Fin.ext
  refine (Pipeline.Window.rect_emb_val _ _ _ _).trans ?_
  rw [show (cfg0.win 3).index t b = (![t.val, 8] : Fin 2 → ℕ) b from idx3 t b, show (cfg0.win 3).size b = S128x128.size b from rfl]
  fin_cases b
  · exact (by omega : (t.val) * 128 + a.val = (t.val) * 128 + a.val)
  · exact (by omega : 8 * 128 + k.val = 1024 + k.val)

/-- The block of values before a grid point's rows. -/
theorem vp_at (t : Fin 256) (a : Fin 128) (k : Fin 128) :
    @Eq EReal (iblk m 0 4 t (ix2 a k : S128x128.Idx)) ((m (((0 : Dev nD) : Thread nD τ).loc main_arg2) : (⟨S32768x9856, .bf16⟩ : BufTy).Contents (Elt Ideal)) (ix2 ⟨(t.val - (if t.val % 32 = 0 then 0 else 1)) * 128 + a.val, by omega⟩ ⟨9728 + k.val, by omega⟩)) := by
  refine (show _ = (V m 0 main_arg2 : (⟨S32768x9856, .bf16⟩ : BufTy).Contents (Elt Ideal)) (((cfg0.win 4).rect t).emb (ix2 a k : S128x128.Idx)) from rfl).trans ?_
  rw [V_main_arg2 m 0]
  refine congrArg (m (((0 : Dev nD) : Thread nD τ).loc main_arg2) : (⟨S32768x9856, .bf16⟩ : BufTy).Contents (Elt Ideal)) ?_
  funext b
  apply Fin.ext
  refine (Pipeline.Window.rect_emb_val _ _ _ _).trans ?_
  rw [show (cfg0.win 4).index t b = (![t.val - (if t.val % 32 = 0 then 0 else 1), 76] : Fin 2 → ℕ) b from idx4 t b, show (cfg0.win 4).size b = S128x128.size b from rfl]
  fin_cases b
  · exact (by omega : (t.val - (if t.val % 32 = 0 then 0 else 1)) * 128 + a.val = (t.val - (if t.val % 32 = 0 then 0 else 1)) * 128 + a.val)
  · exact (by omega : 76 * 128 + k.val = 9728 + k.val)

/-- The block of values of a grid point's rows. -/
theorem vc_at (t : Fin 256) (a : Fin 128) (k : Fin 128) :
    @Eq EReal (iblk m 0 5 t (ix2 a k : S128x128.Idx)) ((m (((0 : Dev nD) : Thread nD τ).loc main_arg2) : (⟨S32768x9856, .bf16⟩ : BufTy).Contents (Elt Ideal)) (ix2 ⟨(t.val) * 128 + a.val, by omega⟩ ⟨9728 + k.val, by omega⟩)) := by
  refine (show _ = (V m 0 main_arg2 : (⟨S32768x9856, .bf16⟩ : BufTy).Contents (Elt Ideal)) (((cfg0.win 5).rect t).emb (ix2 a k : S128x128.Idx)) from rfl).trans ?_
  rw [V_main_arg2 m 0]
  refine congrArg (m (((0 : Dev nD) : Thread nD τ).loc main_arg2) : (⟨S32768x9856, .bf16⟩ : BufTy).Contents (Elt Ideal)) ?_
  funext b
  apply Fin.ext
  refine (Pipeline.Window.rect_emb_val _ _ _ _).trans ?_
  rw [show (cfg0.win 5).index t b = (![t.val, 76] : Fin 2 → ℕ) b from idx5 t b, show (cfg0.win 5).size b = S128x128.size b from rfl]
  fin_cases b
  · exact (by omega : (t.val) * 128 + a.val = (t.val) * 128 + a.val)
  · exact (by omega : 76 * 128 + k.val = 9728 + k.val)

/-- A result block's element in the array. -/
theorem y_at (t : Fin 256) (a : Fin 128) (d : Fin 1024) :
    @Eq S32768x1024.Idx (((cfg0.win 6).rect t).emb (ix2 a d : S128x1024.Idx)) (ix2 ⟨t.val * 128 + a.val, by omega⟩ d) := by
  funext b
  apply Fin.ext
  refine (Pipeline.Window.rect_emb_val _ _ _ _).trans ?_
  rw [show (cfg0.win 6).index t b = (![t.val, 0] : Fin 2 → ℕ) b from idx6 t b, show (cfg0.win 6).size b = S128x1024.size b from rfl]
  fin_cases b
  · exact (by omega : t.val * 128 + a.val = t.val * 128 + a.val)
  · exact (by omega : 0 * 1024 + d.val = d.val)

/-- Every block of the result is written back, one for each grid point. -/
theorem covers : (cfg0.win 6).Covers := by
  have n0 : (cfg0.win 6).nblk (0 : Fin 2) = grid0.N := by
    show (S32768x1024.size 0 + S128x1024.size 0 - 1) / S128x1024.size 0 = grid0.N
    decide
  have n1 : (cfg0.win 6).nblk (1 : Fin 2) = 1 := by
    show (S32768x1024.size 1 + S128x1024.size 1 - 1) / S128x1024.size 1 = 1
    decide
  refine ⟨fun a => ?_, fun β => ⟨⟨(β (0 : Fin 2)).val, (β (0 : Fin 2)).isLt.trans_eq n0⟩, flush0_6 _, fun a => ⟨?_, Or.inl rfl⟩⟩⟩
  · revert a
    exact (by decide : ∀ a : Fin 2, 0 < S128x1024.size a)
  refine (idx6 ⟨(β (0 : Fin 2)).val, (β (0 : Fin 2)).isLt.trans_eq n0⟩ a).trans ?_
  fin_cases a
  · rfl
  · exact (Nat.lt_one_iff.mp ((β (1 : Fin 2)).isLt.trans_eq n1)).symm

end Cert.SwaProof

end
-- ==== Proof.SwaWindow.lean ====
/-
  A softmax over a window of a row is the softmax over the whole row whose other scores are hidden.
-/
module

public import proofs.«01_k».proof.Proof.SwaOut

@[expose] public section

noncomputable section

namespace Cert.SwaProof

open Idealize.ShloMosaic

theorem exp_bot_sub (M : EReal) : Ideal.exp (⊥ - M) = 0 := by
  rw [EReal.bot_sub]; rfl

/-- A sum over the window's places is the sum over the row's, the other terms being zero. -/
theorem sum_window {n N : ℕ} (P : Fin n → Prop) [DecidablePred P] (P' : Fin N → Prop) [DecidablePred P'] (f : Fin n → Fin N)
    (hf : ∀ j, P j → P' (f j)) (hi : ∀ i j, P i → P j → f i = f j → i = j) (hs : ∀ k, P' k → ∃ j, P j ∧ f j = k)
    (A : Fin n → EReal) (B : Fin N → EReal) (hA : ∀ j, ¬ P j → A j = 0) (hB : ∀ k, ¬ P' k → B k = 0) (h : ∀ j, P j → A j = B (f j)) :
    ∑ j, A j = ∑ k, B k := by
  rw [← Finset.sum_filter_of_ne (p := P) (s := Finset.univ) (f := A) (fun j _ hj => by by_contra hc; exact hj (hA j hc)),
    ← Finset.sum_filter_of_ne (p := P') (s := Finset.univ) (f := B) (fun k _ hk => by by_contra hc; exact hk (hB k hc))]
  refine Finset.sum_nbij f ?_ ?_ ?_ ?_
  · intro j hj
    exact Finset.mem_filter.mpr ⟨Finset.mem_univ _, hf j (Finset.mem_filter.mp hj).2⟩
  · intro i hi' j hj e
    exact hi i j (Finset.mem_filter.mp hi').2 (Finset.mem_filter.mp hj).2 e
  · intro k hk
    obtain ⟨j, hj, e⟩ := hs k (Finset.mem_filter.mp hk).2
    exact ⟨j, Finset.mem_filter.mpr ⟨Finset.mem_univ _, hj⟩, e⟩
  · intro j hj
    exact h j (Finset.mem_filter.mp hj).2

/-- The largest score is in the window. -/
theorem max_window {n N : ℕ} (P : Fin n → Prop) (P' : Fin N → Prop) (f : Fin n → Fin N)
    (hs : ∀ k, P' k → ∃ j, P j ∧ f j = k)
    (A : Fin n → EReal) (B : Fin N → EReal) (hA : ∀ j, ¬ P j → A j = ⊥) (hB : ∀ k, ¬ P' k → B k = ⊥) (h : ∀ j, P j → A j = B (f j)) :
    Finset.univ.fold max ⊥ A = Finset.univ.fold max ⊥ B := by
  apply le_antisymm
  · refine (Finset.fold_max_le _).mpr ⟨bot_le, fun j _ => ?_⟩
    by_cases hj : P j
    · exact (Finset.le_fold_max _).mpr (Or.inr ⟨f j, Finset.mem_univ _, (h j hj).le⟩)
    · rw [hA j hj]; exact bot_le
  · refine (Finset.fold_max_le _).mpr ⟨bot_le, fun k _ => ?_⟩
    by_cases hk : P' k
    · obtain ⟨j, hj, rfl⟩ := hs k hk
      exact (Finset.le_fold_max _).mpr (Or.inr ⟨j, Finset.mem_univ _, (h j hj).ge⟩)
    · rw [hB k hk]; exact bot_le

theorem exp_nonneg (x : EReal) : 0 ≤ Ideal.exp x := by
  induction x using EReal.rec with
  | bot => exact le_refl _
  | coe r => exact EReal.coe_nonneg.mpr (Real.exp_pos r).le
  | top => exact le_top

/-- With a finite sink and scores below infinity, the normalizer is not zero. -/
theorem norm_ne_zero {n : ℕ} (S : Fin n → EReal) (sk : EReal) (hS : ∀ j, S j ≠ ⊤) (hb : sk ≠ ⊥) (ht : sk ≠ ⊤) : norm S sk ≠ 0 := by
  have h1 : top S sk ≠ ⊤ := by
    unfold top
    refine (max_lt ?_ ht.lt_top).ne
    exact (Finset.fold_max_lt _).mpr ⟨bot_lt_top, fun j _ => (hS j).lt_top⟩
  have h2 : top S sk ≠ ⊥ := (lt_of_lt_of_le hb.bot_lt (le_max_right _ _)).ne'
  have h3 : 0 < Ideal.exp (sk - top S sk) := by
    generalize top S sk = M at h1 h2
    lift M to ℝ using ⟨h1, h2⟩
    lift sk to ℝ using ⟨ht, hb⟩
    rw [← EReal.coe_sub]
    exact EReal.coe_pos.mpr (Real.exp_pos _)
  exact (lt_of_lt_of_le h3 (le_add_of_nonneg_left (Finset.sum_nonneg fun j _ => exp_nonneg _))).ne'

/-- A sum of products of finite numbers is below infinity. -/
theorem sum_ne_top {n : ℕ} (a b : Fin n → EReal) (ha : ∀ i, a i ≠ ⊥ ∧ a i ≠ ⊤) (hb : ∀ i, b i ≠ ⊥ ∧ b i ≠ ⊤) : ∑ i, a i * b i ≠ ⊤ := by
  refine Finset.sum_induction (fun i => a i * b i) (fun x => x ≠ ⊤) (fun x y hx hy => EReal.add_ne_top hx hy) EReal.zero_ne_top ?_
  intro i _
  obtain ⟨h1, h2⟩ := ha i
  obtain ⟨h3, h4⟩ := hb i
  generalize a i = x at h1 h2
  generalize b i = y at h3 h4
  lift x to ℝ using ⟨h2, h1⟩
  lift y to ℝ using ⟨h4, h3⟩
  rw [← EReal.coe_mul]
  exact EReal.coe_ne_top _

/-- THE WINDOW: what the softmax over the window makes is what the softmax over the whole row makes. -/
theorem out_window {n N : ℕ} (P : Fin n → Prop) [DecidablePred P] (P' : Fin N → Prop) [DecidablePred P'] (f : Fin n → Fin N)
    (hf : ∀ j, P j → P' (f j)) (hi : ∀ i j, P i → P j → f i = f j → i = j) (hs : ∀ k, P' k → ∃ j, P j ∧ f j = k)
    (S : Fin n → EReal) (T : Fin N → EReal) (sk : EReal) (v : Fin n → EReal) (w : Fin N → EReal)
    (hS : ∀ j, ¬ P j → S j = ⊥) (hT : ∀ k, ¬ P' k → T k = ⊥) (h : ∀ j, P j → S j = T (f j)) (hv : ∀ j, P j → v j = w (f j))
    (hn : norm S sk ≠ 0) : out S sk v = out T sk w := by
  have e1 : top S sk = top T sk := congrArg (fun x => max x sk) (max_window P P' f hs S T hS hT h)
  have e2 : norm S sk = norm T sk := by
    unfold norm
    rw [e1]
    refine congrArg (fun x : EReal => x + Ideal.exp (sk - top T sk)) ?_
    refine sum_window P P' f hf hi hs _ _ (fun j hj => ?_) (fun k hk => ?_) (fun j hj => ?_)
    · rw [hS j hj, exp_bot_sub]
    · rw [hT k hk, exp_bot_sub]
    · rw [h j hj]
  unfold out
  rw [e1, ← e2]
  refine sum_window P P' f hf hi hs _ _ (fun j hj => ?_) (fun k hk => ?_) (fun j hj => ?_)
  · rw [hS j hj, exp_bot_sub, Ideal.zero_div hn, zero_mul]
  · rw [hT k hk, exp_bot_sub, Ideal.zero_div hn, zero_mul]
  · rw [h j hj, hv j hj]

end Cert.SwaProof

end
-- ==== Proof.SwaReference.lean ====
/-
  The sliding-window call's reference at a row and a column.
-/
module

public import proofs.«01_k».proof.Proof.SwaOut
public import proofs.«01_k».proof.Proof.SwaWords
public import proofs.«01_k».proof.Proof.Gen.SwaRefIdeal.Read
public import Idealize.ShloMosaic.Lib.Pointwise

@[expose] public section

set_option maxRecDepth 16384

noncomputable section

namespace Cert.SwaRefProof

open Idealize.ShloMosaic Idealize.ShloMosaic.TcCoe Idealize.SL.Sem
open Cert.SwaRefIdeal Cert.SwaRefIdeal.Gen Cert.SwaRefIdeal.Read

variable (x0 : (⟨S16, .f32⟩ : BufTy).Contents (Elt Ideal)) (x1 : (⟨S32768x1152, .bf16⟩ : BufTy).Contents (Elt Ideal)) (x2 : (⟨S32768x9856, .bf16⟩ : BufTy).Contents (Elt Ideal))

/-- A query's product with a key. -/
def dot (b : Fin 8) (g : Fin 2) (h : Fin 8) (q k : Fin 4096) : EReal :=
  ∑ d : Fin 64, x1 (ix2 ⟨b.val * 4096 + q.val, by omega⟩ ⟨(g.val * 8 + h.val) * 64 + d.val, by omega⟩)
    * x1 (ix2 ⟨b.val * 4096 + k.val, by omega⟩ ⟨1024 + (g.val * 64 + d.val), by omega⟩)

/-- A query's scores over the keys of its batch, those outside of the window hidden. -/
def row (b : Fin 8) (g : Fin 2) (h : Fin 8) (q k : Fin 4096) : EReal :=
  if k.val ≤ q.val ∧ q.val < k.val + 128 then dot x1 b g h q k else ⊥

theorem dot_at (b : Fin 8) (g : Fin 2) (h : Fin 8) (q k : Fin 4096) : val_main_v10 (F := Ideal) x1 (ix5 b g h q k) = dot x1 b g h q k := by
  unfold dot
  pointwise [val_main_v10, val_main_v9, val_main_v5, val_main_v4, val_main_v3, val_main_v2, val_main_v1, val_main_v0]
  refine Finset.sum_congr rfl fun d _ => (mul_comm _ _).trans ?_
  refine congrArg (fun c => x1 (ix2 _ c) * _) (Fin.ext ?_)
  show g.val * 512 + h.val * 64 + d.val = (g.val * 8 + h.val) * 64 + d.val
  omega

theorem mask_at (q k : Fin 4096) : val_main_v21 (F := Ideal) (ix2 q k) = 1#1 ↔ k.val ≤ q.val ∧ q.val < k.val + 128 := by
  rw [← Cert.SwaWords.window_iff q.val k.val (by omega) (by omega)]
  pointwise [val_main_v21, val_main_v20, val_main_v19, val_main_v18, val_main_v17, val_main_v16, val_main_v15, val_main_v14, val_main_v13, val_main_v12, val_main_v11, val_main_c, val_main_c_0]

theorem row_at (b : Fin 8) (g : Fin 2) (h : Fin 8) (q k : Fin 4096) : val_main_v22 (F := Ideal) x1 (ix5 b g h q k) = row x1 b g h q k := by
  unfold row
  pointwise [val_main_v22, val_main_call0_v2, val_main_call0_v1, val_main_call0_v0, val_main_cst, dot_at]
  unfold Scalar.select
  refine if_congr (mask_at q k) rfl rfl

theorem max_at (b : Fin 8) (g : Fin 2) (h : Fin 8) (q : Fin 4096) : val_main_v25 (F := Ideal) x1 (ix4 b g h q) = Finset.univ.fold max ⊥ (row x1 b g h q) := by
  pointwise [val_main_v25, val_main_cst_1]
  refine congrArg₂ (fun z f => Finset.univ.fold max z f) rfl (funext fun k => row_at x1 b g h q k)

theorem sink_at (b : Fin 8) (g : Fin 2) (h : Fin 8) (q : Fin 4096) (z : Fin 1) : val_main_v27 (F := Ideal) x0 (ix5 b g h q z) = x0 (ix1 ⟨g.val * 8 + h.val, by omega⟩) := by
  pointwise [val_main_v27, val_main_v24, val_main_v23]

theorem maximumf_eq (a b : EReal) : (FloatOps.maximumf (F := Ideal) (φ := .f32) a b : EReal) = max a b := rfl
theorem top_def : (fun (S : Fin 4096 → EReal) (sk : EReal) => max (Finset.univ.fold max ⊥ S) sk) = Cert.SwaProof.top := rfl

theorem top_at (b : Fin 8) (g : Fin 2) (h : Fin 8) (q : Fin 4096) (z : Fin 1) :
    val_main_v28 (F := Ideal) x0 x1 (ix5 b g h q z) = Cert.SwaProof.top (row x1 b g h q) (x0 (ix1 ⟨g.val * 8 + h.val, by omega⟩)) := by
  have e : val_main_v26 (F := Ideal) x1 (ix5 b g h q z) = val_main_v25 (F := Ideal) x1 (ix4 b g h q) := by pointwise [val_main_v26]
  rw [val_main_v28_apply, e, max_at, sink_at, maximumf_eq]
  exact congrFun (congrFun top_def _) _

theorem exp_at (b : Fin 8) (g : Fin 2) (h : Fin 8) (q k : Fin 4096) :
    val_main_v31 (F := Ideal) x0 x1 (ix5 b g h q k) = Ideal.exp (row x1 b g h q k - Cert.SwaProof.top (row x1 b g h q) (x0 (ix1 ⟨g.val * 8 + h.val, by omega⟩))) := by
  pointwise [val_main_v31, val_main_v30, val_main_v29, top_at, row_at]

theorem norm_at (b : Fin 8) (g : Fin 2) (h : Fin 8) (q : Fin 4096) (z : Fin 1) :
    val_main_v37 (F := Ideal) x0 x1 (ix5 b g h q z) = Cert.SwaProof.norm (row x1 b g h q) (x0 (ix1 ⟨g.val * 8 + h.val, by omega⟩)) := by
  unfold Cert.SwaProof.norm
  pointwise [val_main_v37, val_main_v36, val_main_v35, val_main_v34, val_main_v33, val_main_v32, val_main_cst_2, exp_at, top_at, val_main_v24, val_main_v23]

/-- THE REFERENCE AT A ROW AND A COLUMN: the head's softmax over the keys of the batch. -/
theorem ref_at (r : Fin 32768) (c : Fin 1024) :
    val_main_v43 (F := Ideal) x0 x1 x2 (ix2 r c) = Cert.SwaProof.out (row x1 ⟨r.val / 4096, by omega⟩ ⟨c.val / 512, by omega⟩ ⟨c.val / 64 % 8, by omega⟩ ⟨r.val % 4096, by omega⟩)
      (x0 (ix1 ⟨c.val / 64, by omega⟩)) (fun k => x2 (ix2 ⟨r.val / 4096 * 4096 + k.val, by omega⟩ ⟨9728 + (c.val / 512 * 64 + c.val % 64), by omega⟩)) := by
  unfold Cert.SwaProof.out
  pointwise [val_main_v43, val_main_v42, val_main_v41, val_main_v40, val_main_v39, val_main_v38, val_main_v8, val_main_v7, val_main_v6, norm_at, exp_at]
  have e : (⟨c.val / 512 * 8 + c.val / 64 % 8, by omega⟩ : Fin 16) = ⟨c.val / 64, by omega⟩ := Fin.ext (by show c.val / 512 * 8 + c.val / 64 % 8 = c.val / 64; omega)
  refine Finset.sum_congr rfl fun k _ => (mul_comm _ _).trans ?_
  exact congrArg (fun s : Fin 16 => Ideal.div (Ideal.exp ((row x1 ⟨r.val / 4096, by omega⟩ ⟨c.val / 512, by omega⟩ ⟨c.val / 64 % 8, by omega⟩ ⟨r.val % 4096, by omega⟩) k - Cert.SwaProof.top (row x1 ⟨r.val / 4096, by omega⟩ ⟨c.val / 512, by omega⟩ ⟨c.val / 64 % 8, by omega⟩ ⟨r.val % 4096, by omega⟩) (x0 (ix1 s)))) (Cert.SwaProof.norm (row x1 ⟨r.val / 4096, by omega⟩ ⟨c.val / 512, by omega⟩ ⟨c.val / 64 % 8, by omega⟩ ⟨r.val % 4096, by omega⟩) (x0 (ix1 s))) * x2 (ix2 ⟨r.val / 4096 * 4096 + k.val, by omega⟩ ⟨9728 + (c.val / 512 * 64 + c.val % 64), by omega⟩)) e

end Cert.SwaRefProof

end
-- ==== Proof.SwaFinite.lean ====
/-
  What the finiteness of the sinks and of the queries and keys says of their elements.
-/
module

public import proofs.«01_k».proof.Proof.Gen.Pre_finite_swa
public import Idealize.ShloMosaic.Lib.ReduceAll
public import Idealize.ShloMosaic.Lib.Pointwise

@[expose] public section

set_option maxRecDepth 16384

noncomputable section

namespace Cert.SwaProof

open Idealize.ShloMosaic

/-- A number whose absolute value is below infinity is neither of the infinities. -/
theorem abs_lt (x : EReal) (h : BitVec.ofBool (decide (max x (-x) < ⊤)) = 1#1) : x ≠ ⊥ ∧ x ≠ ⊤ := by
  have hh : max x (-x) < ⊤ := by
    by_contra hh
    rw [decide_eq_false hh] at h
    exact absurd h (by decide)
  constructor
  · rintro rfl
    exact absurd hh (by simp)
  · rintro rfl
    exact absurd hh (by simp)

/-- The precondition at an element: no sink, no query and no key is infinite. -/
theorem finite {x0 x1 x2} (h : Cert.Pre_finite_swa.fn (F := Ideal) x0 x1 x2 = fun _ => 1#1) :
    (∀ i : Fin 16, (x0 (ix1 i) : EReal) ≠ ⊥ ∧ (x0 (ix1 i) : EReal) ≠ ⊤) ∧ ∀ (i : Fin 32768) (j : Fin 1152), (x1 (ix2 i j) : EReal) ≠ ⊥ ∧ (x1 (ix2 i j) : EReal) ≠ ⊤ := by
  have h' := congrFun h (fun a => a.elim0)
  unfold Cert.Pre_finite_swa.fn at h'
  dsimp only at h'
  have h2 := (by decide : ∀ x y : BitVec 1, IntOp.andi x y = 1#1 → x = 1#1 ∧ y = 1#1) _ _ h'
  constructor
  · intro i
    have := Host.reduce_andi_all (hu := Cert.Pre_finite_swa.Facts.h_S_) _ _ _ _ h2.1 (ix1 i)
    pointwise at this
    rw [show Ideal.ofBits FTy.f32 2139095040#32 = (⊤ : EReal) from rfl] at this
    exact abs_lt _ this
  · intro i j
    have := Host.reduce_andi_all (hu := Cert.Pre_finite_swa.Facts.h_S_) _ _ _ _ h2.2 (ix2 i j)
    pointwise at this
    rw [show Ideal.ofBits FTy.bf16 32640#16 = (⊤ : EReal) from rfl] at this
    exact abs_lt _ this

end Cert.SwaProof

end
-- ==== Proof.SwaValue.lean ====
/-
  The sliding-window call's value: the array the kernel leaves is the reference's.
-/
module

public import proofs.«01_k».proof.Proof.SwaBlocks
public import proofs.«01_k».proof.Proof.SwaWindow
public import proofs.«01_k».proof.Proof.SwaReference
public import proofs.«01_k».proof.Proof.SwaFinite

@[expose] public section

set_option maxRecDepth 16384

noncomputable section

namespace Cert.SwaProof

open Idealize.ShloMosaic Idealize.ShloMosaic.TcCoe Idealize.SL.Sem
open Cert.SwaIdeal Cert.SwaIdeal.Gen

variable (m : (ℓ : Loc nD τ sig) → Buf (Elt Ideal) ℓ)

/-- The arguments as arrays. -/
abbrev arr0 : (⟨S16, .f32⟩ : BufTy).Contents (Elt Ideal) := m (((0 : Dev nD) : Thread nD τ).loc main_arg0)
abbrev arr1 : (⟨S32768x1152, .bf16⟩ : BufTy).Contents (Elt Ideal) := m (((0 : Dev nD) : Thread nD τ).loc main_arg1)
abbrev arr2 : (⟨S32768x9856, .bf16⟩ : BufTy).Contents (Elt Ideal) := m (((0 : Dev nD) : Thread nD τ).loc main_arg2)

/-- The position in its batch of a row of the two tiles before the mask's reach; rows before the batch are position 0. -/
def pos (t : Fin 256) (j : Fin 256) : Fin 4096 := ⟨t.val % 32 * 128 + j.val - 128, by omega⟩

/-- The rows in the window of a tile's row. -/
abbrev near (t : Fin 256) (a : Fin 128) (j : Fin 256) : Prop := j.val ≤ 128 + a.val ∧ a.val < j.val ∧ (t.val % 32 = 0 → 128 ≤ j.val)

/-- The key rows of a grid point are rows of the array. -/
theorem key_at (t : Fin 256) (a : Fin 128) (j : Fin 256) (d : Fin 128) (h : near t a j) :
    cat (iblk m 0 2 t) (iblk m 0 3 t) j d = arr1 m (ix2 ⟨t.val / 32 * 4096 + (pos t j).val, by omega⟩ ⟨1024 + d.val, by omega⟩) := by
  unfold cat
  split
  · rename_i hj
    refine (kp_at m t ⟨j.val, hj⟩ d).trans (congrArg (fun r : Fin 32768 => arr1 m (ix2 r ⟨1024 + d.val, by omega⟩)) (Fin.ext ?_))
    show (t.val - (if t.val % 32 = 0 then 0 else 1)) * 128 + j.val = t.val / 32 * 4096 + (t.val % 32 * 128 + j.val - 128)
    obtain ⟨_, _, h3⟩ := h
    split <;> omega
  · rename_i hj
    refine (kc_at m t ⟨j.val - 128, by omega⟩ d).trans (congrArg (fun r : Fin 32768 => arr1 m (ix2 r ⟨1024 + d.val, by omega⟩)) (Fin.ext ?_))
    show t.val * 128 + (j.val - 128) = t.val / 32 * 4096 + (t.val % 32 * 128 + j.val - 128)
    omega

/-- The value rows of a grid point are rows of the array. -/
theorem value_at (t : Fin 256) (a : Fin 128) (j : Fin 256) (d : Fin 128) (h : near t a j) :
    cat (iblk m 0 4 t) (iblk m 0 5 t) j d = arr2 m (ix2 ⟨t.val / 32 * 4096 + (pos t j).val, by omega⟩ ⟨9728 + d.val, by omega⟩) := by
  unfold cat
  split
  · rename_i hj
    refine (vp_at m t ⟨j.val, hj⟩ d).trans (congrArg (fun r : Fin 32768 => arr2 m (ix2 r ⟨9728 + d.val, by omega⟩)) (Fin.ext ?_))
    show (t.val - (if t.val % 32 = 0 then 0 else 1)) * 128 + j.val = t.val / 32 * 4096 + (t.val % 32 * 128 + j.val - 128)
    obtain ⟨_, _, h3⟩ := h
    split <;> omega
  · rename_i hj
    refine (vc_at m t ⟨j.val - 128, by omega⟩ d).trans (congrArg (fun r : Fin 32768 => arr2 m (ix2 r ⟨9728 + d.val, by omega⟩)) (Fin.ext ?_))
    show t.val * 128 + (j.val - 128) = t.val / 32 * 4096 + (t.val % 32 * 128 + j.val - 128)
    omega

/-- The score of a row in the window is the reference's. -/
theorem score_at (t : Fin 256) (a : Fin 128) (h : Fin 16) (j : Fin 256) (hj : near t a j) :
    headScores (k0_pay2 (grid0.coords t)) (X0_1 m 0 t) (cat (iblk m 0 2 t) (iblk m 0 3 t)) a h j
      = Cert.SwaRefProof.dot (arr1 m) ⟨t.val / 32, by omega⟩ ⟨h.val / 8, by omega⟩ ⟨h.val % 8, by omega⟩ ⟨t.val % 32 * 128 + a.val, by omega⟩ (pos t j) := by
  unfold headScores Cert.SwaRefProof.dot
  rw [if_pos ((ok_at t a j).mpr hj)]
  refine Finset.sum_congr rfl fun d _ => ?_
  rw [q_at, key_at m t a j _ hj]
  refine congr (congrArg (fun x y : EReal => x * y) (congrArg (arr1 m) ?_)) (congrArg (arr1 m) ?_)
  · exact congr (congrArg ix2 (Fin.ext (by show t.val * 128 + a.val = t.val / 32 * 4096 + (t.val % 32 * 128 + a.val); omega)))
      (Fin.ext (by show h.val * 64 + d.val = (h.val / 8 * 8 + h.val % 8) * 64 + d.val; omega))
  · rfl

/-- A tile's output at a row and a column is the reference's. -/
theorem point (hp : Cert.Pre_finite_swa.fn (F := Ideal) (arr0 m) (arr1 m) (arr2 m) = fun _ => 1#1) (t : Fin 256) (a : Fin 128) (col : Fin 1024) :
    headOut (k0_pay2 (grid0.coords t)) (X0_1 m 0 t) (cat (iblk m 0 2 t) (iblk m 0 3 t)) (cat (iblk m 0 4 t) (iblk m 0 5 t)) (iblk m 0 0 t) a col
      = Cert.SwaRefIdeal.Read.val_main_v43 (F := Ideal) (arr0 m) (arr1 m) (arr2 m) (ix2 ⟨t.val * 128 + a.val, by omega⟩ col) := by
  obtain ⟨f0, f1⟩ := finite hp
  have eb : (⟨(t.val * 128 + a.val) / 4096, by omega⟩ : Fin 8) = ⟨t.val / 32, by omega⟩ := Fin.ext (by show (t.val * 128 + a.val) / 4096 = t.val / 32; omega)
  have eq : (⟨(t.val * 128 + a.val) % 4096, by omega⟩ : Fin 4096) = ⟨t.val % 32 * 128 + a.val, by omega⟩ :=
    Fin.ext (by show (t.val * 128 + a.val) % 4096 = t.val % 32 * 128 + a.val; omega)
  refine Eq.trans ?_ (Cert.SwaRefProof.ref_at (arr0 m) (arr1 m) (arr2 m) ⟨t.val * 128 + a.val, by omega⟩ col).symm
  unfold headOut
  refine Eq.trans (congrArg (fun s : EReal => out _ s _) (sinks_at m t _)) ?_
  refine out_window (near t a) (fun k : Fin 4096 => k.val ≤ t.val % 32 * 128 + a.val ∧ t.val % 32 * 128 + a.val < k.val + 128) (pos t) ?_ ?_ ?_ _ _ _ _ _ ?_ ?_ ?_ ?_ ?_
  · rintro j ⟨h1, h2, h3⟩
    show t.val % 32 * 128 + j.val - 128 ≤ t.val % 32 * 128 + a.val ∧ t.val % 32 * 128 + a.val < t.val % 32 * 128 + j.val - 128 + 128
    omega
  · rintro i j ⟨_, _, hi⟩ ⟨_, _, hj⟩ h
    have h' : t.val % 32 * 128 + i.val - 128 = t.val % 32 * 128 + j.val - 128 := congrArg Fin.val h
    exact Fin.ext (by omega)
  · rintro k ⟨h1, h2⟩
    refine ⟨⟨k.val + 128 - t.val % 32 * 128, by omega⟩, ⟨?_, ?_, ?_⟩, Fin.ext ?_⟩
    · show k.val + 128 - t.val % 32 * 128 ≤ 128 + a.val
      omega
    · show a.val < k.val + 128 - t.val % 32 * 128
      omega
    · intro h0
      show 128 ≤ k.val + 128 - t.val % 32 * 128
      omega
    · show t.val % 32 * 128 + (k.val + 128 - t.val % 32 * 128) - 128 = k.val
      omega
  · intro j hj
    unfold headScores
    exact if_neg (fun h => hj ((ok_at t a j).mp h))
  · intro k hk
    rw [eb, eq]
    exact if_neg hk
  · intro j hj
    rw [eb, eq, score_at m t a _ j hj]
    refine Eq.trans ?_ (if_pos ?_).symm
    · refine congr (congrFun (congr (congrArg (Cert.SwaRefProof.dot (arr1 m) ⟨t.val / 32, by omega⟩) (Fin.ext ?_)) (Fin.ext ?_)) _) rfl
      · show col.val / 64 / 8 = col.val / 512
        omega
      · rfl
    · obtain ⟨h1, h2, h3⟩ := hj
      show t.val % 32 * 128 + j.val - 128 ≤ t.val % 32 * 128 + a.val ∧ t.val % 32 * 128 + a.val < t.val % 32 * 128 + j.val - 128 + 128
      omega
  · intro j hj
    refine (value_at m t a j _ hj).trans (congrArg (arr2 m) (congr (congrArg ix2 (Fin.ext ?_)) rfl))
    show t.val / 32 * 4096 + (t.val % 32 * 128 + j.val - 128) = (t.val * 128 + a.val) / 4096 * 4096 + (t.val % 32 * 128 + j.val - 128)
    omega
  · refine norm_ne_zero _ _ (fun j => ?_) (f0 _).1 (f0 _).2
    by_cases hj : near t a j
    · rw [score_at m t a _ j hj]
      exact sum_ne_top _ _ (fun _ => f1 _ _) (fun _ => f1 _ _)
    · unfold headScores
      rw [if_neg (fun h => hj ((ok_at t a j).mp h))]
      exact bot_ne_top

/-- The result array the kernel leaves is the reference's. -/
theorem final (c : Dev nD) (hp : Cert.Pre_finite_swa.fn (F := Ideal) (m ((c : Thread nD τ).loc main_arg0)) (m ((c : Thread nD τ).loc main_arg1)) (m ((c : Thread nD τ).loc main_arg2)) = fun _ => 1#1) :
    (dats m 0 c).arrAt 6 cfg0.N
      = Cert.SwaRefIdeal.Read.val_main_v43 (F := Ideal) (m ((c : Thread nD τ).loc main_arg0)) (m ((c : Thread nD τ).loc main_arg1)) (m ((c : Thread nD τ).loc main_arg2)) := by
  obtain rfl : c = 0 := Subsingleton.elim _ _
  refine (dats m 0 0).arrAt_eq_of_covers 6 _ covers fun t hf y => ?_
  blk_simp
  rw [after0_6]
  obtain ⟨a, d, rfl⟩ : ∃ (a : Fin 128) (d : Fin 1024), y = (ix2 a d : S128x1024.Idx) := ⟨y (0 : Fin 2), y (1 : Fin 2), by funext b; fin_cases b <;> rfl⟩
  exact (out_at m t a d).trans ((point m hp t a d).trans (congrArg _ (y_at t a d).symm))

end Cert.SwaProof

end
-- ==== Proof.ExpertsRef.lean ====
/-
  The experts reference at a row and a feature. It sums over all 32 experts with a one-hot weight; the row's own expert is
  the only one whose weight is not zero, so the sum is that expert's gated layer alone.
-/
module

public import proofs.«01_k».proof.Proof.Gen.ExpertsRefIdeal.Read
public import Idealize.ShloMosaic.Lib.Pointwise

@[expose] public section

set_option maxRecDepth 16384

noncomputable section

namespace Cert.ExpertsRefProof

open Idealize.ShloMosaic Cert.ExpertsRefIdeal Cert.ExpertsRefIdeal.Read

/-- One hidden unit of one expert: the gate's product times its sigmoid, times the up product. -/
def unit (x wg wu : Fin 2048 → EReal) : EReal :=
  (∑ k, x k * wg k) * Ideal.div 1 (1 + Ideal.exp (-∑ k, x k * wg k)) * ∑ k, x k * wu k

variable (x0 : (⟨S288, .i32⟩ : BufTy).Contents (Elt Ideal)) (x1 : (⟨S73728x2048, .bf16⟩ : BufTy).Contents (Elt Ideal))
  (x2 x3 : (⟨S4x8x2048x512, .f32⟩ : BufTy).Contents (Elt Ideal)) (x4 : (⟨S4x8x512x2048, .f32⟩ : BufTy).Contents (Elt Ideal))

/-- Hidden unit `f` of expert `e` of group `g` on row `r`. -/
def hid (r : Fin 73728) (g : Fin 4) (e : Fin 8) (f : Fin 512) : EReal :=
  unit (fun k => x1 (ix2 r k)) (fun k => x2 (ix4 g e k f)) (fun k => x3 (ix4 g e k f))

/-- What expert `e` of group `g` makes of row `r`, at feature `d`. -/
def layer (r : Fin 73728) (d : Fin 2048) (g : Fin 4) (e : Fin 8) : EReal :=
  ∑ f : Fin 512, hid x1 x2 x3 r g e f * x4 (ix4 g e f d)

/-- The tile of rows that a row is in. -/
def tile (r : Fin 73728) : Fin 288 := ⟨r.val / 256, by have := r.isLt; omega⟩

/-- The one-hot weight: one at the row's own expert, zero at the others. -/
def weight (r : Fin 73728) (g : Fin 4) (e : Fin 8) : EReal :=
  if x0 (ix1 (tile r)) = BitVec.ofNat 32 (g.val * 8 + e.val) then 1 else 0

/-- What one group adds: the sum over its experts and their hidden units. -/
def groupSum (r : Fin 73728) (d : Fin 2048) (g : Fin 4) : EReal :=
  ∑ e : Fin 8, ∑ f : Fin 512, hid x1 x2 x3 r g e f * weight x0 r g e * x4 (ix4 g e f d)

/-- The reference's one-hot array. -/
theorem hot (r : Fin 73728) (g : Fin 4) (e : Fin 8) : val_main_v4 (F := Ideal) x0 (ix3 r g e) = weight x0 r g e := by
  pointwise [val_main_v4, val_main_v3, val_main_call0_v4, val_main_call0_v3, val_main_call0_v2, val_main_call0_v1, val_main_call0_v0, val_main_v2, val_main_v1]
  unfold weight tile
  show (((IntOp.cmpi .eq _ _).toNat : ℝ) : EReal) = _
  unfold IntOp.cmpi
  dsimp only
  split
  · rename_i h; rw [h]; simp
  · rename_i h; rw [beq_eq_false_iff_ne.mpr h]; simp

/-- The first group's term of the reference. -/
theorem group0 (r : Fin 73728) (d : Fin 2048) : val_main_v21 (F := Ideal) x0 x1 x2 x3 x4 (ix2 r d) = groupSum x0 x1 x2 x3 x4 r d 0 := by
  pointwise [val_main_v21, val_main_v20, val_main_v19, val_main_v18, val_main_v17, val_main_v16, val_main_v15, val_main_v14, val_main_v13, val_main_v9, val_main_call1_v5, val_main_call1_v4, val_main_call1_v3, val_main_call1_v2, val_main_call1_v1, val_main_call1_v0, val_main_call1_cst, val_main_call1_cst_0, val_main_v12, val_main_v11, val_main_v10, val_main_v8, val_main_v7, val_main_v6, val_main_v0, hot]
  rfl
theorem group1 (r : Fin 73728) (d : Fin 2048) : val_main_v38 (F := Ideal) x0 x1 x2 x3 x4 (ix2 r d) = groupSum x0 x1 x2 x3 x4 r d 1 := by
  pointwise [val_main_v38, val_main_v37, val_main_v36, val_main_v35, val_main_v34, val_main_v33, val_main_v32, val_main_v31, val_main_v30, val_main_v26, val_main_call2_v5, val_main_call2_v4, val_main_call2_v3, val_main_call2_v2, val_main_call2_v1, val_main_call2_v0, val_main_call2_cst, val_main_call2_cst_0, val_main_v29, val_main_v28, val_main_v27, val_main_v25, val_main_v24, val_main_v23, val_main_v0, hot]
  rfl
theorem group2 (r : Fin 73728) (d : Fin 2048) : val_main_v55 (F := Ideal) x0 x1 x2 x3 x4 (ix2 r d) = groupSum x0 x1 x2 x3 x4 r d 2 := by
  pointwise [val_main_v55, val_main_v54, val_main_v53, val_main_v52, val_main_v51, val_main_v50, val_main_v49, val_main_v48, val_main_v47, val_main_v43, val_main_call3_v5, val_main_call3_v4, val_main_call3_v3, val_main_call3_v2, val_main_call3_v1, val_main_call3_v0, val_main_call3_cst, val_main_call3_cst_0, val_main_v46, val_main_v45, val_main_v44, val_main_v42, val_main_v41, val_main_v40, val_main_v0, hot]
  rfl
theorem group3 (r : Fin 73728) (d : Fin 2048) : val_main_v72 (F := Ideal) x0 x1 x2 x3 x4 (ix2 r d) = groupSum x0 x1 x2 x3 x4 r d 3 := by
  pointwise [val_main_v72, val_main_v71, val_main_v70, val_main_v69, val_main_v68, val_main_v67, val_main_v66, val_main_v65, val_main_v64, val_main_v60, val_main_call4_v5, val_main_call4_v4, val_main_call4_v3, val_main_call4_v2, val_main_call4_v1, val_main_call4_v0, val_main_call4_cst, val_main_call4_cst_0, val_main_v63, val_main_v62, val_main_v61, val_main_v59, val_main_v58, val_main_v57, val_main_v0, hot]
  rfl

/-- The sum over the groups with the one-hot weight is the row's own expert's layer. -/
theorem sum_weight (r : Fin 73728) (d : Fin 2048) (g₀ : Fin 4) (e₀ : Fin 8)
    (h : x0 (ix1 (tile r)) = BitVec.ofNat 32 (g₀.val * 8 + e₀.val)) :
    ∑ g : Fin 4, groupSum x0 x1 x2 x3 x4 r d g = layer x1 x2 x3 x4 r d g₀ e₀ := by
  have hw : ∀ g e, weight x0 r g e = if g = g₀ ∧ e = e₀ then 1 else 0 := by
    intro g e
    unfold weight
    refine if_congr ?_ rfl rfl
    rw [h]
    constructor
    · intro hh
      have := congrArg BitVec.toNat hh
      simp only [BitVec.toNat_ofNat] at this
      have := g.isLt; have := e.isLt; have := g₀.isLt; have := e₀.isLt
      constructor <;> apply Fin.ext <;> omega
    · rintro ⟨rfl, rfl⟩; rfl
  unfold groupSum layer
  rw [Finset.sum_eq_single g₀, Finset.sum_eq_single e₀]
  · refine Finset.sum_congr rfl fun f _ => ?_
    rw [hw, if_pos ⟨rfl, rfl⟩, mul_one]
  · intro e _ he
    refine Finset.sum_eq_zero fun f _ => ?_
    rw [hw, if_neg fun h => he h.2, mul_zero, zero_mul]
  · intro hn; exact absurd (Finset.mem_univ _) hn
  · intro g _ hg
    refine Finset.sum_eq_zero fun e _ => Finset.sum_eq_zero fun f _ => ?_
    rw [hw, if_neg fun h => hg h.1, mul_zero, zero_mul]
  · intro hn; exact absurd (Finset.mem_univ _) hn

/-- THE REFERENCE AT A ROW AND A FEATURE: the layer of the row's own expert. -/
theorem ref_at (r : Fin 73728) (d : Fin 2048) (h : (x0 (ix1 (tile r))).toNat < 32) :
    val_main_v74 (F := Ideal) x0 x1 x2 x3 x4 (ix2 r d)
      = layer x1 x2 x3 x4 r d ⟨(x0 (ix1 (tile r))).toNat / 8, by omega⟩ ⟨(x0 (ix1 (tile r))).toNat % 8, by omega⟩ := by
  rw [← sum_weight x0 x1 x2 x3 x4 r d _ _ (by
    apply BitVec.eq_of_toNat_eq
    simp only [BitVec.toNat_ofNat]
    omega)]
  pointwise [val_main_v74, val_main_v73, val_main_v56, val_main_v39, val_main_v22, val_main_v5, val_main_cst]
  rw [group0, group1, group2, group3, Fin.sum_univ_four]

end Cert.ExpertsRefProof

end
-- ==== Proof.ExpertsValue.lean ====
/-
  The experts call: the kernel's result array and the reference's are one function of the arguments, where every word of
  the table names an expert.
-/
module

public import proofs.«01_k».proof.Proof.ExpertsTable
public import proofs.«01_k».proof.Proof.ExpertsRef
public import Idealize.ShloMosaic.Lib.Pipeline.ValueKit.Acc
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.ExpertsProof

open Idealize.ShloMosaic Idealize.ShloMosaic.TcCoe Idealize.SL.Sem
open Cert.ExpertsIdeal Cert.ExpertsIdeal.Gen

variable (m : (ℓ : Loc nD τ sig) → Buf (Elt Ideal) ℓ) (hO : Ok m)

/-- The body's result at a row and a feature of the tile: one gated layer of the tile's rows. -/
theorem pay_at (v0 : Vec Ideal S256x2048 .bf16) (v1 : Vec Ideal S1x2048x1024 .bf16) (v16 : Vec Ideal S1x512x2048 .bf16)
    (a : Fin 256) (d : Fin 2048) : k0_pay1 v0 v1 v16 (ix2 a d)
      = ∑ f : Fin 512, Cert.ExpertsRefProof.unit (fun k => v0 (ix2 a k)) (fun k => v1 (ix3 0 k ⟨f.val, by omega⟩))
          (fun k => v1 (ix3 0 k ⟨512 + f.val, by omega⟩)) * v16 (ix3 0 f d) := by
  unfold Cert.ExpertsRefProof.unit
  pointwise [k0_pay1, zero_sub]

/-- The joined weights that the region finds are the arguments joined, reshaped and cast. -/
theorem V_wgu (c : Dev nD) : @Eq (FVec Ideal S32x2048x1024 .bf16) (V m c main_v2)
    (truncf .bf16 (shapeCast S32x2048x1024 (concatenate S4x8x2048x1024 3 [⟨S4x8x2048x512, m ((c : Thread nD τ).loc main_arg2)⟩, ⟨S4x8x2048x512, m ((c : Thread nD τ).loc main_arg3)⟩] concatenates_S4x8x2048x512_S4x8x2048x512_S4x8x2048x1024_d3 : (⟨S4x8x2048x1024, .f32⟩ : BufTy).Contents (Elt Ideal)) shapeCasts_S4x8x2048x1024_S32x2048x1024) bitsLt_bf16_f32) := by
  unfold V
  after_results
  rfl

/-- The down weights that the region finds are the argument reshaped and cast. -/
theorem V_wd (c : Dev nD) : @Eq (FVec Ideal S32x512x2048 .bf16) (V m c main_v4)
    (truncf .bf16 (shapeCast S32x512x2048 (m ((c : Thread nD τ).loc main_arg4) : (⟨S4x8x512x2048, .f32⟩ : BufTy).Contents (Elt Ideal)) shapeCasts_S4x8x512x2048_S32x512x2048) bitsLt_bf16_f32) := by
  unfold V
  after_results
  rfl

/-- The joined weights, an expert's two indices as one. -/
theorem join_pure (w : (⟨S4x8x2048x1024, .f32⟩ : BufTy).Contents (Elt Ideal)) (e : Fin 32) (k : Fin 2048) (j : Fin 1024) :
    truncf (F := Ideal) .bf16 (shapeCast S32x2048x1024 w shapeCasts_S4x8x2048x1024_S32x2048x1024 : FVec Ideal S32x2048x1024 .f32) bitsLt_bf16_f32 (ix3 e k j)
      = w (ix4 ⟨e.val / 8, by omega⟩ ⟨e.val % 8, by omega⟩ k j) := by
  pointwise

/-- The joined weights are the gate's columns first, -/
theorem gate_join (w w' : (⟨S4x8x2048x512, .f32⟩ : BufTy).Contents (Elt Ideal)) (a : Fin 4) (b : Fin 8) (k : Fin 2048) (f : Fin 512) :
    (concatenate S4x8x2048x1024 3 [⟨S4x8x2048x512, w⟩, ⟨S4x8x2048x512, w'⟩] concatenates_S4x8x2048x512_S4x8x2048x512_S4x8x2048x1024_d3 : (⟨S4x8x2048x1024, .f32⟩ : BufTy).Contents (Elt Ideal)) (ix4 a b k ⟨f.val, by omega⟩) = w (ix4 a b k f) := by
  pointwise

/-- and the up columns second. -/
theorem up_join (w w' : (⟨S4x8x2048x512, .f32⟩ : BufTy).Contents (Elt Ideal)) (a : Fin 4) (b : Fin 8) (k : Fin 2048) (f : Fin 512) :
    (concatenate S4x8x2048x1024 3 [⟨S4x8x2048x512, w⟩, ⟨S4x8x2048x512, w'⟩] concatenates_S4x8x2048x512_S4x8x2048x512_S4x8x2048x1024_d3 : (⟨S4x8x2048x1024, .f32⟩ : BufTy).Contents (Elt Ideal)) (ix4 a b k ⟨512 + f.val, by omega⟩) = w' (ix4 a b k f) := by
  pointwise

/-- The down weights at an expert. -/
theorem down_pure (w : (⟨S4x8x512x2048, .f32⟩ : BufTy).Contents (Elt Ideal)) (e : Fin 32) (f : Fin 512) (d : Fin 2048) :
    truncf (F := Ideal) .bf16 (shapeCast S32x512x2048 w shapeCasts_S4x8x512x2048_S32x512x2048 : FVec Ideal S32x512x2048 .f32) bitsLt_bf16_f32 (ix3 e f d)
      = w (ix4 ⟨e.val / 8, by omega⟩ ⟨e.val % 8, by omega⟩ f d) := by
  pointwise

/-- The index maps at a grid point: block `t` of the rows, and the block of the expert that the table names. -/
theorem e0 : ∀ t : Fin grid0.N, cc0_transform_0 (grid0.coords t) = ![t.val, 0] := by decide +kernel
theorem e3 : ∀ t : Fin grid0.N, cc0_transform_3 (grid0.coords t) = ![t.val, 0] := by decide +kernel
theorem off1 : ∀ t : Fin grid0.N, k0_off1 (grid0.coords t) = ![t.val] := by decide +kernel

/-- The expert that the table names at a grid point. -/
def word (c : Dev nD) (t : Fin 288) : BitVec 32 := (m ((c : Thread nD τ).loc main_arg0) : (⟨S288, .i32⟩ : BufTy).Contents (Elt Ideal)) (ix1 t)

theorem tbl_at (t : Fin 288) : (tbl m).at 0 (Rect.unit (s := S288) (k0_off1 (grid0.coords t)) S1.size (Facts₀.k0_off1_inb (grid0.coords t))) Facts₀.numel1_S1 = word m 0 t := by
  refine (show _ = (tbl m 0 : (⟨S288, .i32⟩ : BufTy).Contents (Elt Ideal)) ((Rect.unit (s := S288) (k0_off1 (grid0.coords t)) S1.size (Facts₀.k0_off1_inb (grid0.coords t))).emb (Shape.Idx.first (Facts₀.numel1_S1.symm ▸ Nat.one_pos))) from rfl).trans ?_
  rw [show tbl m 0 = _ from V_main_arg0 m 0]
  refine congrArg (m (((0 : Dev nD) : Thread nD τ).loc main_arg0) : (⟨S288, .i32⟩ : BufTy).Contents (Elt Ideal)) ?_
  funext a
  apply Fin.ext
  rw [Rect.emb_apply, Rect.off_unit, Rect.stride_unit]
  refine (congrArg (fun n => n + _) (congrFun (off1 t) a)).trans ?_
  fin_cases a
  show t.val + 1 * 0 = t.val
  omega

theorem e1 (t : Fin 288) : cc0_transform_1 Facts₀.k0_off1_inb Facts₀.numel1_S1 (tbl m) (grid0.coords t) = ![(word m 0 t).toNat, 0, 0] := by
  rw [← tbl_at m t]; rfl
theorem e2 (t : Fin 288) : cc0_transform_2 Facts₀.k0_off1_inb Facts₀.numel1_S1 (tbl m) (grid0.coords t) = ![(word m 0 t).toNat, 0, 0] := by
  rw [← tbl_at m t]; rfl

/-- The block of rows at a grid point. -/
theorem x_at (t : Fin 288) (c : Dev nD) (a : Fin 256) (k : Fin 2048) :
    @Eq EReal (iblk m hO c 0 t (ix2 a k : S256x2048.Idx)) ((m ((c : Thread nD τ).loc main_arg1) : (⟨S73728x2048, .bf16⟩ : BufTy).Contents (Elt Ideal)) (ix2 ⟨t.val * 256 + a.val, by omega⟩ k)) := by
  refine (show _ = (V m c main_arg1 : (⟨S73728x2048, .bf16⟩ : BufTy).Contents (Elt Ideal)) ((((cfgM m hO).win 0).rect t).emb (ix2 a k : S256x2048.Idx)) from rfl).trans ?_
  rw [V_main_arg1 m c]
  refine congrArg (m ((c : Thread nD τ).loc main_arg1) : (⟨S73728x2048, .bf16⟩ : BufTy).Contents (Elt Ideal)) ?_
  funext b
  apply Fin.ext
  refine (Pipeline.Window.rect_emb_val _ _ _ _).trans ?_
  rw [show ((cfgM m hO).win 0).index t b = (![t.val, 0] : Fin 2 → ℕ) b from congrFun (e0 t) b, show ((cfgM m hO).win 0).size b = S256x2048.size b from rfl]
  fin_cases b
  · exact (by omega : t.val * 256 + a.val = t.val * 256 + a.val)
  · exact (by omega : 0 * 2048 + k.val = k.val)

/-- A read through the joined weights' block is the array at the block's element. -/
theorem wgu_read (A : FVec Ideal S32x2048x1024 .bf16) (t : Fin 288) (k : Fin 2048) (j : Fin 1024) :
    @Eq EReal ((((cfgM m hO).win 1).blk t).view.read (Elt Ideal) A (ix3 0 k j : S1x2048x1024.Idx)) (A ((((cfgM m hO).win 1).rect t).emb (ix3 0 k j : S1x2048x1024.Idx))) := rfl

/-- The block of joined weights at a grid point: the expert that the table names. -/
theorem wgu_at (t : Fin 288) (h : (word m 0 t).toNat < 32) (k : Fin 2048) (j : Fin 1024) :
    @Eq EReal (iblk m hO 0 1 t (ix3 0 k j : S1x2048x1024.Idx)) ((V m 0 main_v2 : FVec Ideal S32x2048x1024 .bf16) (ix3 ⟨(word m 0 t).toNat, h⟩ k j)) := by
  refine (wgu_read m hO (V m 0 main_v2) t k j).trans ?_
  refine congrArg (V m 0 main_v2 : FVec Ideal S32x2048x1024 .bf16) ?_
  funext b
  apply Fin.ext
  refine (Pipeline.Window.rect_emb_val _ _ _ _).trans ?_
  rw [show ((cfgM m hO).win 1).index t b = (![(word m 0 t).toNat, 0, 0] : Fin 3 → ℕ) b from congrFun (e1 m t) b, show ((cfgM m hO).win 1).size b = S1x2048x1024.size b from rfl]
  fin_cases b
  · exact (by omega : (word m 0 t).toNat * 1 + 0 = (word m 0 t).toNat)
  · exact (by omega : 0 * 2048 + k.val = k.val)
  · exact (by omega : 0 * 1024 + j.val = j.val)

/-- The block of down weights at a grid point. -/
theorem wd_at (t : Fin 288) (h : (word m 0 t).toNat < 32) (f : Fin 512) (d : Fin 2048) :
    @Eq EReal (iblk m hO 0 2 t (ix3 0 f d : S1x512x2048.Idx)) ((V m 0 main_v4 : FVec Ideal S32x512x2048 .bf16) (ix3 ⟨(word m 0 t).toNat, h⟩ f d)) := by
  refine (show _ = (V m 0 main_v4 : FVec Ideal S32x512x2048 .bf16) ((((cfgM m hO).win 2).rect t).emb (ix3 0 f d : S1x512x2048.Idx)) from rfl).trans ?_
  refine congrArg (V m 0 main_v4 : FVec Ideal S32x512x2048 .bf16) ?_
  funext b
  apply Fin.ext
  refine (Pipeline.Window.rect_emb_val _ _ _ _).trans ?_
  rw [show ((cfgM m hO).win 2).index t b = (![(word m 0 t).toNat, 0, 0] : Fin 3 → ℕ) b from congrFun (e2 m t) b, show ((cfgM m hO).win 2).size b = S1x512x2048.size b from rfl]
  fin_cases b
  · exact (by omega : (word m 0 t).toNat * 1 + 0 = (word m 0 t).toNat)
  · exact (by omega : 0 * 512 + f.val = f.val)
  · exact (by omega : 0 * 2048 + d.val = d.val)

/-- Every block of the result is written back, one for each grid point. -/
theorem covers : ((cfgM m hO).win 3).Covers := by
  have n0 : ((cfgM m hO).win 3).nblk (0 : Fin 2) = grid0.N := by
    show (S73728x2048.size 0 + S256x2048.size 0 - 1) / S256x2048.size 0 = grid0.N
    decide
  have n1 : ((cfgM m hO).win 3).nblk (1 : Fin 2) = 1 := by
    show (S73728x2048.size 1 + S256x2048.size 1 - 1) / S256x2048.size 1 = 1
    decide
  refine ⟨fun a => ?_, fun β => ⟨⟨(β (0 : Fin 2)).val, (β (0 : Fin 2)).isLt.trans_eq n0⟩, flush0_3 _ _, fun a => ⟨?_, Or.inl rfl⟩⟩⟩
  · revert a
    exact (by decide : ∀ a : Fin 2, 0 < S256x2048.size a)
  refine (congrFun (e3 ⟨(β (0 : Fin 2)).val, (β (0 : Fin 2)).isLt.trans_eq n0⟩) a).trans ?_
  fin_cases a
  · rfl
  · exact (Nat.lt_one_iff.mp ((β (1 : Fin 2)).isLt.trans_eq n1)).symm

/-- A result block's element in the array. -/
theorem y_at (t : Fin 288) (a : Fin 256) (d : Fin 2048) :
    @Eq S73728x2048.Idx ((((cfgM m hO).win 3).rect t).emb (ix2 a d : S256x2048.Idx)) (ix2 ⟨t.val * 256 + a.val, by omega⟩ d) := by
  funext b
  apply Fin.ext
  refine (Pipeline.Window.rect_emb_val _ _ _ _).trans ?_
  rw [show ((cfgM m hO).win 3).index t b = (![t.val, 0] : Fin 2 → ℕ) b from congrFun (e3 t) b, show ((cfgM m hO).win 3).size b = S256x2048.size b from rfl]
  fin_cases b
  · exact (by omega : t.val * 256 + a.val = t.val * 256 + a.val)
  · exact (by omega : 0 * 2048 + d.val = d.val)

/-- What the body leaves at a grid point is the reference there. -/
theorem point (h : ∀ i : Fin 288, (word m 0 i).toNat < 32) (t : Fin 288) (a : Fin 256) (d : Fin 2048) :
    k0_pay1 (F := Ideal) (iblk m hO 0 0 t) (iblk m hO 0 1 t) (iblk m hO 0 2 t) (ix2 a d)
    = Cert.ExpertsRefIdeal.Read.val_main_v74 (F := Ideal) (m (((0 : Dev nD) : Thread nD τ).loc main_arg0)) (m (((0 : Dev nD) : Thread nD τ).loc main_arg1))
        (m (((0 : Dev nD) : Thread nD τ).loc main_arg2)) (m (((0 : Dev nD) : Thread nD τ).loc main_arg3)) (m (((0 : Dev nD) : Thread nD τ).loc main_arg4)) (ix2 ⟨t.val * 256 + a.val, by omega⟩ d) := by
  have ht : Cert.ExpertsRefProof.tile ⟨t.val * 256 + a.val, by omega⟩ = t := Fin.ext (by show (t.val * 256 + a.val) / 256 = t.val; omega)
  refine (pay_at _ _ _ a d).trans (Eq.symm ((Cert.ExpertsRefProof.ref_at _ _ _ _ _ ⟨t.val * 256 + a.val, by omega⟩ d (by rw [ht]; exact h t)).trans ?_))
  unfold Cert.ExpertsRefProof.layer Cert.ExpertsRefProof.hid
  refine Finset.sum_congr rfl fun f _ => ?_
  refine congrArg₂ (fun x y : EReal => x * y) ?_ ?_
  · refine congr (congr (congrArg Cert.ExpertsRefProof.unit (funext fun k => ?_)) (funext fun k => ?_)) (funext fun k => ?_)
    · exact (x_at m hO t 0 a k).symm
    · refine Eq.symm ((wgu_at m hO t (h t) k _).trans ((congrFun (V_wgu m 0) _).trans ((join_pure _ _ k _).trans ((gate_join _ _ _ _ k f).trans ?_))))
      simp only [ht]; rfl
    · refine Eq.symm ((wgu_at m hO t (h t) k _).trans ((congrFun (V_wgu m 0) _).trans ((join_pure _ _ k _).trans ((up_join _ _ _ _ k f).trans ?_))))
      simp only [ht]; rfl
  · refine Eq.symm ((wd_at m hO t (h t) f d).trans ((congrFun (V_wd m 0) _).trans ((down_pure _ _ f d).trans ?_)))
    simp only [ht]; rfl

/-- The kernel's result array is the reference's result at the same arguments. -/
theorem final3 (h : ∀ i : Fin 288, (word m 0 i).toNat < 32) : (dats m hO 0 0).arrAt 3 (cfgM m hO).N
    = Cert.ExpertsRefIdeal.Read.val_main_v74 (F := Ideal) (m (((0 : Dev nD) : Thread nD τ).loc main_arg0)) (m (((0 : Dev nD) : Thread nD τ).loc main_arg1))
        (m (((0 : Dev nD) : Thread nD τ).loc main_arg2)) (m (((0 : Dev nD) : Thread nD τ).loc main_arg3)) (m (((0 : Dev nD) : Thread nD τ).loc main_arg4)) := by
  refine (dats m hO 0 0).arrAt_eq_of_covers 3 _ (covers m hO) fun t hf y => ?_
  blk_simp
  rw [after0_3]
  unfold outsAt0
  frame_out
  obtain ⟨a, d, rfl⟩ : ∃ (a : Fin 256) (d : Fin 2048), y = (ix2 a d : S256x2048.Idx) := ⟨y (0 : Fin 2), y (1 : Fin 2), by funext a; fin_cases a <;> rfl⟩
  refine Eq.trans ?_ ((point m hO h t a d).trans (congrArg _ (y_at m hO t a d).symm))
  exact congrFun (congr (congr (congrArg k0_pay1 ((hs0_0 m hO t).read_unread (iblk m hO 0 0 t))) ((hs0_1 m hO t).read_unread (iblk m hO 0 1 t))) ((hs0_2 m hO t).read_unread (iblk m hO 0 2 t))) (ix2 a d)

/-- THE RUN: the result array ends at the reference's result, the arguments as they were. -/
theorem run (ρ : Dev nD → PrngReg) (h : ∀ i : Fin 288, (word m 0 i).toNat < 32) :
    θ_run defs (onTc (τ := τ) (main (F := Ideal))) ⟨m, fun _ => 0, ρ⟩ fun r => ∀ c : Dev nD,
      r.2.mem ((c : Thread nD τ).loc main_v5) = Cert.ExpertsRefIdeal.Read.val_main_v74 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have hO : Ok m := okIdeal m h
  refine (θ_run defs _ _).mono (fun r hr c => ⟨?_, hr.2 c⟩) (θ_run_and (run_main m ρ hO) (unchanged m ρ hO))
  obtain rfl : c = 0 := Subsingleton.elim _ _
  exact ((hr.1 0).1 3).trans (final3 m hO h)

end Cert.ExpertsProof

end
-- ==== Proof.CombineValue.lean ====
/-
  The combine call: the kernel's result array and the reference's are one function of the arguments.
-/
module

public import proofs.«01_k».proof.Proof.Gen.CombineIdeal.Value
public import proofs.«01_k».proof.Proof.Gen.CombineRefIdeal.Read
public import Idealize.ShloMosaic.Lib.Pipeline.ValueKit.Acc
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.CombineProof

open Idealize.ShloMosaic Idealize.ShloMosaic.TcCoe Idealize.SL.Sem
open Cert.CombineIdeal Cert.CombineIdeal.Gen

/-- The index maps at a grid point: block `t` of the rows, the norm's weight whole. -/
theorem e0 : ∀ t : Fin cfg0.N, win0_0.index t = ![(grid0.coords t 0).val, 0] :=
  (by decide +kernel : ∀ t : Fin grid0.N, _)
theorem e1 : ∀ t : Fin cfg0.N, win0_1.index t = ![(grid0.coords t 0).val, 0] :=
  (by decide +kernel : ∀ t : Fin grid0.N, _)
theorem e2 : ∀ t : Fin cfg0.N, win0_2.index t = ![(grid0.coords t 0).val, 0] :=
  (by decide +kernel : ∀ t : Fin grid0.N, _)
theorem e3 : ∀ t : Fin cfg0.N, win0_3.index t = ![(grid0.coords t 0).val, 0] :=
  (by decide +kernel : ∀ t : Fin grid0.N, _)
theorem e4 : ∀ t : Fin cfg0.N, win0_4.index t = ![0, 0] :=
  (by decide +kernel : ∀ t : Fin grid0.N, _)
theorem e5 : ∀ t : Fin cfg0.N, win0_5.index t = ![(grid0.coords t 0).val, 0] :=
  (by decide +kernel : ∀ t : Fin grid0.N, _)

variable (m : (ℓ : Loc nD τ sig) → Buf (Elt Ideal) ℓ)

/-- The kernel's result array is the reference's result at the same arguments. -/
theorem final5 (c : Dev nD) : (dats m 0 c).arrAt 5 cfg0.N
    = Cert.CombineRefIdeal.Read.val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; frame_out
  rw [← Cert.CombineRefIdeal.Read.val_main_v21_eq]
  pointwise [k0_pay1, add_assoc]
  blk_point [iblk, V, e0, e1, e2, e3, e4, e5]

end Cert.CombineProof

end
-- ==== Proof.WinSoftmax.lean ====
/-
  The softmax taken a block of keys at a time: the running maximum, normalizer and weighted sum over the keys so far.
-/
module

public import proofs.«01_k».proof.Proof.SwaWindow

@[expose] public section

noncomputable section

namespace Cert.WinProof

open Idealize.ShloMosaic

/-- The largest score of a set of keys. -/
def top (K : Finset ℕ) (S : ℕ → EReal) : EReal := K.sup S

/-- The sum over a set of keys of the values, each weighted by the exponential of its score under the largest. -/
def mass (K : Finset ℕ) (S v : ℕ → EReal) : EReal := ∑ k ∈ K, Ideal.exp (S k - top K S) * v k

theorem exp_ne_top (x : EReal) (h : x ≠ ⊤) : Ideal.exp x ≠ ⊤ := by
  induction x using EReal.rec with
  | bot => exact EReal.zero_ne_top
  | coe r => exact EReal.coe_ne_top _
  | top => exact absurd rfl h

/-- A score under a running maximum that is then raised. -/
theorem exp_mul (s m m' : EReal) (h : s ≤ m) (hm : m ≤ m') (ht : m' ≠ ⊤) : Ideal.exp (m - m') * Ideal.exp (s - m) = Ideal.exp (s - m') := by
  have hmt : m ≠ ⊤ := (lt_of_le_of_lt hm ht.lt_top).ne
  by_cases hmb : m = ⊥
  · subst hmb
    have hs : s = ⊥ := le_bot_iff.mp h
    subst hs
    rw [Cert.SwaProof.exp_bot_sub, zero_mul]
  have hb' : m' ≠ ⊥ := (lt_of_lt_of_le (bot_lt_iff_ne_bot.mpr hmb) hm).ne'
  by_cases hsb : s = ⊥
  · subst hsb
    rw [Cert.SwaProof.exp_bot_sub, Cert.SwaProof.exp_bot_sub, mul_zero]
  have hst : s ≠ ⊤ := (lt_of_le_of_lt h hmt.lt_top).ne
  lift m to ℝ using ⟨hmt, hmb⟩
  lift m' to ℝ using ⟨ht, hb'⟩
  lift s to ℝ using ⟨hst, hsb⟩
  rw [← EReal.coe_sub, ← EReal.coe_sub, ← EReal.coe_sub]
  show ((Real.exp (m - m') : ℝ) : EReal) * ((Real.exp (s - m) : ℝ) : EReal) = ((Real.exp (s - m') : ℝ) : EReal)
  rw [← EReal.coe_mul, ← Real.exp_add]
  congr 2
  ring

theorem sub_ne_top (a b : EReal) (ha : a ≠ ⊤) (hb : a ≤ b) : a - b ≠ ⊤ := by
  induction a using EReal.rec with
  | bot => rw [EReal.bot_sub]; exact bot_ne_top
  | top => exact absurd rfl ha
  | coe r =>
    have : b ≠ ⊥ := (lt_of_lt_of_le (EReal.bot_lt_coe r) hb).ne'
    induction b using EReal.rec with
    | bot => exact absurd rfl this
    | coe t => rw [← EReal.coe_sub]; exact EReal.coe_ne_top _
    | top => rw [EReal.sub_top]; exact bot_ne_top

/-- A factor at least zero and finite over a sum. -/
theorem mul_sum (c : EReal) (h0 : 0 ≤ c) (ht : c ≠ ⊤) (K : Finset ℕ) (f : ℕ → EReal) : c * ∑ k ∈ K, f k = ∑ k ∈ K, c * f k := by
  induction K using Finset.induction_on with
  | empty => rw [Finset.sum_empty, Finset.sum_empty, mul_zero]
  | insert a s ha ih => rw [Finset.sum_insert ha, Finset.sum_insert ha, EReal.left_distrib_of_nonneg_of_ne_top h0 ht, ih]

theorem top_ne_top (K : Finset ℕ) (S : ℕ → EReal) (h : ∀ k, S k ≠ ⊤) : top K S ≠ ⊤ :=
  ((Finset.sup_lt_iff bot_lt_top).mpr fun k _ => (h k).lt_top).ne

/-- Raising the running maximum rescales the sum. -/
theorem rescale (K : Finset ℕ) (S v : ℕ → EReal) (m' : EReal) (h : top K S ≤ m') (ht : m' ≠ ⊤) :
    Ideal.exp (top K S - m') * mass K S v = ∑ k ∈ K, Ideal.exp (S k - m') * v k := by
  unfold mass
  rw [mul_sum _ (Cert.SwaProof.exp_nonneg _) (exp_ne_top _ (sub_ne_top _ _ (lt_of_le_of_lt h ht.lt_top).ne h))]
  refine Finset.sum_congr rfl fun k hk => ?_
  rw [← mul_assoc, exp_mul (S k) (top K S) m' (Finset.le_sup (f := S) hk) h ht]

/-- The maximum over one more block. -/
theorem top_union (K B : Finset ℕ) (S : ℕ → EReal) : top (K ∪ B) S = max (top K S) (top B S) := Finset.sup_union

/-- ONE BLOCK MORE: the sum over the keys so far rescaled, and the block's own terms added. -/
theorem mass_union (K B : Finset ℕ) (S v : ℕ → EReal) (hd : Disjoint K B) (hS : ∀ k, S k ≠ ⊤) :
    mass (K ∪ B) S v = Ideal.exp (top K S - top (K ∪ B) S) * mass K S v + ∑ k ∈ B, Ideal.exp (S k - top (K ∪ B) S) * v k := by
  rw [rescale K S v _ (by rw [top_union]; exact le_max_left _ _) (top_ne_top _ _ hS)]
  unfold mass
  rw [Finset.sum_union hd]

/-- The keys of the blocks before the `n`-th of a walk that starts at block `lo`. -/
def keys (lo n : ℕ) : Finset ℕ := Finset.Ico (lo * 128) ((lo + n) * 128)

theorem keys_succ (lo n : ℕ) : keys lo (n + 1) = keys lo n ∪ Finset.Ico ((lo + n) * 128) ((lo + n) * 128 + 128) := by
  unfold keys
  rw [show (lo + (n + 1)) * 128 = (lo + n) * 128 + 128 by ring]
  exact (Finset.Ico_union_Ico_eq_Ico (by omega) (by omega)).symm

theorem keys_disjoint (lo n : ℕ) : Disjoint (keys lo n) (Finset.Ico ((lo + n) * 128) ((lo + n) * 128 + 128)) :=
  Finset.Ico_disjoint_Ico_consecutive _ _ _

theorem sum_block (b : ℕ) (f : ℕ → EReal) : ∑ k ∈ Finset.Ico b (b + 128), f k = ∑ c : Fin 128, f (b + c.val) := by
  rw [Finset.sum_Ico_eq_sum_range, Nat.add_sub_cancel_left, Finset.sum_range]

theorem top_block (b : ℕ) (S : ℕ → EReal) : top (Finset.Ico b (b + 128)) S = Finset.univ.fold max ⊥ (fun c : Fin 128 => S (b + c.val)) := by
  apply le_antisymm
  · refine Finset.sup_le fun k hk => ?_
    obtain ⟨h1, h2⟩ := Finset.mem_Ico.mp hk
    refine (Finset.le_fold_max _).mpr (Or.inr ⟨⟨k - b, by omega⟩, Finset.mem_univ _, ?_⟩)
    rw [show b + (k - b) = k by omega]
  · refine (Finset.fold_max_le _).mpr ⟨bot_le, fun c _ => ?_⟩
    exact Finset.le_sup (f := S) (Finset.mem_Ico.mpr ⟨by omega, by omega⟩)

/-- The running maximum at the next block. -/
theorem top_succ (lo n : ℕ) (S : ℕ → EReal) :
    top (keys lo (n + 1)) S = max (top (keys lo n) S) (Finset.univ.fold max ⊥ (fun c : Fin 128 => S ((lo + n) * 128 + c.val))) := by
  rw [keys_succ, top_union, top_block]

/-- The running sum at the next block. -/
theorem mass_succ (lo n : ℕ) (S v : ℕ → EReal) (hS : ∀ k, S k ≠ ⊤) :
    mass (keys lo (n + 1)) S v = Ideal.exp (top (keys lo n) S - top (keys lo (n + 1)) S) * mass (keys lo n) S v
      + ∑ c : Fin 128, Ideal.exp (S ((lo + n) * 128 + c.val) - top (keys lo (n + 1)) S) * v ((lo + n) * 128 + c.val) := by
  rw [keys_succ, mass_union _ _ S v (keys_disjoint lo n) hS, sum_block]

theorem top_zero (lo : ℕ) (S : ℕ → EReal) : top (keys lo 0) S = ⊥ := by
  unfold keys top
  rw [Nat.add_zero, Finset.Ico_self]
  rfl

theorem mass_zero (lo : ℕ) (S v : ℕ → EReal) : mass (keys lo 0) S v = 0 := by
  unfold keys mass
  rw [Nat.add_zero, Finset.Ico_self]
  rfl

/-- The softmax of a row of 4096 scores applied to the values. -/
def out (S v : ℕ → EReal) : EReal :=
  ∑ k : Fin 4096, Ideal.div (Ideal.exp (S k.val - top (Finset.range 4096) S)) (mass (Finset.range 4096) S (fun _ => 1)) * v k.val

/-- A division by a finite positive number is a product. -/
theorem div_eq (x l : EReal) (h0 : 0 < l) (ht : l ≠ ⊤) : Ideal.div x l = ((l.toReal)⁻¹ : ℝ) * x := by
  have hb : l ≠ ⊥ := (lt_trans EReal.bot_lt_zero h0).ne'
  lift l to ℝ using ⟨ht, hb⟩
  rw [Ideal.div_coe (EReal.coe_pos.mp h0).ne', mul_comm, EReal.toReal_coe, one_div]

/-- THE WALK: the weighted sum over the normalizer is the softmax of the whole row, the keys outside of the walk being hidden. -/
theorem walk (lo n : ℕ) (S v : ℕ → EReal) (hn : (lo + n) * 128 ≤ 4096) (hS : ∀ k, S k ≠ ⊤) (hid : ∀ k, k < lo * 128 ∨ (lo + n) * 128 ≤ k → S k = ⊥) (k0 : ℕ) (h0 : S k0 ≠ ⊥) :
    Ideal.div (mass (keys lo n) S v) (mass (keys lo n) S (fun _ => 1)) = out S v := by
  have hk0 : k0 ∈ keys lo n := by
    unfold keys
    rw [Finset.mem_Ico]
    by_contra hc
    exact h0 (hid k0 (by omega))
  have hsub : keys lo n ⊆ Finset.range 4096 := fun k hk => Finset.mem_range.mpr (by unfold keys at hk; have := Finset.mem_Ico.mp hk; omega)
  have hout : ∀ k, k ∉ keys lo n → S k = ⊥ := fun k hk => hid k (by unfold keys at hk; rw [Finset.mem_Ico] at hk; omega)
  have et : top (Finset.range 4096) S = top (keys lo n) S := by
    apply le_antisymm
    · refine Finset.sup_le fun k _ => ?_
      by_cases hk : k ∈ keys lo n
      · exact Finset.le_sup hk
      · rw [hout k hk]; exact bot_le
    · exact Finset.sup_mono hsub
  have em : ∀ w : ℕ → EReal, mass (Finset.range 4096) S w = mass (keys lo n) S w := fun w => by
    unfold mass
    rw [et]
    refine (Finset.sum_subset hsub fun k _ hk => ?_).symm
    rw [hout k hk, Cert.SwaProof.exp_bot_sub, zero_mul]
  have htt : top (keys lo n) S ≠ ⊤ := top_ne_top _ _ hS
  have hle : ∀ k ∈ keys lo n, S k ≤ top (keys lo n) S := fun k hk => Finset.le_sup hk
  have hpos : 0 < mass (keys lo n) S (fun _ => 1) := by
    obtain ⟨k1, hk1, e1⟩ := Finset.exists_mem_eq_sup (keys lo n) ⟨k0, hk0⟩ S
    have hb : S k1 ≠ ⊥ := fun hb => h0 (le_bot_iff.mp ((hle k0 hk0).trans (by show top (keys lo n) S ≤ ⊥; unfold top; rw [e1, hb])))
    have hp : 0 < Ideal.exp (S k1 - top (keys lo n) S) * 1 := by
      unfold top
      rw [e1, mul_one]
      have ht1 := hS k1
      generalize S k1 = s at hb ht1
      lift s to ℝ using ⟨ht1, hb⟩
      rw [← EReal.coe_sub]
      exact EReal.coe_pos.mpr (Real.exp_pos _)
    refine lt_of_lt_of_le hp ?_
    unfold mass
    exact Finset.single_le_sum (f := fun k => Ideal.exp (S k - top (keys lo n) S) * 1) (fun k _ => by rw [mul_one]; exact Cert.SwaProof.exp_nonneg _) hk1
  have hfin : mass (keys lo n) S (fun _ => 1) ≠ ⊤ := by
    unfold mass
    refine Finset.sum_induction _ (fun x : EReal => x ≠ ⊤) (fun x y hx hy => EReal.add_ne_top hx hy) EReal.zero_ne_top fun k hk => ?_
    rw [mul_one]
    exact exp_ne_top _ (sub_ne_top _ _ (hS k) (hle k hk))
  unfold out
  rw [em (fun _ => 1), et, ← em v]
  generalize mass (keys lo n) S (fun _ => 1) = l at hpos hfin
  rw [div_eq _ _ hpos hfin]
  unfold mass
  rw [et, mul_sum _ (EReal.coe_nonneg.mpr (inv_nonneg.mpr (EReal.toReal_nonneg hpos.le))) (EReal.coe_ne_top _), Finset.sum_range]
  refine Finset.sum_congr rfl fun k _ => ?_
  rw [← mul_assoc]
  exact congrArg (fun x : EReal => x * v k.val) (div_eq _ _ hpos hfin).symm

end Cert.WinProof

end
-- ==== Proof.WinStep.lean ====
/-
  The window branch's loop body: one block of keys, at a row and a lane.
-/
module

public import proofs.«01_k».proof.Proof.Gen.WinIdeal.Value
public import Idealize.ShloMosaic.Lib.Pointwise
public import proofs.«01_k».proof.Proof.SwaWords
public import proofs.«01_k».proof.Proof.WinSoftmax

@[expose] public section

set_option maxRecDepth 16384

noncomputable section

namespace Cert.WinProof

open Idealize.ShloMosaic Idealize.ShloMosaic.TcCoe Idealize.SL.Sem
open Cert.WinIdeal Cert.WinIdeal.Gen

/-- The window's test on the positions of a query and of a key. -/
abbrev near (q k : ℕ) : Prop := k ≤ q ∧ q < k + 512

theorem near_iff (x y : ℕ) (hx : x < 65536) (hy : y < 65536) :
    (IntOp.cmpi .sge (IntOp.subi (BitVec.ofNat 32 x) (BitVec.ofNat 32 y)) 0#32 = 1#1 ↔ y ≤ x)
      ∧ (IntOp.cmpi .slt (IntOp.subi (BitVec.ofNat 32 x) (BitVec.ofNat 32 y)) 512#32 = 1#1 ↔ x < y + 512) := by
  unfold IntOp.cmpi
  dsimp only
  rw [Cert.SwaWords.ofBool_one, Cert.SwaWords.ofBool_one, BitVec.sle_eq_decide, BitVec.slt_eq_decide, decide_eq_true_iff, decide_eq_true_iff, Cert.SwaWords.sub_toInt x y hx hy,
    show (0#32).toInt = 0 from rfl, show (512#32).toInt = 512 from rfl]
  omega

/-- The position of a row's query in its batch, from the grid's coordinate. -/
theorem word (i : ℕ) (a : ℕ) : IntOp.addi (IntOp.muli (BitVec.ofNat 32 i) 128#32) (BitVec.ofNat 32 a) = BitVec.ofNat 32 (i * 128 + a) := by
  rw [BitVec.ofNat_add, BitVec.ofNat_mul]
  rfl

/-- The scores of a block of keys: the products of queries and keys, those outside of the window hidden. -/
def score (qb b : ℕ) (q4 : FVec Ideal S512x128 .bf16) (kb : Vec Ideal S128x128 .bf16) (ρ : Fin 512) (c : Fin 128) : EReal :=
  if near (qb * 128 + ρ.val % 128) (b * 128 + c.val) then ∑ d : Fin 128, q4 (ix2 ρ d) * kb (ix2 c d) else ⊥

/-- A selection by a bit. -/
theorem select_if (b : BitVec 1) (x y : EReal) : Scalar.select b x y = if b = 1#1 then x else y := rfl

/-- The mask's words at a row and a key: the row's query within its tile is `a`. -/
theorem bias (i b a c : ℕ) (hi : i < 32) (hb : b < 32) (ha : a < 128) (hc : c < 128) (s : EReal) :
    s + Scalar.select
          (IntOp.cmpi CmpIPredicate.sge (IntOp.subi (IntOp.addi (Scalar.muli (BitVec.ofNat 32 i) 128#32) (BitVec.ofNat 32 a)) (IntOp.addi (Scalar.muli (BitVec.ofNat 32 b) 128#32) (BitVec.ofNat 32 c))) 0#32)
          (Scalar.select
            (IntOp.cmpi CmpIPredicate.slt (IntOp.subi (IntOp.addi (Scalar.muli (BitVec.ofNat 32 i) 128#32) (BitVec.ofNat 32 a)) (IntOp.addi (Scalar.muli (BitVec.ofNat 32 b) 128#32) (BitVec.ofNat 32 c))) 512#32)
            (0 : EReal) (⊥ : EReal)) (⊥ : EReal)
      = if near (i * 128 + a) (b * 128 + c) then s else ⊥ := by
  rw [show IntOp.addi (Scalar.muli (BitVec.ofNat 32 i) 128#32) (BitVec.ofNat 32 a) = BitVec.ofNat 32 (i * 128 + a) from word i a,
    show IntOp.addi (Scalar.muli (BitVec.ofNat 32 b) 128#32) (BitVec.ofNat 32 c) = BitVec.ofNat 32 (b * 128 + c) from word b c]
  obtain ⟨h1, h2⟩ := near_iff (i * 128 + a) (b * 128 + c) (by omega) (by omega)
  rw [select_if, select_if]
  by_cases g1 : b * 128 + c ≤ i * 128 + a
  · rw [if_pos (h1.mpr g1)]
    by_cases g2 : i * 128 + a < b * 128 + c + 512
    · rw [if_pos (h2.mpr g2), if_pos ⟨g1, g2⟩, add_zero]
    · rw [if_neg (fun h => g2 (h2.mp h)), if_neg (fun h => g2 h.2), EReal.add_bot]
  · rw [if_neg (fun h => g1 (h1.mp h)), if_neg (fun h => g1 h.1), EReal.add_bot]

theorem score1 (i : grid0.Coords) (v6 : BitVec 32) (q4 : FVec Ideal S512x128 .bf16) (k : Fin (k0_t1_loop i).trips) (kb : Vec Ideal S128x128 .bf16) (b : ℕ) (hb : b < 32) (hi : (i 1).val < 32)
    (hv : Scf.iv v6 1#32 k.val = BitVec.ofNat 32 b) (ρ : Fin 512) (c : Fin 128) :
    k0_pay12 (F := Ideal) i (k0_pay32 i) (iota Kind.tc S128x128 32 [1] iota_S128x128_d1_w32) v6 q4 1#32 k kb (ix2 ρ c) = score (i 1).val b q4 kb ρ c := by
  unfold score
  pointwise [k0_pay12, k0_pay32]
  rw [hv, show (Named.named κ "mask" 4048155338#32 : Ideal .f32) = (⊥ : EReal) from rfl]
  split
  · rw [show ρ.val % 128 = ρ.val from by omega]
    exact bias _ _ _ _ hi hb (by omega) c.isLt _
  split
  · rw [show ρ.val % 128 = ρ.val - 128 from by omega]
    exact bias _ _ _ _ hi hb (by omega) c.isLt _
  split
  · rw [show ρ.val % 128 = ρ.val - 128 - 128 from by omega]
    exact bias _ _ _ _ hi hb (by omega) c.isLt _
  · rw [show ρ.val % 128 = ρ.val - 128 - 128 - 128 from by omega]
    exact bias _ _ _ _ hi hb (by omega) c.isLt _

theorem score3 (i : grid0.Coords) (v6 : BitVec 32) (q4 : FVec Ideal S512x128 .bf16) (k : Fin (k0_t3_loop i).trips) (kb : Vec Ideal S128x128 .bf16) (b : ℕ) (hb : b < 32) (hi : (i 1).val < 32)
    (hv : Scf.iv v6 1#32 k.val = BitVec.ofNat 32 b) (ρ : Fin 512) (c : Fin 128) :
    k0_pay22 (F := Ideal) i (k0_pay32 i) (iota Kind.tc S128x128 32 [1] iota_S128x128_d1_w32) v6 q4 1#32 k kb (ix2 ρ c) = score (i 1).val b q4 kb ρ c := by
  unfold score
  pointwise [k0_pay22, k0_pay32]
  rw [hv, show (Named.named κ "mask" 4048155338#32 : Ideal .f32) = (⊥ : EReal) from rfl]
  split
  · rw [show ρ.val % 128 = ρ.val from by omega]
    exact bias _ _ _ _ hi hb (by omega) c.isLt _
  split
  · rw [show ρ.val % 128 = ρ.val - 128 from by omega]
    exact bias _ _ _ _ hi hb (by omega) c.isLt _
  split
  · rw [show ρ.val % 128 = ρ.val - 128 - 128 from by omega]
    exact bias _ _ _ _ hi hb (by omega) c.isLt _
  · rw [show ρ.val % 128 = ρ.val - 128 - 128 - 128 from by omega]
    exact bias _ _ _ _ hi hb (by omega) c.isLt _

/-- What the body does to a running softmax: the new largest, normalizer and weighed values from the old and the block's scores and values. -/
structure Step (s : Fin 512 → Fin 128 → EReal) (vb : Vec Ideal S128x128 .bf16) (M L A M' L' A' : Vec Ideal S512x128 .f32) : Prop where
  top : ∀ (ρ : Fin 512) (c : Fin 128), @Eq EReal (M' (ix2 ρ c)) (max (M (ix2 ρ c)) (Finset.univ.fold max ⊥ (s ρ)))
  norm : ∀ (ρ : Fin 512) (c : Fin 128), @Eq EReal (L' (ix2 ρ c)) (Ideal.exp (M (ix2 ρ c) - M' (ix2 ρ c)) * L (ix2 ρ c) + ∑ x, Ideal.exp (s ρ x - M' (ix2 ρ 0)))
  acc : ∀ (ρ : Fin 512) (e : Fin 128), @Eq EReal (A' (ix2 ρ e)) (A (ix2 ρ e) * Ideal.exp (M (ix2 ρ e) - M' (ix2 ρ e)) + ∑ x, Ideal.exp (s ρ x - M' (ix2 ρ 0)) * vb (ix2 x e))

theorem step1 (i : grid0.Coords) (v6 : BitVec 32) (q4 : FVec Ideal S512x128 .bf16) (k : Fin (k0_t1_loop i).trips) (kb vb : Vec Ideal S128x128 .bf16) (b : ℕ) (hb : b < 32) (hi : (i 1).val < 32)
    (hv : Scf.iv v6 1#32 k.val = BitVec.ofNat 32 b) (M L A : Vec Ideal S512x128 .f32) :
    Step (score (i 1).val b q4 kb) vb M L A (k0_pay38 (F := Ideal) (k0_pay13 (F := Ideal) i (k0_pay32 i) (iota Kind.tc S128x128 32 [1] iota_S128x128_d1_w32) v6 q4 1#32 k kb M))
      (k0_pay16 (F := Ideal) i (k0_pay32 i) (iota Kind.tc S128x128 32 [1] iota_S128x128_d1_w32) v6 q4 1#32 k kb M L) (k0_pay37 (F := Ideal) vb (k0_pay14 (F := Ideal) i (k0_pay32 i) (iota Kind.tc S128x128 32 [1] iota_S128x128_d1_w32) v6 q4 1#32 k kb M) (k0_pay15 (F := Ideal) i (k0_pay32 i) (iota Kind.tc S128x128 32 [1] iota_S128x128_d1_w32) v6 q4 1#32 k kb M) A) := by
  have hs := fun ρ c => score1 i v6 q4 k kb b hb hi hv ρ c
  have hm : ∀ ρ c, k0_pay38 (F := Ideal) (k0_pay13 (F := Ideal) i (k0_pay32 i) (iota Kind.tc S128x128 32 [1] iota_S128x128_d1_w32) v6 q4 1#32 k kb M) (ix2 ρ c) = k0_pay13 (F := Ideal) i (k0_pay32 i) (iota Kind.tc S128x128 32 [1] iota_S128x128_d1_w32) v6 q4 1#32 k kb M (ix2 ρ c) := fun ρ c => by pointwise [k0_pay38]
  refine ⟨fun ρ c => ?_, fun ρ c => ?_, fun ρ e => ?_⟩
  · rw [hm]
    pointwise [k0_pay13]
    rw [show Ideal.ofBits FTy.f32 4286578688#32 = (⊥ : EReal) from rfl]
    simp only [hs]
  · rw [hm, hm]
    pointwise [k0_pay16, k0_pay14, k0_pay15]
    simp only [hs]
  · rw [hm, hm]
    pointwise [k0_pay37, k0_pay14, k0_pay15]
    simp only [hs]

theorem step3 (i : grid0.Coords) (v6 : BitVec 32) (q4 : FVec Ideal S512x128 .bf16) (k : Fin (k0_t3_loop i).trips) (kb vb : Vec Ideal S128x128 .bf16) (b : ℕ) (hb : b < 32) (hi : (i 1).val < 32)
    (hv : Scf.iv v6 1#32 k.val = BitVec.ofNat 32 b) (M L A : Vec Ideal S512x128 .f32) :
    Step (score (i 1).val b q4 kb) vb M L A (k0_pay4 (F := Ideal) (k0_pay23 (F := Ideal) i (k0_pay32 i) (iota Kind.tc S128x128 32 [1] iota_S128x128_d1_w32) v6 q4 1#32 k kb M))
      (k0_pay26 (F := Ideal) i (k0_pay32 i) (iota Kind.tc S128x128 32 [1] iota_S128x128_d1_w32) v6 q4 1#32 k kb M L) (k0_pay3 (F := Ideal) vb (k0_pay24 (F := Ideal) i (k0_pay32 i) (iota Kind.tc S128x128 32 [1] iota_S128x128_d1_w32) v6 q4 1#32 k kb M) (k0_pay25 (F := Ideal) i (k0_pay32 i) (iota Kind.tc S128x128 32 [1] iota_S128x128_d1_w32) v6 q4 1#32 k kb M) A) := by
  have hs := fun ρ c => score3 i v6 q4 k kb b hb hi hv ρ c
  have hm : ∀ ρ c, k0_pay4 (F := Ideal) (k0_pay23 (F := Ideal) i (k0_pay32 i) (iota Kind.tc S128x128 32 [1] iota_S128x128_d1_w32) v6 q4 1#32 k kb M) (ix2 ρ c) = k0_pay23 (F := Ideal) i (k0_pay32 i) (iota Kind.tc S128x128 32 [1] iota_S128x128_d1_w32) v6 q4 1#32 k kb M (ix2 ρ c) := fun ρ c => by pointwise [k0_pay4]
  refine ⟨fun ρ c => ?_, fun ρ c => ?_, fun ρ e => ?_⟩
  · rw [hm]
    pointwise [k0_pay23]
    rw [show Ideal.ofBits FTy.f32 4286578688#32 = (⊥ : EReal) from rfl]
    simp only [hs]
  · rw [hm, hm]
    pointwise [k0_pay26, k0_pay24, k0_pay25]
    simp only [hs]
  · rw [hm, hm]
    pointwise [k0_pay3, k0_pay24, k0_pay25]
    simp only [hs]

/-- The running softmax over the keys of `n` blocks from block `lo`, of rows of scores `S` and columns of values `V`. -/
structure Inv (lo n : ℕ) (S : Fin 512 → ℕ → EReal) (V : Fin 128 → ℕ → EReal) (M L A : Vec Ideal S512x128 .f32) : Prop where
  top : ∀ (ρ : Fin 512) (c : Fin 128), @Eq EReal (M (ix2 ρ c)) (Cert.WinProof.top (keys lo n) (S ρ))
  norm : ∀ (ρ : Fin 512) (c : Fin 128), @Eq EReal (L (ix2 ρ c)) (mass (keys lo n) (S ρ) (fun _ => 1))
  acc : ∀ (ρ : Fin 512) (e : Fin 128), @Eq EReal (A (ix2 ρ e)) (mass (keys lo n) (S ρ) (V e))

theorem Inv.succ {lo n : ℕ} {S : Fin 512 → ℕ → EReal} {V : Fin 128 → ℕ → EReal} {M L A M' L' A' : Vec Ideal S512x128 .f32} {s : Fin 512 → Fin 128 → EReal} {vb : Vec Ideal S128x128 .bf16}
    (h : Inv lo n S V M L A) (hst : Step s vb M L A M' L' A') (hS : ∀ ρ k, S ρ k ≠ ⊤) (hs : ∀ ρ (c : Fin 128), s ρ c = S ρ ((lo + n) * 128 + c.val))
    (hv : ∀ (c e : Fin 128), @Eq EReal (vb (ix2 c e)) (V e ((lo + n) * 128 + c.val))) : Inv lo (n + 1) S V M' L' A' := by
  have hm : ∀ (ρ : Fin 512) (c : Fin 128), @Eq EReal (M' (ix2 ρ c)) (Cert.WinProof.top (keys lo (n + 1)) (S ρ)) := fun ρ c => by
    rw [hst.top, h.top, top_succ]
    simp only [hs]
  refine ⟨hm, fun ρ c => ?_, fun ρ e => ?_⟩
  · rw [hst.norm, h.norm, h.top, hm, hm, mass_succ _ _ _ _ (hS ρ)]
    simp only [hs, mul_one]
  · rw [hst.acc, h.acc, h.top, hm, hm, mass_succ _ _ _ _ (hS ρ), mul_comm (mass _ _ _)]
    simp only [hs, hv]

theorem Inv.zero (lo : ℕ) (S : Fin 512 → ℕ → EReal) (V : Fin 128 → ℕ → EReal) {M L A : Vec Ideal S512x128 .f32} (hM : ∀ (ρ : Fin 512) (c : Fin 128), @Eq EReal (M (ix2 ρ c)) ⊥)
    (hL : ∀ (ρ : Fin 512) (c : Fin 128), @Eq EReal (L (ix2 ρ c)) 0) (hA : ∀ (ρ : Fin 512) (c : Fin 128), @Eq EReal (A (ix2 ρ c)) 0) : Inv lo 0 S V M L A :=
  ⟨fun ρ c => (hM ρ c).trans (top_zero lo (S ρ)).symm, fun ρ c => (hL ρ c).trans (mass_zero lo (S ρ) _).symm, fun ρ c => (hA ρ c).trans (mass_zero lo (S ρ) _).symm⟩

end Cert.WinProof

end
-- ==== Proof.WinLoop.lean ====
/-
  The window branch's loop over the blocks of keys: what the scratches hold after a number of trips.
-/
module

public import proofs.«01_k».proof.Proof.WinStep
public import Idealize.ShloMosaic.Lib.VecWindow
public import Idealize.ShloMosaic.Lib.Pipeline.ValueKit.Acc
public import Idealize.ShloMosaic.Lib.Pipeline.ValueKit.Geometry
public import Idealize.ShloMosaic.Lib.Pipeline.ValueKit.Point

@[expose] public section

set_option maxRecDepth 16384

noncomputable section

namespace Cert.WinProof

open Idealize.ShloMosaic Idealize.ShloMosaic.TcCoe Idealize.SL.Sem
open Cert.WinIdeal Cert.WinIdeal.Gen

variable (𝒱 : Variants) (c : Dev nD) (bd : Option 𝒱.V) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole)

/-- The lanes of a tile, and the first block of keys in the window, as words. -/
abbrev lanes : IVec S128x128 32 := iota Kind.tc S128x128 32 [1] iota_S128x128_d1_w32
abbrev first (i : grid0.Coords) : BitVec 32 := Scalar.maxsi (Scalar.subi (BitVec.ofNat 32 (i 1).val) 4#32) 0#32

/-- The block of keys of a trip, as a word. -/
theorem iv_eq (i : grid0.Coords) (k : ℕ) : Scf.iv (first i) 1#32 k = BitVec.ofNat 32 ((i 1).val - 4 + k) := by
  have h : ∀ x : Fin 32, Scalar.maxsi (Scalar.subi (BitVec.ofNat 32 x.val) 4#32) 0#32 = BitVec.ofNat 32 (x.val - 4) := by decide +kernel
  unfold Scf.iv
  rw [BitVec.ofNat_add, BitVec.mul_one]
  exact congrArg (fun w => w + BitVec.ofNat 32 k) (h ⟨(i 1).val, (i 1).isLt⟩)

/-- The number of trips: one for each block from four before the queries' own to it. -/
theorem trips_eq (i : grid0.Coords) : (k0_t1_loop i).trips = (i 1).val + 1 - ((i 1).val - 4) := by
  have h : ∀ x : Fin 32, (Scf.Loop.trips ⟨Scalar.maxsi (Scalar.subi (BitVec.ofNat 32 x.val) 4#32) 0#32, Scalar.addi (Scalar.maxsi (Scalar.subi (BitVec.ofNat 32 x.val) 4#32) 0#32) (Scalar.muli (Scalar.divsi (Scalar.subi (Scalar.addi (BitVec.ofNat 32 x.val) 1#32) (Scalar.maxsi (Scalar.subi (BitVec.ofNat 32 x.val) 4#32) 0#32)) 1#32) 1#32), 1#32⟩ : ℕ) = x.val + 1 - (x.val - 4) := by decide +kernel
  exact h ⟨(i 1).val, (i 1).isLt⟩

theorem trips3_eq (i : grid0.Coords) : (k0_t3_loop i).trips = (i 1).val + 1 - ((i 1).val - 4) := trips_eq i

/-- The rows of keys and values a trip loads. -/
theorem row1 (i : grid0.Coords) (k : Fin (k0_t1_loop i).trips) : k0_off1 i k = ![((i 1).val - 4 + k.val) * 128, 0] := by
  have hi : (i 1).val < 32 := (i 1).isLt
  have hk := k.isLt.trans_eq (trips_eq i)
  have h : (Scalar.muli (Scf.iv (first i) 1#32 k.val) 128#32).toNat = ((i 1).val - 4 + k.val) * 128 := by
    rw [iv_eq]
    show (BitVec.ofNat 32 ((i 1).val - 4 + k.val) * 128#32).toNat = _
    rw [BitVec.toNat_mul, BitVec.toNat_ofNat, show (128#32).toNat = 128 from rfl]
    omega
  exact congrArg (fun n : ℕ => ![n, 0]) h

theorem row3 (i : grid0.Coords) (k : Fin (k0_t3_loop i).trips) : k0_off3 i k = ![((i 1).val - 4 + k.val) * 128, 128] := by
  have h := congrFun (row1 i k) 0
  exact congrArg (fun n : ℕ => ![n, 128]) h

/-- A row of queries' scores by a key's position: hidden outside of the window and past the batch. -/
def line (qb : ℕ) (q4 : FVec Ideal S512x128 .bf16) (K : Vec Ideal S4096x256 .bf16) (g : Fin 2) (ρ : Fin 512) (j : ℕ) : EReal :=
  if h : j < 4096 then (if near (qb * 128 + ρ.val % 128) j then ∑ d : Fin 128, q4 (ix2 ρ d) * K (ix2 ⟨j, h⟩ ⟨g.val * 128 + d.val, by omega⟩) else ⊥) else ⊥

/-- A column of values by a key's position. -/
def column (V : Vec Ideal S4096x256 .bf16) (g : Fin 2) (e : Fin 128) (j : ℕ) : EReal :=
  if h : j < 4096 then V (ix2 ⟨j, h⟩ ⟨g.val * 128 + e.val, by omega⟩) else 0

/-- A block of keys read through the view at an offset. -/
theorem ld_at {κ sp} (arg3 : Memref sig κ sp S4096x256 .bf16) (X3 : BufTy.Contents (Elt Ideal) arg3.view.ty) (off : Fin 2 → ℕ) (inb : ∀ a, off a + S128x128.size a ≤ S4096x256.size a) (b : ℕ) (g : Fin 2) (hb : b < 32)
    (h : off = ![b * 128, g.val * 128]) (x d : Fin 128) :
    @Eq EReal (View.readAt (Elt Ideal) arg3.view (Rect.unit (s := S4096x256) off S128x128.size inb).toLoadRect X3 (ix2 x d : S128x128.Idx))
      (arg3.view.read (Elt Ideal) X3 (ix2 ⟨b * 128 + x.val, by omega⟩ ⟨g.val * 128 + d.val, by omega⟩ : S4096x256.Idx)) := by
  subst h
  refine congrArg (arg3.view.read (Elt Ideal) X3) ?_
  funext a
  apply Fin.ext
  fin_cases a
  · exact (by omega : b * 128 + 1 * x.val = b * 128 + x.val)
  · exact (by omega : g.val * 128 + 1 * d.val = g.val * 128 + d.val)

/-- What a trip of the loop of group 0 writes: the body's results over the whole scratches. -/
theorem trip1_top (v8 v9 v10 v11 : Vec Ideal S128x128 .bf16) (X3 : BufTy.Contents (Elt Ideal) arg3.view.ty) (X4 : BufTy.Contents (Elt Ideal) arg4.view.ty) (k : Fin (k0_t1_loop i).trips) (f6 : BufTy.Contents (Elt Ideal) arg6.view.ty) (f7 : BufTy.Contents (Elt Ideal) arg7.view.ty) (f8 : BufTy.Contents (Elt Ideal) arg8.view.ty) :
    (trip_k0_t1 (F := Ideal) 𝒱 c bd i arg2 harg2 arg3 harg3 arg4 harg4 arg5 harg5 arg6 harg6 arg7 harg7 arg8 harg8 lanes (first i) v8 v9 v10 v11 X3 X4 k).1 f6 f7 f8 = [⟨Rect.unit (s := S512x128) ![0, 0] S512x128.size inb_S512x128_S512x128_0_0, k0_pay38 (k0_pay13 i (k0_pay32 i) lanes (first i) (k0_pay33 v8 v9 v10 v11) 1#32 k (View.readAt (Elt Ideal) arg3.view (Rect.unit (s := S4096x256) (k0_off1 i k) S128x128.size (k0_off1_inb i k)).toLoadRect X3) (View.readAt (Elt Ideal) arg6.view (Rect.unit (s := S512x128) ![0, 0] S512x128.size inb_S512x128_S512x128_0_0).toLoadRect f6))⟩] := by
  unfold trip_k0_t1
  rfl

theorem trip1_norm (v8 v9 v10 v11 : Vec Ideal S128x128 .bf16) (X3 : BufTy.Contents (Elt Ideal) arg3.view.ty) (X4 : BufTy.Contents (Elt Ideal) arg4.view.ty) (k : Fin (k0_t1_loop i).trips) (f6 : BufTy.Contents (Elt Ideal) arg6.view.ty) (f7 : BufTy.Contents (Elt Ideal) arg7.view.ty) (f8 : BufTy.Contents (Elt Ideal) arg8.view.ty) :
    (trip_k0_t1 (F := Ideal) 𝒱 c bd i arg2 harg2 arg3 harg3 arg4 harg4 arg5 harg5 arg6 harg6 arg7 harg7 arg8 harg8 lanes (first i) v8 v9 v10 v11 X3 X4 k).2.1 f6 f7 f8 = [⟨Rect.unit (s := S512x128) ![0, 0] S512x128.size inb_S512x128_S512x128_0_0, k0_pay16 i (k0_pay32 i) lanes (first i) (k0_pay33 v8 v9 v10 v11) 1#32 k (View.readAt (Elt Ideal) arg3.view (Rect.unit (s := S4096x256) (k0_off1 i k) S128x128.size (k0_off1_inb i k)).toLoadRect X3) (View.readAt (Elt Ideal) arg6.view (Rect.unit (s := S512x128) ![0, 0] S512x128.size inb_S512x128_S512x128_0_0).toLoadRect f6) (View.readAt (Elt Ideal) arg7.view (Rect.unit (s := S512x128) ![0, 0] S512x128.size inb_S512x128_S512x128_0_0).toLoadRect f7)⟩] := by
  unfold trip_k0_t1
  rfl

theorem trip1_acc (v8 v9 v10 v11 : Vec Ideal S128x128 .bf16) (X3 : BufTy.Contents (Elt Ideal) arg3.view.ty) (X4 : BufTy.Contents (Elt Ideal) arg4.view.ty) (k : Fin (k0_t1_loop i).trips) (f6 : BufTy.Contents (Elt Ideal) arg6.view.ty) (f7 : BufTy.Contents (Elt Ideal) arg7.view.ty) (f8 : BufTy.Contents (Elt Ideal) arg8.view.ty) :
    (trip_k0_t1 (F := Ideal) 𝒱 c bd i arg2 harg2 arg3 harg3 arg4 harg4 arg5 harg5 arg6 harg6 arg7 harg7 arg8 harg8 lanes (first i) v8 v9 v10 v11 X3 X4 k).2.2.1 f6 f7 f8 = [⟨Rect.unit (s := S512x128) ![0, 0] S512x128.size inb_S512x128_S512x128_0_0, k0_pay37 (View.readAt (Elt Ideal) arg4.view (Rect.unit (s := S4096x256) (k0_off1 i k) S128x128.size (k0_off1_inb i k)).toLoadRect X4) (k0_pay14 i (k0_pay32 i) lanes (first i) (k0_pay33 v8 v9 v10 v11) 1#32 k (View.readAt (Elt Ideal) arg3.view (Rect.unit (s := S4096x256) (k0_off1 i k) S128x128.size (k0_off1_inb i k)).toLoadRect X3) (View.readAt (Elt Ideal) arg6.view (Rect.unit (s := S512x128) ![0, 0] S512x128.size inb_S512x128_S512x128_0_0).toLoadRect f6)) (k0_pay15 i (k0_pay32 i) lanes (first i) (k0_pay33 v8 v9 v10 v11) 1#32 k (View.readAt (Elt Ideal) arg3.view (Rect.unit (s := S4096x256) (k0_off1 i k) S128x128.size (k0_off1_inb i k)).toLoadRect X3) (View.readAt (Elt Ideal) arg6.view (Rect.unit (s := S512x128) ![0, 0] S512x128.size inb_S512x128_S512x128_0_0).toLoadRect f6)) (View.readAt (Elt Ideal) arg8.view (Rect.unit (s := S512x128) ![0, 0] S512x128.size inb_S512x128_S512x128_0_0).toLoadRect f8)⟩] := by
  unfold trip_k0_t1
  rfl

/-- THE LOOP'S INVARIANT of group 0: after `n` trips the scratches hold the running softmax over the first `n` blocks in the window. -/
theorem loop1 (v8 v9 v10 v11 : Vec Ideal S128x128 .bf16) (X3 : BufTy.Contents (Elt Ideal) arg3.view.ty) (X4 : BufTy.Contents (Elt Ideal) arg4.view.ty) (G6 : BufTy.Contents (Elt Ideal) arg6.view.ty) (G7 : BufTy.Contents (Elt Ideal) arg7.view.ty) (G8 : BufTy.Contents (Elt Ideal) arg8.view.ty)
    (hS : ∀ ρ k, line (i 1).val (k0_pay33 v8 v9 v10 v11) (arg3.view.read (Elt Ideal) X3) 0 ρ k ≠ ⊤)
    (h0 : Inv ((i 1).val - 4) 0 (line (i 1).val (k0_pay33 v8 v9 v10 v11) (arg3.view.read (Elt Ideal) X3) 0) (column (arg4.view.read (Elt Ideal) X4) 0)
      (arg6.view.read (Elt Ideal) G6) (arg7.view.read (Elt Ideal) G7) (arg8.view.read (Elt Ideal) G8)) (n : ℕ) (hn : n ≤ (k0_t1_loop i).trips) :
    Inv ((i 1).val - 4) n (line (i 1).val (k0_pay33 v8 v9 v10 v11) (arg3.view.read (Elt Ideal) X3) 0) (column (arg4.view.read (Elt Ideal) X4) 0)
      (arg6.view.read (Elt Ideal) (arg6.view.writes (Elt Ideal) G6 (pb_k0_t1 (F := Ideal) 𝒱 c bd i arg2 harg2 arg3 harg3 arg4 harg4 arg5 harg5 arg6 harg6 arg7 harg7 arg8 harg8 lanes (first i) v8 v9 v10 v11 X3 X4 G6 G7 G8 n).1))
      (arg7.view.read (Elt Ideal) (arg7.view.writes (Elt Ideal) G7 (pb_k0_t1 (F := Ideal) 𝒱 c bd i arg2 harg2 arg3 harg3 arg4 harg4 arg5 harg5 arg6 harg6 arg7 harg7 arg8 harg8 lanes (first i) v8 v9 v10 v11 X3 X4 G6 G7 G8 n).2.1))
      (arg8.view.read (Elt Ideal) (arg8.view.writes (Elt Ideal) G8 (pb_k0_t1 (F := Ideal) 𝒱 c bd i arg2 harg2 arg3 harg3 arg4 harg4 arg5 harg5 arg6 harg6 arg7 harg7 arg8 harg8 lanes (first i) v8 v9 v10 v11 X3 X4 G6 G7 G8 n).2.2)) := by
  have hi : (i 1).val < 32 := (i 1).isLt
  induction n with
  | zero => exact h0
  | succ n ih =>
    have hk : n < (k0_t1_loop i).trips := hn
    have hk' := hk
    rw [trips_eq] at hk'
    have hb : (i 1).val - 4 + n < 32 := by omega
    have ih := ih hk.le
    have e := pb_k0_t1_succ (F := Ideal) 𝒱 c bd i arg2 harg2 arg3 harg3 arg4 harg4 arg5 harg5 arg6 harg6 arg7 harg7 arg8 harg8 lanes (first i) v8 v9 v10 v11 X3 X4 G6 G7 G8 ⟨n, hk⟩
    dsimp only at e
    rw [e]
    dsimp only
    generalize pb_k0_t1 (F := Ideal) 𝒱 c bd i arg2 harg2 arg3 harg3 arg4 harg4 arg5 harg5 arg6 harg6 arg7 harg7 arg8 harg8 lanes (first i) v8 v9 v10 v11 X3 X4 G6 G7 G8 n = prev at ih
    obtain ⟨P6, P7, P8⟩ := prev
    dsimp only at ih ⊢
    rw [trip1_top, trip1_norm, trip1_acc]
    rw [List.singleton_append, List.singleton_append, List.singleton_append]
    rw [View.read_writes_full (s := S512x128), View.read_writes_full (s := S512x128), View.read_writes_full (s := S512x128)]
    have hst := step1 i (first i) (k0_pay33 v8 v9 v10 v11) ⟨n, hk⟩ (View.readAt (Elt Ideal) arg3.view (Rect.unit (s := S4096x256) (k0_off1 i ⟨n, hk⟩) S128x128.size (k0_off1_inb i ⟨n, hk⟩)).toLoadRect X3) (View.readAt (Elt Ideal) arg4.view (Rect.unit (s := S4096x256) (k0_off1 i ⟨n, hk⟩) S128x128.size (k0_off1_inb i ⟨n, hk⟩)).toLoadRect X4) _ hb hi (iv_eq i n)
      (arg6.view.read (Elt Ideal) (arg6.view.writes (Elt Ideal) G6 P6)) (arg7.view.read (Elt Ideal) (arg7.view.writes (Elt Ideal) G7 P7)) (arg8.view.read (Elt Ideal) (arg8.view.writes (Elt Ideal) G8 P8))
    have r6 : (View.readAt (Elt Ideal) arg6.view (Rect.unit (s := S512x128) ![0, 0] S512x128.size inb_S512x128_S512x128_0_0).toLoadRect (arg6.view.writes (Elt Ideal) G6 P6)) = _ := View.readAt_full (s := S512x128) _ _ _
    have r7 : (View.readAt (Elt Ideal) arg7.view (Rect.unit (s := S512x128) ![0, 0] S512x128.size inb_S512x128_S512x128_0_0).toLoadRect (arg7.view.writes (Elt Ideal) G7 P7)) = _ := View.readAt_full (s := S512x128) _ _ _
    have r8 : (View.readAt (Elt Ideal) arg8.view (Rect.unit (s := S512x128) ![0, 0] S512x128.size inb_S512x128_S512x128_0_0).toLoadRect (arg8.view.writes (Elt Ideal) G8 P8)) = _ := View.readAt_full (s := S512x128) _ _ _
    rw [r6, r7, r8]
    refine ih.succ hst hS (fun ρ x => ?_) (fun x e => ?_)
    · unfold score line
      rw [dif_pos (show ((i 1).val - 4 + n) * 128 + x.val < 4096 by omega)]
      refine if_congr Iff.rfl (Finset.sum_congr rfl fun d _ => congrArg (fun y : EReal => (k0_pay33 v8 v9 v10 v11) (ix2 ρ d) * y) ?_) rfl
      exact ld_at arg3 X3 _ _ ((i 1).val - 4 + n) 0 hb (row1 i ⟨n, hk⟩) x d
    · unfold column
      rw [dif_pos (show ((i 1).val - 4 + n) * 128 + x.val < 4096 by omega)]
      exact ld_at arg4 X4 _ _ ((i 1).val - 4 + n) 0 hb (row1 i ⟨n, hk⟩) x e

/-- What a trip of the loop of group 1 writes: the body's results over the whole scratches. -/
theorem trip3_top (v49 : FVec Ideal S512x128 .bf16) (X3 : BufTy.Contents (Elt Ideal) arg3.view.ty) (X4 : BufTy.Contents (Elt Ideal) arg4.view.ty) (k : Fin (k0_t3_loop i).trips) (f6 : BufTy.Contents (Elt Ideal) arg6.view.ty) (f7 : BufTy.Contents (Elt Ideal) arg7.view.ty) (f8 : BufTy.Contents (Elt Ideal) arg8.view.ty) :
    (trip_k0_t3 (F := Ideal) 𝒱 c bd i arg2 harg2 arg3 harg3 arg4 harg4 arg5 harg5 arg6 harg6 arg7 harg7 arg8 harg8 (k0_pay32 i) lanes (first i) v49 X3 X4 k).1 f6 f7 f8 = [⟨Rect.unit (s := S512x128) ![0, 0] S512x128.size inb_S512x128_S512x128_0_0, k0_pay4 (k0_pay23 i (k0_pay32 i) lanes (first i) v49 1#32 k (View.readAt (Elt Ideal) arg3.view (Rect.unit (s := S4096x256) (k0_off3 i k) S128x128.size (k0_off3_inb i k)).toLoadRect X3) (View.readAt (Elt Ideal) arg6.view (Rect.unit (s := S512x128) ![0, 0] S512x128.size inb_S512x128_S512x128_0_0).toLoadRect f6))⟩] := by
  unfold trip_k0_t3
  rfl

theorem trip3_norm (v49 : FVec Ideal S512x128 .bf16) (X3 : BufTy.Contents (Elt Ideal) arg3.view.ty) (X4 : BufTy.Contents (Elt Ideal) arg4.view.ty) (k : Fin (k0_t3_loop i).trips) (f6 : BufTy.Contents (Elt Ideal) arg6.view.ty) (f7 : BufTy.Contents (Elt Ideal) arg7.view.ty) (f8 : BufTy.Contents (Elt Ideal) arg8.view.ty) :
    (trip_k0_t3 (F := Ideal) 𝒱 c bd i arg2 harg2 arg3 harg3 arg4 harg4 arg5 harg5 arg6 harg6 arg7 harg7 arg8 harg8 (k0_pay32 i) lanes (first i) v49 X3 X4 k).2.1 f6 f7 f8 = [⟨Rect.unit (s := S512x128) ![0, 0] S512x128.size inb_S512x128_S512x128_0_0, k0_pay26 i (k0_pay32 i) lanes (first i) v49 1#32 k (View.readAt (Elt Ideal) arg3.view (Rect.unit (s := S4096x256) (k0_off3 i k) S128x128.size (k0_off3_inb i k)).toLoadRect X3) (View.readAt (Elt Ideal) arg6.view (Rect.unit (s := S512x128) ![0, 0] S512x128.size inb_S512x128_S512x128_0_0).toLoadRect f6) (View.readAt (Elt Ideal) arg7.view (Rect.unit (s := S512x128) ![0, 0] S512x128.size inb_S512x128_S512x128_0_0).toLoadRect f7)⟩] := by
  unfold trip_k0_t3
  rfl

theorem trip3_acc (v49 : FVec Ideal S512x128 .bf16) (X3 : BufTy.Contents (Elt Ideal) arg3.view.ty) (X4 : BufTy.Contents (Elt Ideal) arg4.view.ty) (k : Fin (k0_t3_loop i).trips) (f6 : BufTy.Contents (Elt Ideal) arg6.view.ty) (f7 : BufTy.Contents (Elt Ideal) arg7.view.ty) (f8 : BufTy.Contents (Elt Ideal) arg8.view.ty) :
    (trip_k0_t3 (F := Ideal) 𝒱 c bd i arg2 harg2 arg3 harg3 arg4 harg4 arg5 harg5 arg6 harg6 arg7 harg7 arg8 harg8 (k0_pay32 i) lanes (first i) v49 X3 X4 k).2.2.1 f6 f7 f8 = [⟨Rect.unit (s := S512x128) ![0, 0] S512x128.size inb_S512x128_S512x128_0_0, k0_pay3 (View.readAt (Elt Ideal) arg4.view (Rect.unit (s := S4096x256) (k0_off3 i k) S128x128.size (k0_off3_inb i k)).toLoadRect X4) (k0_pay24 i (k0_pay32 i) lanes (first i) v49 1#32 k (View.readAt (Elt Ideal) arg3.view (Rect.unit (s := S4096x256) (k0_off3 i k) S128x128.size (k0_off3_inb i k)).toLoadRect X3) (View.readAt (Elt Ideal) arg6.view (Rect.unit (s := S512x128) ![0, 0] S512x128.size inb_S512x128_S512x128_0_0).toLoadRect f6)) (k0_pay25 i (k0_pay32 i) lanes (first i) v49 1#32 k (View.readAt (Elt Ideal) arg3.view (Rect.unit (s := S4096x256) (k0_off3 i k) S128x128.size (k0_off3_inb i k)).toLoadRect X3) (View.readAt (Elt Ideal) arg6.view (Rect.unit (s := S512x128) ![0, 0] S512x128.size inb_S512x128_S512x128_0_0).toLoadRect f6)) (View.readAt (Elt Ideal) arg8.view (Rect.unit (s := S512x128) ![0, 0] S512x128.size inb_S512x128_S512x128_0_0).toLoadRect f8)⟩] := by
  unfold trip_k0_t3
  rfl

/-- THE LOOP'S INVARIANT of group 1: after `n` trips the scratches hold the running softmax over the first `n` blocks in the window. -/
theorem loop3 (v49 : FVec Ideal S512x128 .bf16) (X3 : BufTy.Contents (Elt Ideal) arg3.view.ty) (X4 : BufTy.Contents (Elt Ideal) arg4.view.ty) (G6 : BufTy.Contents (Elt Ideal) arg6.view.ty) (G7 : BufTy.Contents (Elt Ideal) arg7.view.ty) (G8 : BufTy.Contents (Elt Ideal) arg8.view.ty)
    (hS : ∀ ρ k, line (i 1).val v49 (arg3.view.read (Elt Ideal) X3) 1 ρ k ≠ ⊤)
    (h0 : Inv ((i 1).val - 4) 0 (line (i 1).val v49 (arg3.view.read (Elt Ideal) X3) 1) (column (arg4.view.read (Elt Ideal) X4) 1)
      (arg6.view.read (Elt Ideal) G6) (arg7.view.read (Elt Ideal) G7) (arg8.view.read (Elt Ideal) G8)) (n : ℕ) (hn : n ≤ (k0_t3_loop i).trips) :
    Inv ((i 1).val - 4) n (line (i 1).val v49 (arg3.view.read (Elt Ideal) X3) 1) (column (arg4.view.read (Elt Ideal) X4) 1)
      (arg6.view.read (Elt Ideal) (arg6.view.writes (Elt Ideal) G6 (pb_k0_t3 (F := Ideal) 𝒱 c bd i arg2 harg2 arg3 harg3 arg4 harg4 arg5 harg5 arg6 harg6 arg7 harg7 arg8 harg8 (k0_pay32 i) lanes (first i) v49 X3 X4 G6 G7 G8 n).1))
      (arg7.view.read (Elt Ideal) (arg7.view.writes (Elt Ideal) G7 (pb_k0_t3 (F := Ideal) 𝒱 c bd i arg2 harg2 arg3 harg3 arg4 harg4 arg5 harg5 arg6 harg6 arg7 harg7 arg8 harg8 (k0_pay32 i) lanes (first i) v49 X3 X4 G6 G7 G8 n).2.1))
      (arg8.view.read (Elt Ideal) (arg8.view.writes (Elt Ideal) G8 (pb_k0_t3 (F := Ideal) 𝒱 c bd i arg2 harg2 arg3 harg3 arg4 harg4 arg5 harg5 arg6 harg6 arg7 harg7 arg8 harg8 (k0_pay32 i) lanes (first i) v49 X3 X4 G6 G7 G8 n).2.2)) := by
  have hi : (i 1).val < 32 := (i 1).isLt
  induction n with
  | zero => exact h0
  | succ n ih =>
    have hk : n < (k0_t3_loop i).trips := hn
    have hk' := hk
    rw [trips3_eq] at hk'
    have hb : (i 1).val - 4 + n < 32 := by omega
    have ih := ih hk.le
    have e := pb_k0_t3_succ (F := Ideal) 𝒱 c bd i arg2 harg2 arg3 harg3 arg4 harg4 arg5 harg5 arg6 harg6 arg7 harg7 arg8 harg8 (k0_pay32 i) lanes (first i) v49 X3 X4 G6 G7 G8 ⟨n, hk⟩
    dsimp only at e
    rw [e]
    dsimp only
    generalize pb_k0_t3 (F := Ideal) 𝒱 c bd i arg2 harg2 arg3 harg3 arg4 harg4 arg5 harg5 arg6 harg6 arg7 harg7 arg8 harg8 (k0_pay32 i) lanes (first i) v49 X3 X4 G6 G7 G8 n = prev at ih
    obtain ⟨P6, P7, P8⟩ := prev
    dsimp only at ih ⊢
    rw [trip3_top, trip3_norm, trip3_acc]
    rw [List.singleton_append, List.singleton_append, List.singleton_append]
    rw [View.read_writes_full (s := S512x128), View.read_writes_full (s := S512x128), View.read_writes_full (s := S512x128)]
    have hst := step3 i (first i) v49 ⟨n, hk⟩ (View.readAt (Elt Ideal) arg3.view (Rect.unit (s := S4096x256) (k0_off3 i ⟨n, hk⟩) S128x128.size (k0_off3_inb i ⟨n, hk⟩)).toLoadRect X3) (View.readAt (Elt Ideal) arg4.view (Rect.unit (s := S4096x256) (k0_off3 i ⟨n, hk⟩) S128x128.size (k0_off3_inb i ⟨n, hk⟩)).toLoadRect X4) _ hb hi (iv_eq i n)
      (arg6.view.read (Elt Ideal) (arg6.view.writes (Elt Ideal) G6 P6)) (arg7.view.read (Elt Ideal) (arg7.view.writes (Elt Ideal) G7 P7)) (arg8.view.read (Elt Ideal) (arg8.view.writes (Elt Ideal) G8 P8))
    have r6 : (View.readAt (Elt Ideal) arg6.view (Rect.unit (s := S512x128) ![0, 0] S512x128.size inb_S512x128_S512x128_0_0).toLoadRect (arg6.view.writes (Elt Ideal) G6 P6)) = _ := View.readAt_full (s := S512x128) _ _ _
    have r7 : (View.readAt (Elt Ideal) arg7.view (Rect.unit (s := S512x128) ![0, 0] S512x128.size inb_S512x128_S512x128_0_0).toLoadRect (arg7.view.writes (Elt Ideal) G7 P7)) = _ := View.readAt_full (s := S512x128) _ _ _
    have r8 : (View.readAt (Elt Ideal) arg8.view (Rect.unit (s := S512x128) ![0, 0] S512x128.size inb_S512x128_S512x128_0_0).toLoadRect (arg8.view.writes (Elt Ideal) G8 P8)) = _ := View.readAt_full (s := S512x128) _ _ _
    rw [r6, r7, r8]
    refine ih.succ hst hS (fun ρ x => ?_) (fun x e => ?_)
    · unfold score line
      rw [dif_pos (show ((i 1).val - 4 + n) * 128 + x.val < 4096 by omega)]
      refine if_congr Iff.rfl (Finset.sum_congr rfl fun d _ => congrArg (fun y : EReal => v49 (ix2 ρ d) * y) ?_) rfl
      exact ld_at arg3 X3 _ _ ((i 1).val - 4 + n) 1 hb (row3 i ⟨n, hk⟩) x d
    · unfold column
      rw [dif_pos (show ((i 1).val - 4 + n) * 128 + x.val < 4096 by omega)]
      exact ld_at arg4 X4 _ _ ((i 1).val - 4 + n) 1 hb (row3 i ⟨n, hk⟩) x e

end Cert.WinProof

end
-- ==== Proof.WinBlocks.lean ====
/-
  The window branch: the blocks the grid point reads and writes at an index of the arrays.
-/
module

public import proofs.«01_k».proof.Proof.Gen.WinIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.WinProof

open Idealize.ShloMosaic Idealize.ShloMosaic.TcCoe Idealize.SL.Sem
open Cert.WinIdeal Cert.WinIdeal.Gen

variable (m : (ℓ : Loc nD τ sig) → Buf (Elt Ideal) ℓ)

/-- The arguments as arrays. -/
abbrev arr0 : (⟨S32768x1536, .bf16⟩ : BufTy).Contents (Elt Ideal) := m (((0 : Dev nD) : Thread nD τ).loc main_arg0)
abbrev arr1 : (⟨S32768x9856, .bf16⟩ : BufTy).Contents (Elt Ideal) := m (((0 : Dev nD) : Thread nD τ).loc main_arg1)

/-- The grid's second coordinate is the tile within the batch. -/
theorem coord1 : ∀ t : Fin cfg0.N, (grid0.coords t 1).val = t.val % 32 := (by decide +kernel : ∀ t : Fin grid0.N, (grid0.coords t 1).val = t.val % 32)

/-- The blocks of the windows at a grid point. -/
theorem idx0 : ∀ t : Fin cfg0.N, ∀ b : Fin 2, win0_0.index t b = (![t.val, 0] : Fin 2 → ℕ) b := (by decide +kernel : ∀ t : Fin grid0.N, ∀ b : Fin 2, win0_0.index t b = (![t.val, 0] : Fin 2 → ℕ) b)
theorem idx1 : ∀ t : Fin cfg0.N, ∀ b : Fin 2, win0_1.index t b = (![t.val / 32, 5] : Fin 2 → ℕ) b := (by decide +kernel : ∀ t : Fin grid0.N, ∀ b : Fin 2, win0_1.index t b = (![t.val / 32, 5] : Fin 2 → ℕ) b)
theorem idx2 : ∀ t : Fin cfg0.N, ∀ b : Fin 2, win0_2.index t b = (![t.val / 32, 37] : Fin 2 → ℕ) b := (by decide +kernel : ∀ t : Fin grid0.N, ∀ b : Fin 2, win0_2.index t b = (![t.val / 32, 37] : Fin 2 → ℕ) b)
theorem idx3 : ∀ t : Fin cfg0.N, ∀ b : Fin 2, win0_3.index t b = (![t.val, 0] : Fin 2 → ℕ) b := (by decide +kernel : ∀ t : Fin grid0.N, ∀ b : Fin 2, win0_3.index t b = (![t.val, 0] : Fin 2 → ℕ) b)

/-- The block of queries at a grid point. -/
theorem q_at (t : Fin 256) (a : Fin 128) (k : Fin 1024) :
    @Eq EReal (X0_0 m 0 t (ix2 a k : S128x1024.Idx)) (arr0 m (ix2 ⟨t.val * 128 + a.val, by omega⟩ ⟨k.val, by omega⟩)) := by
  unfold X0_0 Pipeline.Window.fill
  rw [dif_pos (moved0_0 t _)]
  refine (show _ = (V m 0 main_arg0 : (⟨S32768x1536, .bf16⟩ : BufTy).Contents (Elt Ideal)) (((cfg0.win 0).rect t).emb _) from rfl).trans ?_
  rw [V_main_arg0 m 0]
  refine congrArg (arr0 m) ?_
  funext b
  apply Fin.ext
  refine (Pipeline.Window.rect_emb_val _ _ _ _).trans ?_
  rw [show (cfg0.win 0).index t b = (![t.val, 0] : Fin 2 → ℕ) b from idx0 t b, show (cfg0.win 0).size b = S128x1024.size b from rfl]
  fin_cases b
  · exact (by omega : (t.val) * 128 + a.val = t.val * 128 + a.val)
  · exact (by omega : 0 * 1024 + k.val = k.val)

/-- The keys of a grid point's batch. -/
theorem k_at (t : Fin 256) (a : Fin 4096) (k : Fin 256) :
    @Eq EReal (iblk m 0 1 t (ix2 a k : S4096x256.Idx)) (arr0 m (ix2 ⟨t.val / 32 * 4096 + a.val, by omega⟩ ⟨1280 + k.val, by omega⟩)) := by
  refine (show _ = (V m 0 main_arg0 : (⟨S32768x1536, .bf16⟩ : BufTy).Contents (Elt Ideal)) (((cfg0.win 1).rect t).emb (ix2 a k : S4096x256.Idx)) from rfl).trans ?_
  rw [V_main_arg0 m 0]
  refine congrArg (arr0 m) ?_
  funext b
  apply Fin.ext
  refine (Pipeline.Window.rect_emb_val _ _ _ _).trans ?_
  rw [show (cfg0.win 1).index t b = (![t.val / 32, 5] : Fin 2 → ℕ) b from idx1 t b, show (cfg0.win 1).size b = S4096x256.size b from rfl]
  fin_cases b
  · exact (by omega : (t.val / 32) * 4096 + a.val = t.val / 32 * 4096 + a.val)
  · exact (by omega : 5 * 256 + k.val = 1280 + k.val)

/-- The values of a grid point's batch. -/
theorem v_at (t : Fin 256) (a : Fin 4096) (k : Fin 256) :
    @Eq EReal (X0_2 m 0 t (ix2 a k : S4096x256.Idx)) (arr1 m (ix2 ⟨t.val / 32 * 4096 + a.val, by omega⟩ ⟨9472 + k.val, by omega⟩)) := by
  unfold X0_2 Pipeline.Window.fill
  rw [dif_pos (moved0_2 t _)]
  refine (show _ = (V m 0 main_arg1 : (⟨S32768x9856, .bf16⟩ : BufTy).Contents (Elt Ideal)) (((cfg0.win 2).rect t).emb _) from rfl).trans ?_
  rw [V_main_arg1 m 0]
  refine congrArg (arr1 m) ?_
  funext b
  apply Fin.ext
  refine (Pipeline.Window.rect_emb_val _ _ _ _).trans ?_
  rw [show (cfg0.win 2).index t b = (![t.val / 32, 37] : Fin 2 → ℕ) b from idx2 t b, show (cfg0.win 2).size b = S4096x256.size b from rfl]
  fin_cases b
  · exact (by omega : (t.val / 32) * 4096 + a.val = t.val / 32 * 4096 + a.val)
  · exact (by omega : 37 * 256 + k.val = 9472 + k.val)

/-- A result block's element in the array. -/
theorem y_at (t : Fin 256) (a : Fin 128) (d : Fin 1024) :
    @Eq S32768x1024.Idx (((cfg0.win 3).rect t).emb (ix2 a d : S128x1024.Idx)) (ix2 ⟨t.val * 128 + a.val, by omega⟩ d) := by
  funext b
  apply Fin.ext
  refine (Pipeline.Window.rect_emb_val _ _ _ _).trans ?_
  rw [show (cfg0.win 3).index t b = (![t.val, 0] : Fin 2 → ℕ) b from idx3 t b, show (cfg0.win 3).size b = S128x1024.size b from rfl]
  fin_cases b
  · exact (by omega : t.val * 128 + a.val = t.val * 128 + a.val)
  · exact (by omega : 0 * 1024 + d.val = d.val)

/-- Every block of the result is written back, one for each grid point. -/
theorem covers : (cfg0.win 3).Covers := by
  have n0 : (cfg0.win 3).nblk (0 : Fin 2) = grid0.N := by
    show (S32768x1024.size 0 + S128x1024.size 0 - 1) / S128x1024.size 0 = grid0.N
    decide
  have n1 : (cfg0.win 3).nblk (1 : Fin 2) = 1 := by
    show (S32768x1024.size 1 + S128x1024.size 1 - 1) / S128x1024.size 1 = 1
    decide
  refine ⟨fun a => ?_, fun β => ⟨⟨(β (0 : Fin 2)).val, (β (0 : Fin 2)).isLt.trans_eq n0⟩, flush0_3 _, fun a => ⟨?_, Or.inl rfl⟩⟩⟩
  · revert a
    exact (by decide : ∀ a : Fin 2, 0 < S128x1024.size a)
  refine (idx3 ⟨(β (0 : Fin 2)).val, (β (0 : Fin 2)).isLt.trans_eq n0⟩ a).trans ?_
  fin_cases a
  · rfl
  · exact (Nat.lt_one_iff.mp ((β (1 : Fin 2)).isLt.trans_eq n1)).symm

end Cert.WinProof

end
-- ==== Proof.WinFinite.lean ====
/-
  What the finiteness of the queries and keys says of their elements, and of the products of finite numbers.
-/
module

public import proofs.«01_k».proof.Proof.Gen.Pre_finite_win
public import proofs.«01_k».proof.Proof.SwaFinite

@[expose] public section

set_option maxRecDepth 16384

noncomputable section

namespace Cert.WinProof

open Idealize.ShloMosaic

/-- The precondition at an element: no query and no key is infinite. -/
theorem finite {x0 x1} (h : Cert.Pre_finite_win.fn (F := Ideal) x0 x1 = fun _ => 1#1) :
    (∀ (i : Fin 32768) (j : Fin 1024), (x0 (ix2 i ⟨j.val, by omega⟩) : EReal) ≠ ⊥ ∧ (x0 (ix2 i ⟨j.val, by omega⟩) : EReal) ≠ ⊤)
      ∧ ∀ (i : Fin 32768) (j : Fin 256), (x0 (ix2 i ⟨1280 + j.val, by omega⟩) : EReal) ≠ ⊥ ∧ (x0 (ix2 i ⟨1280 + j.val, by omega⟩) : EReal) ≠ ⊤ := by
  have h' := congrFun h (fun a => a.elim0)
  unfold Cert.Pre_finite_win.fn at h'
  dsimp only at h'
  have h2 := (by decide : ∀ x y : BitVec 1, IntOp.andi x y = 1#1 → x = 1#1 ∧ y = 1#1) _ _ h'
  constructor
  · intro i j
    have := Host.reduce_andi_all (hu := Cert.Pre_finite_win.Facts.h_S_) _ _ _ _ h2.1 (ix2 i j)
    pointwise at this
    rw [show Ideal.ofBits FTy.bf16 32640#16 = (⊤ : EReal) from rfl] at this
    exact Cert.SwaProof.abs_lt _ this
  · intro i j
    have := Host.reduce_andi_all (hu := Cert.Pre_finite_win.Facts.h_S_) _ _ _ _ h2.2 (ix2 i j)
    pointwise at this
    rw [show Ideal.ofBits FTy.bf16 32640#16 = (⊤ : EReal) from rfl] at this
    exact Cert.SwaProof.abs_lt _ this

/-- A sum of products of finite numbers is finite. -/
theorem sum_fin {n : ℕ} (x y : Fin n → EReal) (hx : ∀ d, x d ≠ ⊥ ∧ x d ≠ ⊤) (hy : ∀ d, y d ≠ ⊥ ∧ y d ≠ ⊤) : (∑ d, x d * y d) ≠ ⊥ ∧ (∑ d, x d * y d) ≠ ⊤ := by
  refine Finset.sum_induction (fun d => x d * y d) (fun z : EReal => z ≠ ⊥ ∧ z ≠ ⊤) (fun a b ha hb => ?_) ⟨EReal.zero_ne_bot, EReal.zero_ne_top⟩ (fun d _ => ?_)
  · lift a to ℝ using ⟨ha.2, ha.1⟩
    lift b to ℝ using ⟨hb.2, hb.1⟩
    rw [← EReal.coe_add]
    exact ⟨EReal.coe_ne_bot _, EReal.coe_ne_top _⟩
  · obtain ⟨x1, x2⟩ := hx d
    obtain ⟨y1, y2⟩ := hy d
    generalize x d = a at x1 x2 ⊢
    generalize y d = b at y1 y2 ⊢
    lift a to ℝ using ⟨x2, x1⟩
    lift b to ℝ using ⟨y2, y1⟩
    rw [← EReal.coe_mul]
    exact ⟨EReal.coe_ne_bot _, EReal.coe_ne_top _⟩

end Cert.WinProof

end
-- ==== Proof.WinReference.lean ====
/-
  The window branch's reference at a row and a column.
-/
module

public import proofs.«01_k».proof.Proof.WinSoftmax
public import proofs.«01_k».proof.Proof.SwaWords
public import proofs.«01_k».proof.Proof.Gen.WinRefIdeal.Read
public import Idealize.ShloMosaic.Lib.Pointwise

@[expose] public section

set_option maxRecDepth 16384

noncomputable section

namespace Cert.WinRefProof

open Idealize.ShloMosaic Idealize.ShloMosaic.TcCoe Idealize.SL.Sem
open Cert.WinRefIdeal Cert.WinRefIdeal.Gen Cert.WinRefIdeal.Read

variable (x0 : (⟨S32768x1536, .bf16⟩ : BufTy).Contents (Elt Ideal)) (x1 : (⟨S32768x9856, .bf16⟩ : BufTy).Contents (Elt Ideal))

/-- A query's product with a key. -/
def dot (b : Fin 8) (g : Fin 2) (h : Fin 4) (q k : Fin 4096) : EReal :=
  ∑ d : Fin 128, x0 (ix2 ⟨b.val * 4096 + q.val, by omega⟩ ⟨(g.val * 4 + h.val) * 128 + d.val, by omega⟩)
    * x0 (ix2 ⟨b.val * 4096 + k.val, by omega⟩ ⟨1280 + (g.val * 128 + d.val), by omega⟩)

/-- A query's scores over the keys of its batch, those outside of the window hidden. -/
def row (b : Fin 8) (g : Fin 2) (h : Fin 4) (q k : Fin 4096) : EReal :=
  if k.val ≤ q.val ∧ q.val < k.val + 512 then dot x0 b g h q k else ⊥

/-- The row of scores by a key's position, hidden past the batch. -/
def line (b : Fin 8) (g : Fin 2) (h : Fin 4) (q : Fin 4096) (k : ℕ) : EReal := if hk : k < 4096 then row x0 b g h q ⟨k, hk⟩ else ⊥

theorem line_at (b : Fin 8) (g : Fin 2) (h : Fin 4) (q k : Fin 4096) : line x0 b g h q k.val = row x0 b g h q k := dif_pos k.isLt

theorem dot_at (b : Fin 8) (g : Fin 2) (h : Fin 4) (q k : Fin 4096) : val_main_v10 (F := Ideal) x0 (ix5 b g h q k) = dot x0 b g h q k := by
  unfold dot
  pointwise [val_main_v10, val_main_v9, val_main_v5, val_main_v4, val_main_v3, val_main_v2, val_main_v1, val_main_v0]
  refine Finset.sum_congr rfl fun d _ => (mul_comm _ _).trans ?_
  refine congrArg (fun c => x0 (ix2 _ c) * _) (Fin.ext ?_)
  show g.val * 512 + h.val * 128 + d.val = (g.val * 4 + h.val) * 128 + d.val
  omega

theorem near_iff (x y : ℕ) (hx : x < 65536) (hy : y < 65536) :
    IntOp.andi (IntOp.cmpi .sge (IntOp.subi (BitVec.ofNat 32 x) (BitVec.ofNat 32 y)) 0#32) (IntOp.cmpi .slt (IntOp.subi (BitVec.ofNat 32 x) (BitVec.ofNat 32 y)) 512#32) = 1#1
      ↔ y ≤ x ∧ x < y + 512 := by
  rw [Cert.SwaWords.and_one]
  unfold IntOp.cmpi
  dsimp only
  rw [Cert.SwaWords.ofBool_one, Cert.SwaWords.ofBool_one, BitVec.sle_eq_decide, BitVec.slt_eq_decide, decide_eq_true_iff, decide_eq_true_iff, Cert.SwaWords.sub_toInt x y hx hy,
    show (0#32).toInt = 0 from rfl, show (512#32).toInt = 512 from rfl]
  omega

theorem mask_at (q k : Fin 4096) : val_main_v21 (F := Ideal) (ix2 q k) = 1#1 ↔ k.val ≤ q.val ∧ q.val < k.val + 512 := by
  rw [← near_iff q.val k.val (by omega) (by omega)]
  pointwise [val_main_v21, val_main_v20, val_main_v19, val_main_v18, val_main_v17, val_main_v16, val_main_v15, val_main_v14, val_main_v13, val_main_v12, val_main_v11, val_main_c, val_main_c_0]

theorem row_at (b : Fin 8) (g : Fin 2) (h : Fin 4) (q k : Fin 4096) : val_main_v22 (F := Ideal) x0 (ix5 b g h q k) = row x0 b g h q k := by
  unfold row
  pointwise [val_main_v22, val_main_call0_v2, val_main_call0_v1, val_main_call0_v0, val_main_cst, dot_at]
  unfold Scalar.select
  refine if_congr (mask_at q k) rfl rfl

/-- The largest of a row by its positions is the largest over its keys. -/
theorem top_line (n : ℕ) (S : ℕ → EReal) : Finset.univ.fold max ⊥ (fun k : Fin n => S k.val) = Cert.WinProof.top (Finset.range n) S := by
  unfold Cert.WinProof.top
  rw [show Finset.univ.fold max ⊥ (fun k : Fin n => S k.val) = Finset.univ.sup (fun k : Fin n => S k.val) from rfl]
  refine le_antisymm (Finset.sup_le fun k _ => Finset.le_sup (f := S) (Finset.mem_range.mpr k.isLt)) (Finset.sup_le fun k hk => ?_)
  exact Finset.le_sup (f := fun k : Fin n => S k.val) (Finset.mem_univ ⟨k, Finset.mem_range.mp hk⟩)

theorem fold_at (b : Fin 8) (g : Fin 2) (h : Fin 4) (q : Fin 4096) : val_main_v23 (F := Ideal) x0 (ix4 b g h q) = Finset.univ.fold max ⊥ (row x0 b g h q) := by
  pointwise [val_main_v23, val_main_cst_1]
  refine congrArg₂ (fun z f => Finset.univ.fold max z f) rfl (funext fun k => row_at x0 b g h q k)

theorem fold_line (b : Fin 8) (g : Fin 2) (h : Fin 4) (q : Fin 4096) : Finset.univ.fold max ⊥ (row x0 b g h q) = Cert.WinProof.top (Finset.range 4096) (line x0 b g h q) := by
  rw [← top_line]
  simp only [line_at]

theorem maximumf_bot (a : EReal) : (FloatOps.maximumf (F := Ideal) (φ := .f32) (Ideal.ofBits FTy.f32 4286578688#32) a : EReal) = a := max_eq_right bot_le

theorem max_at (b : Fin 8) (g : Fin 2) (h : Fin 4) (q : Fin 4096) (z : Fin 1) :
    val_main_v26 (F := Ideal) x0 (ix5 b g h q z) = Cert.WinProof.top (Finset.range 4096) (line x0 b g h q) := by
  have e : val_main_v26 (F := Ideal) x0 (ix5 b g h q z) = val_main_v25 (F := Ideal) x0 (ix4 b g h q) := by pointwise [val_main_v26]
  have e' : val_main_v24 (F := Ideal) (ix4 b g h q) = Ideal.ofBits FTy.f32 4286578688#32 := by pointwise [val_main_v24, val_main_cst_2]
  rw [e, val_main_v25_apply, e', fold_at, fold_line]
  exact maximumf_bot _

theorem exp_at (b : Fin 8) (g : Fin 2) (h : Fin 4) (q k : Fin 4096) :
    val_main_v29 (F := Ideal) x0 (ix5 b g h q k) = Ideal.exp (line x0 b g h q k.val - Cert.WinProof.top (Finset.range 4096) (line x0 b g h q)) := by
  pointwise [val_main_v29, val_main_v28, val_main_v27, max_at, row_at]
  rw [line_at]

theorem norm_at (b : Fin 8) (g : Fin 2) (h : Fin 4) (q : Fin 4096) (z : Fin 1) :
    val_main_v31 (F := Ideal) x0 (ix5 b g h q z) = Cert.WinProof.mass (Finset.range 4096) (line x0 b g h q) (fun _ => 1) := by
  unfold Cert.WinProof.mass
  rw [Finset.sum_range]
  pointwise [val_main_v31, val_main_v30, val_main_cst_3, exp_at]

/-- THE REFERENCE AT A ROW AND A COLUMN: the head's softmax over the keys of the batch. -/
theorem ref_at (r : Fin 32768) (c : Fin 1024) :
    val_main_v37 (F := Ideal) x0 x1 (ix2 r c) = Cert.WinProof.out (line x0 ⟨r.val / 4096, by omega⟩ ⟨c.val / 512, by omega⟩ ⟨c.val / 128 % 4, by omega⟩ ⟨r.val % 4096, by omega⟩)
      (fun k => if hk : k < 4096 then x1 (ix2 ⟨r.val / 4096 * 4096 + k, by omega⟩ ⟨9472 + (c.val / 512 * 128 + c.val % 128), by omega⟩) else 0) := by
  unfold Cert.WinProof.out
  pointwise [val_main_v37, val_main_v36, val_main_v35, val_main_v34, val_main_v33, val_main_v32, val_main_v8, val_main_v7, val_main_v6, norm_at, exp_at]
  refine Finset.sum_congr rfl fun k _ => (mul_comm _ _).trans ?_
  rfl

end Cert.WinRefProof

end
-- ==== Proof.WinOut.lean ====
/-
  The window branch: what a grid point writes, head by head, is the head's softmax over the keys of the batch.
-/
module

public import proofs.«01_k».proof.Proof.WinLoop
public import proofs.«01_k».proof.Proof.WinBlocks
public import proofs.«01_k».proof.Proof.WinFinite
public import proofs.«01_k».proof.Proof.WinReference
public import Idealize.ShloMosaic.Lib.LoopRemainder
public import Idealize.ShloMosaic.Lib.Pipeline.ValueKit.Tiles

@[expose] public section

set_option maxRecDepth 16384

noncomputable section

namespace Cert.WinProof

open Idealize.ShloMosaic Idealize.ShloMosaic.TcCoe Idealize.SL.Sem
open Cert.WinIdeal Cert.WinIdeal.Gen

/-- A row of a tile's scores, of finite queries and keys, is never the upper infinity. -/
theorem line_ne_top (qb : ℕ) (q4 : FVec Ideal S512x128 .bf16) (K : Vec Ideal S4096x256 .bf16) (g : Fin 2) (hq : ∀ (ρ : Fin 512) (d : Fin 128), @Ne EReal (q4 (ix2 ρ d)) ⊥ ∧ @Ne EReal (q4 (ix2 ρ d)) ⊤)
    (hK : ∀ (j : Fin 4096) (d : Fin 256), @Ne EReal (K (ix2 j d)) ⊥ ∧ @Ne EReal (K (ix2 j d)) ⊤) (ρ : Fin 512) (k : ℕ) : line qb q4 K g ρ k ≠ ⊤ := by
  unfold line
  split
  · split
    · exact (sum_fin _ _ (fun _ => hq _ _) (fun _ => hK _ _)).2
    · exact bot_ne_top
  · exact bot_ne_top

/-- The whole walk's quotient is the softmax over the batch's keys. -/
theorem quotient (qb : ℕ) (hqb : qb < 32) (q4 : FVec Ideal S512x128 .bf16) (K V : Vec Ideal S4096x256 .bf16) (g : Fin 2) (hq : ∀ (ρ : Fin 512) (d : Fin 128), @Ne EReal (q4 (ix2 ρ d)) ⊥ ∧ @Ne EReal (q4 (ix2 ρ d)) ⊤)
    (hK : ∀ (j : Fin 4096) (d : Fin 256), @Ne EReal (K (ix2 j d)) ⊥ ∧ @Ne EReal (K (ix2 j d)) ⊤) (M L A : Vec Ideal S512x128 .f32)
    (n : ℕ) (hn : n = qb + 1 - (qb - 4)) (h : Inv (qb - 4) n (line qb q4 K g) (column V g) M L A) (ρ : Fin 512) (e : Fin 128) :
    Ideal.div (A (ix2 ρ e)) (L (ix2 ρ e)) = out (line qb q4 K g ρ) (column V g e) := by
  subst hn
  rw [h.acc, h.norm]
  refine walk _ _ _ _ (by omega) (line_ne_top qb q4 K g hq hK ρ) (fun k hk => ?_) (qb * 128 + ρ.val % 128) ?_
  · unfold line
    split
    · refine if_neg fun hn => ?_
      obtain ⟨h1, h2⟩ := hn
      omega
    · rfl
  · unfold line
    rw [dif_pos (show qb * 128 + ρ.val % 128 < 4096 by omega), if_pos ⟨le_rfl, by omega⟩]
    exact (sum_fin _ _ (fun _ => hq _ _) (fun _ => hK _ _)).1

/-- A list of writes to a scratch that covers it first. -/
abbrev over (v : Memref sig .tc .vmem S512x128 .f32) (w : Vec Ideal S512x128 .f32) (L : List (View.Piece (Elt Ideal) S512x128 .f32)) : BufTy.Contents (Elt Ideal) v.view.ty :=
  v.view.writes (Elt Ideal) v.view.junk (⟨Rect.unit (s := S512x128) ![0, 0] S512x128.size inb_S512x128_S512x128_0_0, w⟩ :: L)

/-- The scratches before a loop: nothing seen yet, whatever was written before. -/
theorem start (lo : ℕ) (S : Fin 512 → ℕ → EReal) (W : Fin 128 → ℕ → EReal) (arg6 arg7 arg8 : Memref sig .tc .vmem S512x128 .f32) (w6 w7 w8 : Vec Ideal S512x128 .f32) (L6 L7 L8 : List (View.Piece (Elt Ideal) S512x128 .f32))
    (hM : ∀ (ρ : Fin 512) (c : Fin 128), @Eq EReal (w6 (ix2 ρ c)) ⊥) (hL : ∀ (ρ : Fin 512) (c : Fin 128), @Eq EReal (w7 (ix2 ρ c)) 0) (hA : ∀ (ρ : Fin 512) (c : Fin 128), @Eq EReal (w8 (ix2 ρ c)) 0) :
    Inv lo 0 S W
      (arg6.view.read (Elt Ideal) (over arg6 w6 L6))
      (arg7.view.read (Elt Ideal) (over arg7 w7 L7))
      (arg8.view.read (Elt Ideal) (over arg8 w8 L8)) := by
  unfold over
  rw [View.read_writes_full (s := S512x128), View.read_writes_full (s := S512x128), View.read_writes_full (s := S512x128)]
  exact Inv.zero lo S W hM hL hA

theorem init34 (ρ : Fin 512) (c : Fin 128) : @Eq EReal (k0_pay34 (F := Ideal) (ix2 ρ c)) ⊥ := by
  pointwise [k0_pay34]
  rfl
theorem init35 (ρ : Fin 512) (c : Fin 128) : @Eq EReal (k0_pay35 (F := Ideal) (ix2 ρ c)) 0 := by
  pointwise [k0_pay35]
theorem init36 (ρ : Fin 512) (c : Fin 128) : @Eq EReal (k0_pay36 (F := Ideal) (ix2 ρ c)) 0 := by
  pointwise [k0_pay36]
theorem init47 (ρ : Fin 512) (c : Fin 128) : @Eq EReal (k0_pay47 (F := Ideal) (ix2 ρ c)) ⊥ := by
  pointwise [k0_pay47]
  rfl
theorem init48 (ρ : Fin 512) (c : Fin 128) : @Eq EReal (k0_pay1 (F := Ideal) k0_pay48 (ix2 ρ c)) 0 := by
  pointwise [k0_pay1, k0_pay48]
theorem init2 (ρ : Fin 512) (c : Fin 128) : @Eq EReal (k0_pay2 (F := Ideal) (ix2 ρ c)) 0 := by
  pointwise [k0_pay2]

variable (m : (ℓ : Loc nD τ sig) → Buf (Elt Ideal) ℓ)

/-- A head's rows of scores at a grid point are the reference's. -/
theorem line_eq (t : Fin 256) (g : Fin 2) (r : Fin 4) (a : Fin 128) (q4 : FVec Ideal S512x128 .bf16)
    (hq : ∀ d : Fin 128, @Eq EReal (q4 (ix2 ⟨r.val * 128 + a.val, by omega⟩ d)) (arr0 m (ix2 ⟨t.val * 128 + a.val, by omega⟩ ⟨(g.val * 4 + r.val) * 128 + d.val, by omega⟩))) :
    line (t.val % 32) q4 (iblk m 0 1 t) g ⟨r.val * 128 + a.val, by omega⟩
      = Cert.WinRefProof.line (arr0 m) ⟨t.val / 32, by omega⟩ g r ⟨t.val % 32 * 128 + a.val, by omega⟩ := by
  funext j
  unfold line Cert.WinRefProof.line Cert.WinRefProof.row
  refine dite_congr rfl (fun hj => ?_) fun _ => rfl
  refine if_congr (by show near _ _ ↔ near _ _; rw [show (r.val * 128 + a.val) % 128 = a.val from by omega]) ?_ rfl
  unfold Cert.WinRefProof.dot
  refine Finset.sum_congr rfl fun d _ => ?_
  rw [hq d, k_at]
  refine congrArg (fun i : Fin 32768 => arr0 m (ix2 i _) * _) (Fin.ext ?_)
  show t.val * 128 + a.val = t.val / 32 * 4096 + (t.val % 32 * 128 + a.val)
  omega

/-- A column of values at a grid point is the array's. -/
theorem column_eq (t : Fin 256) (g : Fin 2) (e : Fin 128) :
    column (X0_2 m 0 t) g e = fun k => if hk : k < 4096 then arr1 m (ix2 ⟨t.val / 32 * 4096 + k, by omega⟩ ⟨9472 + (g.val * 128 + e.val), by omega⟩) else 0 := by
  funext k
  unfold column
  exact dite_congr rfl (fun hk => v_at m t _ _) fun _ => rfl

end Cert.WinProof

end
-- ==== Proof.WinHeads.lean ====
/-
  The window branch: the block a grid point writes, head by head.
-/
module

public import proofs.«01_k».proof.Proof.WinOut
public import Idealize.ShloMosaic.Lib.LoopRemainder
public import Idealize.ShloMosaic.Lib.Pipeline.ValueKit.Tiles

@[expose] public section

set_option maxRecDepth 16384

noncomputable section

namespace Cert.WinProof

open Idealize.ShloMosaic Idealize.ShloMosaic.TcCoe Idealize.SL.Sem
open Cert.WinIdeal Cert.WinIdeal.Gen

section Loops

variable (𝒱 : Variants) (c : Dev nD) (bd : Option 𝒱.V) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole)

/-- The quotient the scratches of the first walk leave. -/
theorem fin1 (v8 v9 v10 v11 : Vec Ideal S128x128 .bf16) (X3 : BufTy.Contents (Elt Ideal) arg3.view.ty) (X4 : BufTy.Contents (Elt Ideal) arg4.view.ty) (L6 L7 L8 : List (View.Piece (Elt Ideal) S512x128 .f32)) (K V : Vec Ideal S4096x256 .bf16)
    (h3 : arg3.view.read (Elt Ideal) X3 = K) (h4 : arg4.view.read (Elt Ideal) X4 = V) (hq : ∀ (ρ : Fin 512) (d : Fin 128), @Ne EReal ((k0_pay33 v8 v9 v10 v11) (ix2 ρ d)) ⊥ ∧ @Ne EReal ((k0_pay33 v8 v9 v10 v11) (ix2 ρ d)) ⊤)
    (hK : ∀ (j : Fin 4096) (d : Fin 256), @Ne EReal (K (ix2 j d)) ⊥ ∧ @Ne EReal (K (ix2 j d)) ⊤) (ρ : Fin 512) (e : Fin 128) :
    Ideal.div (arg8.view.read (Elt Ideal) (arg8.view.writes (Elt Ideal) (over arg8 (k0_pay36 (F := Ideal)) L8) (pb_k0_t1 (F := Ideal) 𝒱 c bd i arg2 harg2 arg3 harg3 arg4 harg4 arg5 harg5 arg6 harg6 arg7 harg7 arg8 harg8 lanes (first i) v8 v9 v10 v11 X3 X4 (over arg6 (k0_pay34 (F := Ideal)) L6) (over arg7 (k0_pay35 (F := Ideal)) L7) (over arg8 (k0_pay36 (F := Ideal)) L8) (k0_t1_loop i).trips).2.2) (ix2 ρ e))
        (arg7.view.read (Elt Ideal) (arg7.view.writes (Elt Ideal) (over arg7 (k0_pay35 (F := Ideal)) L7) (pb_k0_t1 (F := Ideal) 𝒱 c bd i arg2 harg2 arg3 harg3 arg4 harg4 arg5 harg5 arg6 harg6 arg7 harg7 arg8 harg8 lanes (first i) v8 v9 v10 v11 X3 X4 (over arg6 (k0_pay34 (F := Ideal)) L6) (over arg7 (k0_pay35 (F := Ideal)) L7) (over arg8 (k0_pay36 (F := Ideal)) L8) (k0_t1_loop i).trips).2.1) (ix2 ρ e))
      = out (line (i 1).val (k0_pay33 v8 v9 v10 v11) K 0 ρ) (column V 0 e) := by
  subst h3 h4
  have hS := line_ne_top (i 1).val (k0_pay33 v8 v9 v10 v11) (arg3.view.read (Elt Ideal) X3) 0 hq hK
  have h0 := start ((i 1).val - 4) (line (i 1).val (k0_pay33 v8 v9 v10 v11) (arg3.view.read (Elt Ideal) X3) 0) (column (arg4.view.read (Elt Ideal) X4) 0) arg6 arg7 arg8 (k0_pay34 (F := Ideal)) (k0_pay35 (F := Ideal)) (k0_pay36 (F := Ideal)) L6 L7 L8 init34 init35 init36
  generalize (over arg6 (k0_pay34 (F := Ideal)) L6) = G6 at h0 ⊢
  generalize (over arg7 (k0_pay35 (F := Ideal)) L7) = G7 at h0 ⊢
  generalize (over arg8 (k0_pay36 (F := Ideal)) L8) = G8 at h0 ⊢
  have h := loop1 𝒱 c bd i arg2 harg2 arg3 harg3 arg4 harg4 arg5 harg5 arg6 harg6 arg7 harg7 arg8 harg8 v8 v9 v10 v11 X3 X4 G6 G7 G8 hS h0 _ le_rfl
  exact quotient (i 1).val (i 1).isLt (k0_pay33 v8 v9 v10 v11) _ _ 0 hq hK _ _ _ _ (trips_eq i) h ρ e

/-- The quotient the scratches of the second walk leave. -/
theorem fin3 (v49 : FVec Ideal S512x128 .bf16) (X3 : BufTy.Contents (Elt Ideal) arg3.view.ty) (X4 : BufTy.Contents (Elt Ideal) arg4.view.ty) (L6 L7 L8 : List (View.Piece (Elt Ideal) S512x128 .f32)) (K V : Vec Ideal S4096x256 .bf16)
    (h3 : arg3.view.read (Elt Ideal) X3 = K) (h4 : arg4.view.read (Elt Ideal) X4 = V) (hq : ∀ (ρ : Fin 512) (d : Fin 128), @Ne EReal (v49 (ix2 ρ d)) ⊥ ∧ @Ne EReal (v49 (ix2 ρ d)) ⊤)
    (hK : ∀ (j : Fin 4096) (d : Fin 256), @Ne EReal (K (ix2 j d)) ⊥ ∧ @Ne EReal (K (ix2 j d)) ⊤) (ρ : Fin 512) (e : Fin 128) :
    Ideal.div (arg8.view.read (Elt Ideal) (arg8.view.writes (Elt Ideal) (over arg8 (k0_pay2 (F := Ideal)) L8) (pb_k0_t3 (F := Ideal) 𝒱 c bd i arg2 harg2 arg3 harg3 arg4 harg4 arg5 harg5 arg6 harg6 arg7 harg7 arg8 harg8 (k0_pay32 i) lanes (first i) v49 X3 X4 (over arg6 (k0_pay47 (F := Ideal)) L6) (over arg7 (k0_pay1 (F := Ideal) k0_pay48) L7) (over arg8 (k0_pay2 (F := Ideal)) L8) (k0_t3_loop i).trips).2.2) (ix2 ρ e))
        (arg7.view.read (Elt Ideal) (arg7.view.writes (Elt Ideal) (over arg7 (k0_pay1 (F := Ideal) k0_pay48) L7) (pb_k0_t3 (F := Ideal) 𝒱 c bd i arg2 harg2 arg3 harg3 arg4 harg4 arg5 harg5 arg6 harg6 arg7 harg7 arg8 harg8 (k0_pay32 i) lanes (first i) v49 X3 X4 (over arg6 (k0_pay47 (F := Ideal)) L6) (over arg7 (k0_pay1 (F := Ideal) k0_pay48) L7) (over arg8 (k0_pay2 (F := Ideal)) L8) (k0_t3_loop i).trips).2.1) (ix2 ρ e))
      = out (line (i 1).val v49 K 1 ρ) (column V 1 e) := by
  subst h3 h4
  have hS := line_ne_top (i 1).val v49 (arg3.view.read (Elt Ideal) X3) 1 hq hK
  have h0 := start ((i 1).val - 4) (line (i 1).val v49 (arg3.view.read (Elt Ideal) X3) 1) (column (arg4.view.read (Elt Ideal) X4) 1) arg6 arg7 arg8 (k0_pay47 (F := Ideal)) (k0_pay1 (F := Ideal) k0_pay48) (k0_pay2 (F := Ideal)) L6 L7 L8 init47 init48 init2
  generalize (over arg6 (k0_pay47 (F := Ideal)) L6) = G6 at h0 ⊢
  generalize (over arg7 (k0_pay1 (F := Ideal) k0_pay48) L7) = G7 at h0 ⊢
  generalize (over arg8 (k0_pay2 (F := Ideal)) L8) = G8 at h0 ⊢
  have h := loop3 𝒱 c bd i arg2 harg2 arg3 harg3 arg4 harg4 arg5 harg5 arg6 harg6 arg7 harg7 arg8 harg8 v49 X3 X4 G6 G7 G8 hS h0 _ le_rfl
  exact quotient (i 1).val (i 1).isLt v49 _ _ 1 hq hK _ _ _ _ (trips3_eq i) h ρ e

end Loops

theorem pay42_at (A L : Vec Ideal S512x128 .f32) (a e : Fin 128) : @Eq EReal (k0_pay42 A L (ix2 a e)) (Ideal.div (A (ix2 ⟨0 * 128 + a.val, by omega⟩ e)) (L (ix2 ⟨0 * 128 + a.val, by omega⟩ e))) := by
  pointwise [k0_pay42, k0_pay41]
theorem pay8_at (A L : Vec Ideal S512x128 .f32) (a e : Fin 128) : @Eq EReal (k0_pay8 A L (ix2 a e)) (Ideal.div (A (ix2 ⟨0 * 128 + a.val, by omega⟩ e)) (L (ix2 ⟨0 * 128 + a.val, by omega⟩ e))) := by
  pointwise [k0_pay8, k0_pay7]
theorem pay43_at (A L : Vec Ideal S512x128 .f32) (a e : Fin 128) : @Eq EReal (k0_pay43 A L (ix2 a e)) (Ideal.div (A (ix2 ⟨1 * 128 + a.val, by omega⟩ e)) (L (ix2 ⟨1 * 128 + a.val, by omega⟩ e))) := by
  pointwise [k0_pay43, k0_pay41]
theorem pay9_at (A L : Vec Ideal S512x128 .f32) (a e : Fin 128) : @Eq EReal (k0_pay9 A L (ix2 a e)) (Ideal.div (A (ix2 ⟨1 * 128 + a.val, by omega⟩ e)) (L (ix2 ⟨1 * 128 + a.val, by omega⟩ e))) := by
  pointwise [k0_pay9, k0_pay7]
theorem pay44_at (A L : Vec Ideal S512x128 .f32) (a e : Fin 128) : @Eq EReal (k0_pay44 A L (ix2 a e)) (Ideal.div (A (ix2 ⟨2 * 128 + a.val, by omega⟩ e)) (L (ix2 ⟨2 * 128 + a.val, by omega⟩ e))) := by
  pointwise [k0_pay44, k0_pay41]
theorem pay10_at (A L : Vec Ideal S512x128 .f32) (a e : Fin 128) : @Eq EReal (k0_pay10 A L (ix2 a e)) (Ideal.div (A (ix2 ⟨2 * 128 + a.val, by omega⟩ e)) (L (ix2 ⟨2 * 128 + a.val, by omega⟩ e))) := by
  pointwise [k0_pay10, k0_pay7]
theorem pay45_at (A L : Vec Ideal S512x128 .f32) (a e : Fin 128) : @Eq EReal (k0_pay45 A L (ix2 a e)) (Ideal.div (A (ix2 ⟨3 * 128 + a.val, by omega⟩ e)) (L (ix2 ⟨3 * 128 + a.val, by omega⟩ e))) := by
  pointwise [k0_pay45, k0_pay41]
theorem pay11_at (A L : Vec Ideal S512x128 .f32) (a e : Fin 128) : @Eq EReal (k0_pay11 A L (ix2 a e)) (Ideal.div (A (ix2 ⟨3 * 128 + a.val, by omega⟩ e)) (L (ix2 ⟨3 * 128 + a.val, by omega⟩ e))) := by
  pointwise [k0_pay11, k0_pay7]

/-- The rows of four heads, one after another. -/
theorem rows33 (v : Fin 4 → Vec Ideal S128x128 .bf16) (r : Fin 4) (a d : Fin 128) : @Eq EReal (k0_pay33 (v 0) (v 1) (v 2) (v 3) (ix2 ⟨r.val * 128 + a.val, by omega⟩ d)) (v r (ix2 a d)) := by
  fin_cases r
  · pointwise [k0_pay33]
  · pointwise [k0_pay33]
  · pointwise [k0_pay33]
    rw [dif_neg (by omega), dif_neg (by omega), dif_pos (by omega)]
    exact congrArg (v 2) (congrArg (ix2 · d) (Fin.ext (by show 256 + a.val - 128 - 128 = a.val; omega)))
  · pointwise [k0_pay33]
    rw [dif_neg (by omega), dif_neg (by omega), dif_neg (by omega)]
    exact congrArg (v 3) (congrArg (ix2 · d) (Fin.ext (by show 384 + a.val - 128 - 128 - 128 = a.val; omega)))
theorem rows46 (v : Fin 4 → Vec Ideal S128x128 .bf16) (r : Fin 4) (a d : Fin 128) : @Eq EReal (k0_pay46 (v 0) (v 1) (v 2) (v 3) (ix2 ⟨r.val * 128 + a.val, by omega⟩ d)) (v r (ix2 a d)) :=
  rows33 v r a d

variable (m : (ℓ : Loc nD τ sig) → Buf (Elt Ideal) ℓ)

/-- A head's block of queries. -/
theorem block (t : Fin 256) (o : ℕ) (ho : o + 128 ≤ 1024) (inb : ∀ b : Fin 2, (![0, o] : Fin 2 → ℕ) b + (![128, 128] : Fin 2 → ℕ) b ≤ S128x1024.size b) (a d : Fin 128) :
    @Eq EReal (View.ld (X0_0 m 0 t) (Rect.unit (s := S128x1024) ![0, o] ![128, 128] inb) (ix2 a d : S128x128.Idx)) (arr0 m (ix2 ⟨t.val * 128 + a.val, by omega⟩ ⟨o + d.val, by omega⟩)) := by
  refine Eq.trans (congrArg (X0_0 m 0 t) ?_) (q_at m t a ⟨o + d.val, by omega⟩)
  funext b
  fin_cases b
  · exact Fin.ext (show 0 + 1 * a.val = a.val by omega)
  · exact Fin.ext (show o + 1 * d.val = o + d.val by omega)

end Cert.WinProof

end
-- ==== Proof.WinTile.lean ====
/-
  The window branch: the block a grid point writes is the reference's rows.
-/
module

public import proofs.«01_k».proof.Proof.WinHeads
public import Idealize.ShloMosaic.Lib.LoopRemainder
public import Idealize.ShloMosaic.Lib.Pipeline.ValueKit.Tiles

@[expose] public section

set_option maxRecDepth 16384

noncomputable section

namespace Cert.WinProof

open Idealize.ShloMosaic Idealize.ShloMosaic.TcCoe Idealize.SL.Sem
open Cert.WinIdeal Cert.WinIdeal.Gen

variable (m : (ℓ : Loc nD τ sig) → Buf (Elt Ideal) ℓ)

/-- What the block holds at a row and a column: the head's softmax over the batch's keys. -/
def target (t : Fin 256) (a : Fin 128) (col : Fin 1024) : EReal :=
  out (Cert.WinRefProof.line (arr0 m) ⟨t.val / 32, by omega⟩ ⟨col.val / 512, by omega⟩ ⟨col.val / 128 % 4, by omega⟩ ⟨t.val % 32 * 128 + a.val, by omega⟩)
    (fun k => if hk : k < 4096 then arr1 m (ix2 ⟨t.val / 32 * 4096 + k, by omega⟩ ⟨9472 + (col.val / 512 * 128 + col.val % 128), by omega⟩) else 0)

/-- A head's column of a tile is the target's. -/
theorem head (t : Fin 256) (g : Fin 2) (r : Fin 4) (a e : Fin 128) (col : Fin 1024) (hc : col.val = (g.val * 4 + r.val) * 128 + e.val) (q4 : FVec Ideal S512x128 .bf16)
    (hq : ∀ d : Fin 128, @Eq EReal (q4 (ix2 ⟨r.val * 128 + a.val, by omega⟩ d)) (arr0 m (ix2 ⟨t.val * 128 + a.val, by omega⟩ ⟨(g.val * 4 + r.val) * 128 + d.val, by omega⟩))) :
    out (line (grid0.coords t 1).val q4 (iblk m 0 1 t) g ⟨r.val * 128 + a.val, by omega⟩) (column (X0_2 m 0 t) g e) = target m t a col := by
  have e1 : (⟨col.val / 512, by omega⟩ : Fin 2) = g := Fin.ext (by show col.val / 512 = g.val; omega)
  have e2 : (⟨col.val / 128 % 4, by omega⟩ : Fin 4) = r := Fin.ext (by show col.val / 128 % 4 = r.val; omega)
  have e3 : ∀ h, (⟨9472 + (col.val / 512 * 128 + col.val % 128), h⟩ : Fin 9856) = ⟨9472 + (g.val * 128 + e.val), by omega⟩ := fun h => Fin.ext (by show 9472 + (col.val / 512 * 128 + col.val % 128) = 9472 + (g.val * 128 + e.val); omega)
  unfold target
  rw [e1, e2]
  refine Eq.trans (congrArg (fun n : ℕ => out (line n q4 (iblk m 0 1 t) g ⟨r.val * 128 + a.val, by omega⟩) (column (X0_2 m 0 t) g e)) (coord1 t)) ?_
  rw [line_eq m t g r a q4 hq, column_eq]
  exact congrArg _ (funext fun k => dite_congr rfl (fun hk => congrArg (fun i : Fin 9856 => arr1 m (ix2 ⟨t.val / 32 * 4096 + k, by omega⟩ i)) (e3 (by omega)).symm) fun _ => rfl)

/-- The queries of the first group of heads at a grid point. -/
abbrev quad0 (t : Fin 256) : FVec Ideal S512x128 .bf16 :=
  k0_pay33 (F := Ideal) (View.ld (X0_0 m 0 t) (Rect.unit (s := S128x1024) ![0, 0] ![128, 128] inb_S128x1024_S128x128_0_0))
    (View.ld (X0_0 m 0 t) (Rect.unit (s := S128x1024) ![0, 128] ![128, 128] inb_S128x1024_S128x128_0_128))
    (View.ld (X0_0 m 0 t) (Rect.unit (s := S128x1024) ![0, 256] ![128, 128] inb_S128x1024_S128x128_0_256))
    (View.ld (X0_0 m 0 t) (Rect.unit (s := S128x1024) ![0, 384] ![128, 128] inb_S128x1024_S128x128_0_384))

theorem quad0_at (t : Fin 256) (r : Fin 4) (a d : Fin 128) :
    @Eq EReal (quad0 m t (ix2 ⟨r.val * 128 + a.val, by omega⟩ d)) (arr0 m (ix2 ⟨t.val * 128 + a.val, by omega⟩ ⟨((0 : Fin 2).val * 4 + r.val) * 128 + d.val, by omega⟩)) := by
  refine (rows33 ![(View.ld (X0_0 m 0 t) (Rect.unit (s := S128x1024) ![0, 0] ![128, 128] inb_S128x1024_S128x128_0_0)), (View.ld (X0_0 m 0 t) (Rect.unit (s := S128x1024) ![0, 128] ![128, 128] inb_S128x1024_S128x128_0_128)),
    (View.ld (X0_0 m 0 t) (Rect.unit (s := S128x1024) ![0, 256] ![128, 128] inb_S128x1024_S128x128_0_256)), (View.ld (X0_0 m 0 t) (Rect.unit (s := S128x1024) ![0, 384] ![128, 128] inb_S128x1024_S128x128_0_384))] r a d).trans ?_
  fin_cases r
  · exact block m t 0 (by omega) _ a d
  · exact block m t 128 (by omega) _ a d
  · exact block m t 256 (by omega) _ a d
  · exact block m t 384 (by omega) _ a d

theorem quad0_fin (hp : Cert.Pre_finite_win.fn (F := Ideal) (arr0 m) (arr1 m) = fun _ => 1#1) (t : Fin 256) (ρ : Fin 512) (d : Fin 128) :
    @Ne EReal (quad0 m t (ix2 ρ d)) ⊥ ∧ @Ne EReal (quad0 m t (ix2 ρ d)) ⊤ := by
  have hr : ρ = ⟨(⟨ρ.val / 128, by omega⟩ : Fin 4).val * 128 + (⟨ρ.val % 128, by omega⟩ : Fin 128).val, by dsimp only; omega⟩ := Fin.ext (by show ρ.val = ρ.val / 128 * 128 + ρ.val % 128; omega)
  rw [hr, quad0_at]
  exact (finite hp).1 _ ⟨((0 : Fin 2).val * 4 + ρ.val / 128) * 128 + d.val, by have : ((0 : Fin 2).val) = 0 := rfl; omega⟩

/-- The queries of the second group of heads at a grid point. -/
abbrev quad1 (t : Fin 256) : FVec Ideal S512x128 .bf16 :=
  k0_pay46 (F := Ideal) (View.ld (X0_0 m 0 t) (Rect.unit (s := S128x1024) ![0, 512] ![128, 128] inb_S128x1024_S128x128_0_512))
    (View.ld (X0_0 m 0 t) (Rect.unit (s := S128x1024) ![0, 640] ![128, 128] inb_S128x1024_S128x128_0_640))
    (View.ld (X0_0 m 0 t) (Rect.unit (s := S128x1024) ![0, 768] ![128, 128] inb_S128x1024_S128x128_0_768))
    (View.ld (X0_0 m 0 t) (Rect.unit (s := S128x1024) ![0, 896] ![128, 128] inb_S128x1024_S128x128_0_896))

theorem quad1_at (t : Fin 256) (r : Fin 4) (a d : Fin 128) :
    @Eq EReal (quad1 m t (ix2 ⟨r.val * 128 + a.val, by omega⟩ d)) (arr0 m (ix2 ⟨t.val * 128 + a.val, by omega⟩ ⟨((1 : Fin 2).val * 4 + r.val) * 128 + d.val, by omega⟩)) := by
  refine (rows46 ![(View.ld (X0_0 m 0 t) (Rect.unit (s := S128x1024) ![0, 512] ![128, 128] inb_S128x1024_S128x128_0_512)), (View.ld (X0_0 m 0 t) (Rect.unit (s := S128x1024) ![0, 640] ![128, 128] inb_S128x1024_S128x128_0_640)),
    (View.ld (X0_0 m 0 t) (Rect.unit (s := S128x1024) ![0, 768] ![128, 128] inb_S128x1024_S128x128_0_768)), (View.ld (X0_0 m 0 t) (Rect.unit (s := S128x1024) ![0, 896] ![128, 128] inb_S128x1024_S128x128_0_896))] r a d).trans ?_
  fin_cases r
  · exact block m t 512 (by omega) _ a d
  · exact block m t 640 (by omega) _ a d
  · exact block m t 768 (by omega) _ a d
  · exact block m t 896 (by omega) _ a d

theorem quad1_fin (hp : Cert.Pre_finite_win.fn (F := Ideal) (arr0 m) (arr1 m) = fun _ => 1#1) (t : Fin 256) (ρ : Fin 512) (d : Fin 128) :
    @Ne EReal (quad1 m t (ix2 ρ d)) ⊥ ∧ @Ne EReal (quad1 m t (ix2 ρ d)) ⊤ := by
  have hr : ρ = ⟨(⟨ρ.val / 128, by omega⟩ : Fin 4).val * 128 + (⟨ρ.val % 128, by omega⟩ : Fin 128).val, by dsimp only; omega⟩ := Fin.ext (by show ρ.val = ρ.val / 128 * 128 + ρ.val % 128; omega)
  rw [hr, quad1_at]
  exact (finite hp).1 _ ⟨((1 : Fin 2).val * 4 + ρ.val / 128) * 128 + d.val, by have : ((1 : Fin 2).val) = 1 := rfl; omega⟩

theorem keys_fin (hp : Cert.Pre_finite_win.fn (F := Ideal) (arr0 m) (arr1 m) = fun _ => 1#1) (t : Fin 256) (j : Fin 4096) (d : Fin 256) :
    @Ne EReal (iblk m 0 1 t (ix2 j d : S4096x256.Idx)) ⊥ ∧ @Ne EReal (iblk m 0 1 t (ix2 j d : S4096x256.Idx)) ⊤ := by
  rw [k_at]
  exact (finite hp).2 _ _

theorem whole_read (v : View sig .tc .vmem S512x128 .f32) (L : List (View.Piece (Elt Ideal) S512x128 .f32)) :
    v.readCov (Val := Elt Ideal) L (Rect.unit (s := S512x128) ![0, 0] ![512, 128] inb_S512x128_S512x128_0_0).toLoadRect = v.read (Elt Ideal) (v.writes (Elt Ideal) v.junk L) :=
  View.readAt_full v _ _

/-- The block a grid point writes. -/
theorem out_at (hp : Cert.Pre_finite_win.fn (F := Ideal) (arr0 m) (arr1 m) = fun _ => 1#1) (t : Fin 256) (a : Fin 128) (col : Fin 1024) :
    @Eq EReal (outsAt0 m 0 t (ix2 a col : S128x1024.Idx)) (target m t a col) := by
  have hK := keys_fin m hp t
  have r1 := (hs0_1 t).read_unread (iblk m 0 1 t)
  have r2 := (hs0_2 t).read_unread (X0_2 m 0 t)
  unfold outsAt0
  frame_out
  canon_tiles x h
  case piece0 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 896 + e.val := h1
    simp only [Scf.rem_trips, pb_k0_t2, pb_k0_t4, List.nil_append, View.writes_append, whole_read]
    refine (pay11_at _ _ a e).trans ?_
    refine (fin3 Variants.none 0 none (grid0.coords t) _ _ _ _ _ _ _ _ scM0_0 _ scM0_1 _ scM0_2 _ (quad1 m t) _ _ _ _ _ _ _ r1 r2 (quad1_fin m hp t) hK ⟨3 * 128 + a.val, by omega⟩ e).trans ?_
    exact head m t 1 3 a e col (by show col.val = (1 * 4 + 3) * 128 + e.val; omega) (quad1 m t) (quad1_at m t 3 a)
  case piece1 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 768 + e.val := h1
    simp only [Scf.rem_trips, pb_k0_t2, pb_k0_t4, List.nil_append, View.writes_append, whole_read]
    refine (pay10_at _ _ a e).trans ?_
    refine (fin3 Variants.none 0 none (grid0.coords t) _ _ _ _ _ _ _ _ scM0_0 _ scM0_1 _ scM0_2 _ (quad1 m t) _ _ _ _ _ _ _ r1 r2 (quad1_fin m hp t) hK ⟨2 * 128 + a.val, by omega⟩ e).trans ?_
    exact head m t 1 2 a e col (by show col.val = (1 * 4 + 2) * 128 + e.val; omega) (quad1 m t) (quad1_at m t 2 a)
  case piece2 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 640 + e.val := h1
    simp only [Scf.rem_trips, pb_k0_t2, pb_k0_t4, List.nil_append, View.writes_append, whole_read]
    refine (pay9_at _ _ a e).trans ?_
    refine (fin3 Variants.none 0 none (grid0.coords t) _ _ _ _ _ _ _ _ scM0_0 _ scM0_1 _ scM0_2 _ (quad1 m t) _ _ _ _ _ _ _ r1 r2 (quad1_fin m hp t) hK ⟨1 * 128 + a.val, by omega⟩ e).trans ?_
    exact head m t 1 1 a e col (by show col.val = (1 * 4 + 1) * 128 + e.val; omega) (quad1 m t) (quad1_at m t 1 a)
  case piece3 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 512 + e.val := h1
    simp only [Scf.rem_trips, pb_k0_t2, pb_k0_t4, List.nil_append, View.writes_append, whole_read]
    refine (pay8_at _ _ a e).trans ?_
    refine (fin3 Variants.none 0 none (grid0.coords t) _ _ _ _ _ _ _ _ scM0_0 _ scM0_1 _ scM0_2 _ (quad1 m t) _ _ _ _ _ _ _ r1 r2 (quad1_fin m hp t) hK ⟨0 * 128 + a.val, by omega⟩ e).trans ?_
    exact head m t 1 0 a e col (by show col.val = (1 * 4 + 0) * 128 + e.val; omega) (quad1 m t) (quad1_at m t 0 a)
  case piece4 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 384 + e.val := h1
    simp only [Scf.rem_trips, pb_k0_t2, pb_k0_t4, List.nil_append, View.writes_append, whole_read]
    refine (pay45_at _ _ a e).trans ?_
    refine (fin1 Variants.none 0 none (grid0.coords t) _ _ _ _ _ _ _ _ scM0_0 _ scM0_1 _ scM0_2 _ (View.ld (X0_0 m 0 t) (Rect.unit (s := S128x1024) ![0, 0] ![128, 128] inb_S128x1024_S128x128_0_0)) (View.ld (X0_0 m 0 t) (Rect.unit (s := S128x1024) ![0, 128] ![128, 128] inb_S128x1024_S128x128_0_128)) (View.ld (X0_0 m 0 t) (Rect.unit (s := S128x1024) ![0, 256] ![128, 128] inb_S128x1024_S128x128_0_256)) (View.ld (X0_0 m 0 t) (Rect.unit (s := S128x1024) ![0, 384] ![128, 128] inb_S128x1024_S128x128_0_384)) _ _ _ _ _ _ _ r1 r2 (quad0_fin m hp t) hK ⟨3 * 128 + a.val, by omega⟩ e).trans ?_
    exact head m t 0 3 a e col (by show col.val = (0 * 4 + 3) * 128 + e.val; omega) (quad0 m t) (quad0_at m t 3 a)
  case piece5 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 256 + e.val := h1
    simp only [Scf.rem_trips, pb_k0_t2, pb_k0_t4, List.nil_append, View.writes_append, whole_read]
    refine (pay44_at _ _ a e).trans ?_
    refine (fin1 Variants.none 0 none (grid0.coords t) _ _ _ _ _ _ _ _ scM0_0 _ scM0_1 _ scM0_2 _ (View.ld (X0_0 m 0 t) (Rect.unit (s := S128x1024) ![0, 0] ![128, 128] inb_S128x1024_S128x128_0_0)) (View.ld (X0_0 m 0 t) (Rect.unit (s := S128x1024) ![0, 128] ![128, 128] inb_S128x1024_S128x128_0_128)) (View.ld (X0_0 m 0 t) (Rect.unit (s := S128x1024) ![0, 256] ![128, 128] inb_S128x1024_S128x128_0_256)) (View.ld (X0_0 m 0 t) (Rect.unit (s := S128x1024) ![0, 384] ![128, 128] inb_S128x1024_S128x128_0_384)) _ _ _ _ _ _ _ r1 r2 (quad0_fin m hp t) hK ⟨2 * 128 + a.val, by omega⟩ e).trans ?_
    exact head m t 0 2 a e col (by show col.val = (0 * 4 + 2) * 128 + e.val; omega) (quad0 m t) (quad0_at m t 2 a)
  case piece6 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 128 + e.val := h1
    simp only [Scf.rem_trips, pb_k0_t2, pb_k0_t4, List.nil_append, View.writes_append, whole_read]
    refine (pay43_at _ _ a e).trans ?_
    refine (fin1 Variants.none 0 none (grid0.coords t) _ _ _ _ _ _ _ _ scM0_0 _ scM0_1 _ scM0_2 _ (View.ld (X0_0 m 0 t) (Rect.unit (s := S128x1024) ![0, 0] ![128, 128] inb_S128x1024_S128x128_0_0)) (View.ld (X0_0 m 0 t) (Rect.unit (s := S128x1024) ![0, 128] ![128, 128] inb_S128x1024_S128x128_0_128)) (View.ld (X0_0 m 0 t) (Rect.unit (s := S128x1024) ![0, 256] ![128, 128] inb_S128x1024_S128x128_0_256)) (View.ld (X0_0 m 0 t) (Rect.unit (s := S128x1024) ![0, 384] ![128, 128] inb_S128x1024_S128x128_0_384)) _ _ _ _ _ _ _ r1 r2 (quad0_fin m hp t) hK ⟨1 * 128 + a.val, by omega⟩ e).trans ?_
    exact head m t 0 1 a e col (by show col.val = (0 * 4 + 1) * 128 + e.val; omega) (quad0 m t) (quad0_at m t 1 a)
  case piece7 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = e.val := h1
    simp only [Scf.rem_trips, pb_k0_t2, pb_k0_t4, List.nil_append, View.writes_append, whole_read]
    refine (pay42_at _ _ a e).trans ?_
    refine (fin1 Variants.none 0 none (grid0.coords t) _ _ _ _ _ _ _ _ scM0_0 _ scM0_1 _ scM0_2 _ (View.ld (X0_0 m 0 t) (Rect.unit (s := S128x1024) ![0, 0] ![128, 128] inb_S128x1024_S128x128_0_0)) (View.ld (X0_0 m 0 t) (Rect.unit (s := S128x1024) ![0, 128] ![128, 128] inb_S128x1024_S128x128_0_128)) (View.ld (X0_0 m 0 t) (Rect.unit (s := S128x1024) ![0, 256] ![128, 128] inb_S128x1024_S128x128_0_256)) (View.ld (X0_0 m 0 t) (Rect.unit (s := S128x1024) ![0, 384] ![128, 128] inb_S128x1024_S128x128_0_384)) _ _ _ _ _ _ _ r1 r2 (quad0_fin m hp t) hK ⟨0 * 128 + a.val, by omega⟩ e).trans ?_
    exact head m t 0 0 a e col (by show col.val = (0 * 4 + 0) * 128 + e.val; omega) (quad0 m t) (quad0_at m t 0 a)

end Cert.WinProof

end
-- ==== Proof.WinValue.lean ====
/-
  The window branch's value: the array the kernel leaves is the reference's.
-/
module

public import proofs.«01_k».proof.Proof.WinTile

@[expose] public section

set_option maxRecDepth 16384

noncomputable section

namespace Cert.WinProof

open Idealize.ShloMosaic Idealize.ShloMosaic.TcCoe Idealize.SL.Sem
open Cert.WinIdeal Cert.WinIdeal.Gen

variable (m : (ℓ : Loc nD τ sig) → Buf (Elt Ideal) ℓ)

/-- A tile's output at a row and a column is the reference's. -/
theorem point (t : Fin 256) (a : Fin 128) (col : Fin 1024) :
    @Eq EReal (target m t a col) (Cert.WinRefIdeal.Read.val_main_v37 (F := Ideal) (arr0 m) (arr1 m) (ix2 ⟨t.val * 128 + a.val, by omega⟩ col)) := by
  refine Eq.trans ?_ (Cert.WinRefProof.ref_at (arr0 m) (arr1 m) ⟨t.val * 128 + a.val, by omega⟩ col).symm
  unfold target
  have eb : (⟨(t.val * 128 + a.val) / 4096, by omega⟩ : Fin 8) = ⟨t.val / 32, by omega⟩ := Fin.ext (by show (t.val * 128 + a.val) / 4096 = t.val / 32; omega)
  have eq : (⟨(t.val * 128 + a.val) % 4096, by omega⟩ : Fin 4096) = ⟨t.val % 32 * 128 + a.val, by omega⟩ :=
    Fin.ext (by show (t.val * 128 + a.val) % 4096 = t.val % 32 * 128 + a.val; omega)
  rw [eb, eq]
  refine congrArg _ (funext fun k => dite_congr rfl (fun hk => congrArg (arr1 m) (congrArg (fun i : Fin 32768 => ix2 i _) (Fin.ext ?_))) fun _ => rfl)
  show t.val / 32 * 4096 + k = (t.val * 128 + a.val) / 4096 * 4096 + k
  omega

/-- The result array the kernel leaves is the reference's. -/
theorem final (c : Dev nD) (hp : Cert.Pre_finite_win.fn (F := Ideal) (m ((c : Thread nD τ).loc main_arg0)) (m ((c : Thread nD τ).loc main_arg1)) = fun _ => 1#1) :
    (dats m 0 c).arrAt 3 cfg0.N
      = Cert.WinRefIdeal.Read.val_main_v37 (F := Ideal) (m ((c : Thread nD τ).loc main_arg0)) (m ((c : Thread nD τ).loc main_arg1)) := by
  obtain rfl : c = 0 := Subsingleton.elim _ _
  refine (dats m 0 0).arrAt_eq_of_covers 3 _ covers fun t hf y => ?_
  blk_simp
  rw [after0_3]
  obtain ⟨a, d, rfl⟩ : ∃ (a : Fin 128) (d : Fin 1024), y = (ix2 a d : S128x1024.Idx) := ⟨y (0 : Fin 2), y (1 : Fin 2), by funext b; fin_cases b <;> rfl⟩
  exact (out_at m hp t a d).trans ((point m t a d).trans (congrArg _ (y_at t a d).symm))

end Cert.WinProof

end
-- ==== Proof.SlcStep.lean ====
/-
  The selected branch's loop body: one block of keys, at a row and a lane.
-/
module

public import proofs.«01_k».proof.Proof.Gen.SlcIdeal.Value
public import Idealize.ShloMosaic.Lib.Pointwise
public import proofs.«01_k».proof.Proof.SwaWords
public import proofs.«01_k».proof.Proof.WinSoftmax

@[expose] public section

set_option maxRecDepth 16384

noncomputable section

namespace Cert.SlcProof

open Idealize.ShloMosaic Idealize.ShloMosaic.TcCoe Idealize.SL.Sem
open Cert.SlcIdeal Cert.SlcIdeal.Gen
open Cert.WinProof (mass keys keys_succ mass_union top_union top_zero mass_zero)

/-- A block is picked: its flag is above one half. -/
abbrev hit (x : EReal) : Prop := Ideal.ofBits FTy.f32 1056964608#32 < x

/-- The lanes of a tile as words. -/
abbrev lanes : IVec S128x256 32 := iota Kind.tc S128x256 32 [1] iota_S128x256_d1_w32

/-- A bit as a number. -/
theorem bit_num (b : BitVec 1) : @Eq EReal (FloatOps.sitofp (F := Ideal) FTy.f32 (BitVec.setWidth 32 b)) (if b = 1#1 then 1 else 0) := by
  have h : b = 0#1 ∨ b = 1#1 := by revert b; decide
  rcases h with h | h
  · subst h
    rw [if_neg (by decide)]
    show (((BitVec.setWidth 32 0#1).toInt : ℝ) : EReal) = 0
    rw [show (BitVec.setWidth 32 0#1).toInt = 0 from rfl]
    norm_num
  · subst h
    rw [if_pos rfl]
    show (((BitVec.setWidth 32 1#1).toInt : ℝ) : EReal) = 1
    rw [show (BitVec.setWidth 32 1#1).toInt = 1 from rfl]
    norm_num

/-- The block of sixty-four keys a lane belongs to, within its tile. -/
theorem lane_block (c : Fin 256) :
    Scalar.select
              (IntOp.andi
                (IntOp.cmpi CmpIPredicate.ne
                  (IntOp.subi (BitVec.setWidth 32 (IntOp.cmpi CmpIPredicate.sgt (BitVec.ofNat 32 c.val) 0#32))
                    (BitVec.setWidth 32 (IntOp.cmpi CmpIPredicate.slt (BitVec.ofNat 32 c.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 c.val) 64#32) 0#32))
              (IntOp.subi (IntOp.divsi ArithUnit.vector (BitVec.ofNat 32 c.val) 64#32) 1#32)
              (IntOp.divsi ArithUnit.vector (BitVec.ofNat 32 c.val) 64#32) = BitVec.ofNat 32 (c.val / 64) := by
  revert c
  decide +kernel

/-- Two small words are equal when their numbers are. -/
theorem eq_iff (x y : ℕ) (hx : x < 65536) (hy : y < 65536) : IntOp.cmpi .eq (BitVec.ofNat 32 x) (BitVec.ofNat 32 y) = 1#1 ↔ x = y := by
  unfold IntOp.cmpi
  dsimp only
  rw [Cert.SwaWords.ofBool_one, beq_iff_eq]
  constructor
  · intro h
    have := congrArg BitVec.toNat h
    rw [BitVec.toNat_ofNat, BitVec.toNat_ofNat] at this
    omega
  · intro h
    rw [h]

theorem le_iff (x y : ℕ) (hx : x < 65536) (hy : y < 65536) : IntOp.cmpi .sle (BitVec.ofNat 32 x) (BitVec.ofNat 32 y) = 1#1 ↔ x ≤ y := by
  unfold IntOp.cmpi
  dsimp only
  rw [Cert.SwaWords.ofBool_one, BitVec.sle_eq_decide, decide_eq_true_iff, BitVec.toInt_ofNat', BitVec.toInt_ofNat']
  rw [Int.bmod_eq_of_le (by omega) (by omega), Int.bmod_eq_of_le (by omega) (by omega)]
  omega

theorem word (i n a : ℕ) : IntOp.addi (Scalar.muli (BitVec.ofNat 32 i) (BitVec.ofNat 32 n)) (BitVec.ofNat 32 a) = BitVec.ofNat 32 (i * n + a) := by
  rw [BitVec.ofNat_add, BitVec.ofNat_mul]
  rfl

theorem block_word (o b x : ℕ) : IntOp.addi (Scalar.addi (BitVec.ofNat 32 o) (Scalar.muli (BitVec.ofNat 32 b) (BitVec.ofNat 32 4))) (BitVec.ofNat 32 x) = BitVec.ofNat 32 (o + b * 4 + x) := by
  rw [BitVec.ofNat_add, BitVec.ofNat_add, BitVec.ofNat_mul]
  rfl

/-- The selection's bias on a score: nothing when the block is picked and the key is not after the query. -/
theorem bias (i b a c : ℕ) (hi : i < 32) (hb : b < 16) (ha : a < 128) (hc : c < 256) (s x : EReal) :
    (s + if hit x then Scalar.select (IntOp.cmpi CmpIPredicate.sle (IntOp.addi (Scalar.muli (BitVec.ofNat 32 b) 256#32) (BitVec.ofNat 32 c)) (IntOp.addi (Scalar.muli (BitVec.ofNat 32 i) 128#32) (BitVec.ofNat 32 a))) (0 : EReal) (⊥ : EReal) else ⊥)
      = if hit x ∧ b * 256 + c ≤ i * 128 + a then s else ⊥ := by
  rw [show IntOp.addi (Scalar.muli (BitVec.ofNat 32 i) 128#32) (BitVec.ofNat 32 a) = BitVec.ofNat 32 (i * 128 + a) from word i 128 a,
    show IntOp.addi (Scalar.muli (BitVec.ofNat 32 b) 256#32) (BitVec.ofNat 32 c) = BitVec.ofNat 32 (b * 256 + c) from word b 256 c]
  have h1 := le_iff (b * 256 + c) (i * 128 + a) (by omega) (by omega)
  rw [show ∀ (w : BitVec 1) (x y : EReal), Scalar.select w x y = if w = 1#1 then x else y from fun _ _ _ => rfl]
  by_cases g1 : hit x
  · rw [if_pos g1]
    by_cases g2 : b * 256 + c ≤ i * 128 + a
    · rw [if_pos (h1.mpr g2), if_pos ⟨g1, g2⟩, add_zero]
    · rw [if_neg (fun h => g2 (h1.mp h)), if_neg (fun h => g2 h.2), EReal.add_bot]
  · rw [if_neg g1, if_neg (fun h => g1 h.1), EReal.add_bot]

/-- The flag of a lane's block, picked out by a product with a row of one. -/
theorem pick (n : ℕ) (hn : n < 128) (f w : Fin 128 → EReal) (hw : ∀ j, w j = if j.val = n then 1 else 0) : ∑ j, f j * w j = f ⟨n, hn⟩ := by
  rw [Finset.sum_eq_single (⟨n, hn⟩ : Fin 128)]
  · rw [hw, if_pos rfl, mul_one]
  · intro j _ hj
    rw [hw, if_neg (fun h => hj (Fin.ext h)), mul_zero]
  · intro h
    exact absurd (Finset.mem_univ _) h

/-- The flag of a lane's block: of a key head, in a tile of keys. -/
def flag (g : Fin 2) (b : ℕ) (hb : b < 16) (c : Fin 256) : Fin 128 := ⟨g.val * 64 + b * 4 + c.val / 64, by omega⟩

/-- The scores of a block of keys: the products of queries and keys, those not picked or after the query hidden. -/
def score (qb b : ℕ) (g : Fin 2) (hb : b < 16) (q4 : FVec Ideal S512x128 .bf16) (kb : Vec Ideal S256x128 .bf16) (sel : Vec Ideal S128x128 .bf16) (ρ : Fin 512) (c : Fin 256) : EReal :=
  if hit (sel (ix2 ⟨ρ.val % 128, Nat.mod_lt _ (by decide)⟩ (flag g b hb c))) ∧ b * 256 + c.val ≤ qb * 128 + ρ.val % 128 then ∑ d : Fin 128, q4 (ix2 ρ d) * kb (ix2 c d) else ⊥

/-- What the body does to a running softmax: the new largest, normalizer and weighed values from the old and the block's scores and values. -/
structure Step (s : Fin 512 → Fin 256 → EReal) (vb : Vec Ideal S256x128 .bf16) (M L A M' L' A' : Vec Ideal S512x128 .f32) : Prop where
  top : ∀ (ρ : Fin 512) (c : Fin 128), @Eq EReal (M' (ix2 ρ c)) (max (M (ix2 ρ c)) (Finset.univ.fold max ⊥ (s ρ)))
  norm : ∀ (ρ : Fin 512) (c : Fin 128), @Eq EReal (L' (ix2 ρ c)) (Ideal.exp (M (ix2 ρ c) - M' (ix2 ρ c)) * L (ix2 ρ c) + ∑ x, Ideal.exp (s ρ x - M' (ix2 ρ 0)))
  acc : ∀ (ρ : Fin 512) (e : Fin 128), @Eq EReal (A' (ix2 ρ e)) (A (ix2 ρ e) * Ideal.exp (M (ix2 ρ e) - M' (ix2 ρ e)) + ∑ x, Ideal.exp (s ρ x - M' (ix2 ρ 0)) * vb (ix2 x e))

theorem onehot1 (i : grid0.Coords) (k : Fin (k0_t1_loop i).trips) (b : ℕ) (hb : b < 16) (hv : Scf.iv 0#32 1#32 k.val = BitVec.ofNat 32 b) (j : Fin 128) (c : Fin 256) :
    @Eq EReal (k0_pay6 (F := Ideal) i 0#32 1#32 k (ix2 j c)) (if j.val = 0 * 64 + b * 4 + c.val / 64 then 1 else 0) := by
  pointwise [k0_pay6]
  rw [hv, lane_block, bit_num]
  refine if_congr ?_ rfl rfl
  exact (iff_of_eq (congrArg (fun w => IntOp.cmpi CmpIPredicate.eq (BitVec.ofNat 32 j.val) w = 1#1) (block_word (0 * 64) b (c.val / 64)))).trans ((eq_iff j.val (0 * 64 + b * 4 + c.val / 64) (by omega) (by omega)).trans ⟨fun h => by omega, fun h => by omega⟩)

theorem score1 (i : grid0.Coords) (q4 : FVec Ideal S512x128 .bf16) (k : Fin (k0_t1_loop i).trips) (kb : Vec Ideal S256x128 .bf16) (sel : Vec Ideal S128x128 .bf16) (b : ℕ) (hb : b < 16) (hi : (i 1).val < 32)
    (hv : Scf.iv 0#32 1#32 k.val = BitVec.ofNat 32 b) (ρ : Fin 512) (c : Fin 256) :
    k0_pay7 (F := Ideal) (k0_pay40 i) (k0_pay4 (F := Ideal) q4 kb) (k0_pay5 i lanes 0#32 1#32 k) (k0_pay6 (F := Ideal) i 0#32 1#32 k) sel (ix2 ρ c) = score (i 1).val b 0 hb q4 kb sel ρ c := by
  have hp : ∀ a : Fin 128, ∑ x, sel (ix2 a x) * k0_pay6 (F := Ideal) i 0#32 1#32 k (ix2 x c) = sel (ix2 a (flag 0 b hb c)) := fun a =>
    pick (0 * 64 + b * 4 + c.val / 64) (by omega) (fun x => sel (ix2 a x)) (fun x => k0_pay6 (F := Ideal) i 0#32 1#32 k (ix2 x c)) (fun j => onehot1 i k b hb hv j c)
  unfold score
  pointwise [k0_pay7, k0_pay40, k0_pay4, k0_pay5]
  simp only [hp]
  rw [hv, show (Named.named κ "mask" 4048155338#32 : Ideal .f32) = (⊥ : EReal) from rfl]
  have hx : ∀ (n : ℕ) (hn : n < 128) (h : ρ.val % 128 = n), (⟨ρ.val % 128, Nat.mod_lt _ (by decide)⟩ : Fin 128) = ⟨n, hn⟩ := fun n hn h => Fin.ext h
  split
  · rw [hx ρ.val (by omega) (by omega), show ρ.val % 128 = ρ.val from by omega]
    exact bias (i 1).val b ρ.val c.val hi hb (by omega) c.isLt _ _
  split
  · rw [hx (ρ.val - 128) (by omega) (by omega), show ρ.val % 128 = ρ.val - 128 from by omega]
    exact bias (i 1).val b (ρ.val - 128) c.val hi hb (by omega) c.isLt _ _
  split
  · rw [hx (ρ.val - 128 - 128) (by omega) (by omega), show ρ.val % 128 = ρ.val - 128 - 128 from by omega]
    exact bias (i 1).val b (ρ.val - 128 - 128) c.val hi hb (by omega) c.isLt _ _
  · rw [hx (ρ.val - 128 - 128 - 128) (by omega) (by omega), show ρ.val % 128 = ρ.val - 128 - 128 - 128 from by omega]
    exact bias (i 1).val b (ρ.val - 128 - 128 - 128) c.val hi hb (by omega) c.isLt _ _

theorem step1 (v3 : IVec S128x256 32) (vb : Vec Ideal S256x128 .bf16) (v106 : FVec Ideal S512x256 .f32) (v108 : IVec S128x256 32) (v142 : FVec Ideal S128x256 .bf16) (sel : Vec Ideal S128x128 .bf16) (s : Fin 512 → Fin 256 → EReal)
    (hs : ∀ ρ c, k0_pay7 (F := Ideal) v3 v106 v108 v142 sel (ix2 ρ c) = s ρ c) (M L A : Vec Ideal S512x128 .f32) :
    Step s vb M L A (k0_pay45 (F := Ideal) (k0_pay8 (F := Ideal) v3 v106 v108 v142 sel M)) (k0_pay11 (F := Ideal) v3 v106 v108 v142 sel M L) (k0_pay12 (F := Ideal) v3 vb v106 v108 v142 sel M A) := by
  have hm : ∀ ρ c, k0_pay45 (F := Ideal) (k0_pay8 (F := Ideal) v3 v106 v108 v142 sel M) (ix2 ρ c) = k0_pay8 (F := Ideal) v3 v106 v108 v142 sel M (ix2 ρ c) := fun ρ c => by pointwise [k0_pay45]
  refine ⟨fun ρ c => ?_, fun ρ c => ?_, fun ρ e => ?_⟩
  · rw [hm]
    pointwise [k0_pay8]
    rw [show Ideal.ofBits FTy.f32 4286578688#32 = (⊥ : EReal) from rfl]
    simp only [hs]
  · rw [hm, hm]
    pointwise [k0_pay11, k0_pay9, k0_pay10]
    simp only [hs]
  · rw [hm, hm]
    pointwise [k0_pay12, k0_pay9, k0_pay10]
    simp only [hs]

theorem onehot3 (i : grid0.Coords) (k : Fin (k0_t3_loop i).trips) (b : ℕ) (hb : b < 16) (hv : Scf.iv 0#32 1#32 k.val = BitVec.ofNat 32 b) (j : Fin 128) (c : Fin 256) :
    @Eq EReal (k0_pay24 (F := Ideal) i 0#32 1#32 k (ix2 j c)) (if j.val = 1 * 64 + b * 4 + c.val / 64 then 1 else 0) := by
  pointwise [k0_pay24]
  rw [hv, lane_block, bit_num]
  refine if_congr ?_ rfl rfl
  exact (iff_of_eq (congrArg (fun w => IntOp.cmpi CmpIPredicate.eq (BitVec.ofNat 32 j.val) w = 1#1) (block_word (1 * 64) b (c.val / 64)))).trans ((eq_iff j.val (1 * 64 + b * 4 + c.val / 64) (by omega) (by omega)).trans ⟨fun h => by omega, fun h => by omega⟩)

theorem score3 (i : grid0.Coords) (q4 : FVec Ideal S512x128 .bf16) (k : Fin (k0_t3_loop i).trips) (kb : Vec Ideal S256x128 .bf16) (sel : Vec Ideal S128x128 .bf16) (b : ℕ) (hb : b < 16) (hi : (i 1).val < 32)
    (hv : Scf.iv 0#32 1#32 k.val = BitVec.ofNat 32 b) (ρ : Fin 512) (c : Fin 256) :
    k0_pay25 (F := Ideal) (k0_pay40 i) (k0_pay22 (F := Ideal) q4 kb) (k0_pay23 i lanes 0#32 1#32 k) (k0_pay24 (F := Ideal) i 0#32 1#32 k) sel (ix2 ρ c) = score (i 1).val b 1 hb q4 kb sel ρ c := by
  have hp : ∀ a : Fin 128, ∑ x, sel (ix2 a x) * k0_pay24 (F := Ideal) i 0#32 1#32 k (ix2 x c) = sel (ix2 a (flag 1 b hb c)) := fun a =>
    pick (1 * 64 + b * 4 + c.val / 64) (by omega) (fun x => sel (ix2 a x)) (fun x => k0_pay24 (F := Ideal) i 0#32 1#32 k (ix2 x c)) (fun j => onehot3 i k b hb hv j c)
  unfold score
  pointwise [k0_pay25, k0_pay40, k0_pay22, k0_pay23]
  simp only [hp]
  rw [hv, show (Named.named κ "mask" 4048155338#32 : Ideal .f32) = (⊥ : EReal) from rfl]
  have hx : ∀ (n : ℕ) (hn : n < 128) (h : ρ.val % 128 = n), (⟨ρ.val % 128, Nat.mod_lt _ (by decide)⟩ : Fin 128) = ⟨n, hn⟩ := fun n hn h => Fin.ext h
  split
  · rw [hx ρ.val (by omega) (by omega), show ρ.val % 128 = ρ.val from by omega]
    exact bias (i 1).val b ρ.val c.val hi hb (by omega) c.isLt _ _
  split
  · rw [hx (ρ.val - 128) (by omega) (by omega), show ρ.val % 128 = ρ.val - 128 from by omega]
    exact bias (i 1).val b (ρ.val - 128) c.val hi hb (by omega) c.isLt _ _
  split
  · rw [hx (ρ.val - 128 - 128) (by omega) (by omega), show ρ.val % 128 = ρ.val - 128 - 128 from by omega]
    exact bias (i 1).val b (ρ.val - 128 - 128) c.val hi hb (by omega) c.isLt _ _
  · rw [hx (ρ.val - 128 - 128 - 128) (by omega) (by omega), show ρ.val % 128 = ρ.val - 128 - 128 - 128 from by omega]
    exact bias (i 1).val b (ρ.val - 128 - 128 - 128) c.val hi hb (by omega) c.isLt _ _

theorem step3 (v3 : IVec S128x256 32) (vb : Vec Ideal S256x128 .bf16) (v106 : FVec Ideal S512x256 .f32) (v108 : IVec S128x256 32) (v142 : FVec Ideal S128x256 .bf16) (sel : Vec Ideal S128x128 .bf16) (s : Fin 512 → Fin 256 → EReal)
    (hs : ∀ ρ c, k0_pay25 (F := Ideal) v3 v106 v108 v142 sel (ix2 ρ c) = s ρ c) (M L A : Vec Ideal S512x128 .f32) :
    Step s vb M L A (k0_pay56 (F := Ideal) (k0_pay26 (F := Ideal) v3 v106 v108 v142 sel M)) (k0_pay29 (F := Ideal) v3 v106 v108 v142 sel M L) (k0_pay30 (F := Ideal) v3 vb v106 v108 v142 sel M A) := by
  have hm : ∀ ρ c, k0_pay56 (F := Ideal) (k0_pay26 (F := Ideal) v3 v106 v108 v142 sel M) (ix2 ρ c) = k0_pay26 (F := Ideal) v3 v106 v108 v142 sel M (ix2 ρ c) := fun ρ c => by pointwise [k0_pay56]
  refine ⟨fun ρ c => ?_, fun ρ c => ?_, fun ρ e => ?_⟩
  · rw [hm]
    pointwise [k0_pay26]
    rw [show Ideal.ofBits FTy.f32 4286578688#32 = (⊥ : EReal) from rfl]
    simp only [hs]
  · rw [hm, hm]
    pointwise [k0_pay29, k0_pay27, k0_pay28]
    simp only [hs]
  · rw [hm, hm]
    pointwise [k0_pay30, k0_pay27, k0_pay28]
    simp only [hs]

theorem keys_two (n : ℕ) : keys 0 (2 * (n + 1)) = keys 0 (2 * n) ∪ Finset.Ico (n * 256) (n * 256 + 256) := by
  unfold keys
  rw [show (0 + 2 * (n + 1)) * 128 = n * 256 + 256 by ring, show (0 + 2 * n) * 128 = n * 256 by ring]
  exact (Finset.Ico_union_Ico_eq_Ico (by omega) (by omega)).symm

theorem keys_apart (n : ℕ) : Disjoint (keys 0 (2 * n)) (Finset.Ico (n * 256) (n * 256 + 256)) := by
  unfold keys
  rw [show (0 + 2 * n) * 128 = n * 256 by ring]
  exact Finset.Ico_disjoint_Ico_consecutive _ _ _

theorem top_block (b : ℕ) (S : ℕ → EReal) : Cert.WinProof.top (Finset.Ico b (b + 256)) S = Finset.univ.fold max ⊥ (fun c : Fin 256 => S (b + c.val)) := by
  apply le_antisymm
  · refine Finset.sup_le fun k hk => ?_
    obtain ⟨h1, h2⟩ := Finset.mem_Ico.mp hk
    refine (Finset.le_fold_max _).mpr (Or.inr ⟨⟨k - b, by omega⟩, Finset.mem_univ _, ?_⟩)
    rw [show b + (k - b) = k by omega]
  · refine (Finset.fold_max_le _).mpr ⟨bot_le, fun c _ => ?_⟩
    exact Finset.le_sup (f := S) (Finset.mem_Ico.mpr ⟨by omega, by omega⟩)

/-- The running maximum at the next block of keys. -/
theorem top_succ (n : ℕ) (S : ℕ → EReal) :
    Cert.WinProof.top (keys 0 (2 * (n + 1))) S = max (Cert.WinProof.top (keys 0 (2 * n)) S) (Finset.univ.fold max ⊥ (fun c : Fin 256 => S (n * 256 + c.val))) := by
  rw [keys_two, top_union, top_block]

/-- The running sum at the next block of keys. -/
theorem mass_succ (n : ℕ) (S v : ℕ → EReal) (hS : ∀ k, S k ≠ ⊤) :
    mass (keys 0 (2 * (n + 1))) S v = Ideal.exp (Cert.WinProof.top (keys 0 (2 * n)) S - Cert.WinProof.top (keys 0 (2 * (n + 1))) S) * mass (keys 0 (2 * n)) S v
      + ∑ c : Fin 256, Ideal.exp (S (n * 256 + c.val) - Cert.WinProof.top (keys 0 (2 * (n + 1))) S) * v (n * 256 + c.val) := by
  rw [keys_two, mass_union _ _ S v (keys_apart n) hS, Finset.sum_Ico_eq_sum_range, Nat.add_sub_cancel_left, Finset.sum_range]

/-- The running softmax over the keys of the first `n` blocks, of rows of scores `S` and columns of values `V`. -/
structure Inv (n : ℕ) (S : Fin 512 → ℕ → EReal) (V : Fin 128 → ℕ → EReal) (M L A : Vec Ideal S512x128 .f32) : Prop where
  top : ∀ (ρ : Fin 512) (c : Fin 128), @Eq EReal (M (ix2 ρ c)) (Cert.WinProof.top (keys 0 (2 * n)) (S ρ))
  norm : ∀ (ρ : Fin 512) (c : Fin 128), @Eq EReal (L (ix2 ρ c)) (mass (keys 0 (2 * n)) (S ρ) (fun _ => 1))
  acc : ∀ (ρ : Fin 512) (e : Fin 128), @Eq EReal (A (ix2 ρ e)) (mass (keys 0 (2 * n)) (S ρ) (V e))

theorem Inv.succ {n : ℕ} {S : Fin 512 → ℕ → EReal} {V : Fin 128 → ℕ → EReal} {M L A M' L' A' : Vec Ideal S512x128 .f32} {s : Fin 512 → Fin 256 → EReal} {vb : Vec Ideal S256x128 .bf16}
    (h : Inv n S V M L A) (hst : Step s vb M L A M' L' A') (hS : ∀ ρ k, S ρ k ≠ ⊤) (hs : ∀ ρ (c : Fin 256), s ρ c = S ρ (n * 256 + c.val))
    (hv : ∀ (c : Fin 256) (e : Fin 128), @Eq EReal (vb (ix2 c e)) (V e (n * 256 + c.val))) : Inv (n + 1) S V M' L' A' := by
  have hm : ∀ (ρ : Fin 512) (c : Fin 128), @Eq EReal (M' (ix2 ρ c)) (Cert.WinProof.top (keys 0 (2 * (n + 1))) (S ρ)) := fun ρ c => by
    rw [hst.top, h.top, top_succ]
    simp only [hs]
  refine ⟨hm, fun ρ c => ?_, fun ρ e => ?_⟩
  · rw [hst.norm, h.norm, h.top, hm, hm, mass_succ _ _ _ (hS ρ)]
    simp only [hs, mul_one]
  · rw [hst.acc, h.acc, h.top, hm, hm, mass_succ _ _ _ (hS ρ), mul_comm (mass _ _ _)]
    simp only [hs, hv]

theorem Inv.zero (S : Fin 512 → ℕ → EReal) (V : Fin 128 → ℕ → EReal) {M L A : Vec Ideal S512x128 .f32} (hM : ∀ (ρ : Fin 512) (c : Fin 128), @Eq EReal (M (ix2 ρ c)) ⊥)
    (hL : ∀ (ρ : Fin 512) (c : Fin 128), @Eq EReal (L (ix2 ρ c)) 0) (hA : ∀ (ρ : Fin 512) (c : Fin 128), @Eq EReal (A (ix2 ρ c)) 0) : Inv 0 S V M L A :=
  ⟨fun ρ c => (hM ρ c).trans (top_zero 0 (S ρ)).symm, fun ρ c => (hL ρ c).trans (mass_zero 0 (S ρ) _).symm, fun ρ c => (hA ρ c).trans (mass_zero 0 (S ρ) _).symm⟩

end Cert.SlcProof

end
-- ==== Proof.SlcLoop.lean ====
/-
  The selected branch's loop over the blocks of keys: what the scratches hold after a number of trips.
-/
module

public import proofs.«01_k».proof.Proof.SlcStep
public import Idealize.ShloMosaic.Lib.VecWindow
public import Idealize.ShloMosaic.Lib.Pipeline.ValueKit.Acc
public import Idealize.ShloMosaic.Lib.Pipeline.ValueKit.Geometry
public import Idealize.ShloMosaic.Lib.Pipeline.ValueKit.Point

@[expose] public section

set_option maxRecDepth 16384

noncomputable section

namespace Cert.SlcProof

open Idealize.ShloMosaic Idealize.ShloMosaic.TcCoe Idealize.SL.Sem
open Cert.SlcIdeal Cert.SlcIdeal.Gen

variable (𝒱 : Variants) (c : Dev nD) (bd : Option 𝒱.V) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x128 .bf16) (harg5 : arg5.IsWhole) (arg6 : Memref sig .tc .vmem S128x1024 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)

/-- The block of keys of a trip, as a word. -/
theorem iv_eq (k : ℕ) : Scf.iv 0#32 1#32 k = BitVec.ofNat 32 k := by
  unfold Scf.iv
  rw [BitVec.mul_one, BitVec.zero_add]

/-- A grid point of the first batch. -/
def point (x : Fin 32) : grid0.Coords := fun a => match a with
  | 0 => ⟨0, by decide⟩
  | 1 => x

/-- The number of trips: the blocks of keys up to the queries' own. -/
theorem trips_eq (i : grid0.Coords) : (k0_t1_loop i).trips = (i 1).val / 2 + 1 := by
  have h : ∀ x : Fin 32, ((k0_t1_loop (point x)).trips : ℕ) = x.val / 2 + 1 := by decide +kernel
  exact h ⟨(i 1).val, (i 1).isLt⟩

theorem trips3_eq (i : grid0.Coords) : (k0_t3_loop i).trips = (i 1).val / 2 + 1 := trips_eq i

/-- The rows of keys and values a trip loads. -/
theorem row1 (i : grid0.Coords) (k : Fin (k0_t1_loop i).trips) : k0_off1 i k = ![k.val * 256, 0] := by
  have hi : (i 1).val < 32 := (i 1).isLt
  have hk := k.isLt.trans_eq (trips_eq i)
  have h : (Scalar.muli (Scf.iv 0#32 1#32 k.val) 256#32).toNat = k.val * 256 := by
    rw [iv_eq]
    show (BitVec.ofNat 32 k.val * 256#32).toNat = _
    rw [BitVec.toNat_mul, BitVec.toNat_ofNat, show (256#32).toNat = 256 from rfl]
    omega
  exact congrArg (fun n : ℕ => ![n, 0]) h

theorem row3 (i : grid0.Coords) (k : Fin (k0_t3_loop i).trips) : k0_off3 i k = ![k.val * 256, 128] := by
  have h := congrFun (row1 i k) 0
  exact congrArg (fun n : ℕ => ![n, 128]) h

/-- A row of queries' scores by a key's position: hidden where not picked, after the query and past the batch. -/
def line (qb : ℕ) (q4 : FVec Ideal S512x128 .bf16) (K : Vec Ideal S4096x256 .bf16) (sel : Vec Ideal S128x128 .bf16) (g : Fin 2) (ρ : Fin 512) (j : ℕ) : EReal :=
  if h : j < 4096 then
    (if hit (sel (ix2 ⟨ρ.val % 128, Nat.mod_lt _ (by decide)⟩ ⟨g.val * 64 + j / 64, by omega⟩)) ∧ j ≤ qb * 128 + ρ.val % 128 then ∑ d : Fin 128, q4 (ix2 ρ d) * K (ix2 ⟨j, h⟩ ⟨g.val * 128 + d.val, by omega⟩) else ⊥)
  else ⊥

/-- A column of values by a key's position. -/
def column (V : Vec Ideal S4096x256 .bf16) (g : Fin 2) (e : Fin 128) (j : ℕ) : EReal :=
  if h : j < 4096 then V (ix2 ⟨j, h⟩ ⟨g.val * 128 + e.val, by omega⟩) else 0

/-- A block of keys read through the view at an offset. -/
theorem ld_at {κ sp} (arg3 : Memref sig κ sp S4096x256 .bf16) (X3 : BufTy.Contents (Elt Ideal) arg3.view.ty) (off : Fin 2 → ℕ) (inb : ∀ a, off a + S256x128.size a ≤ S4096x256.size a) (b : ℕ) (g : Fin 2) (hb : b < 16)
    (h : off = ![b * 256, g.val * 128]) (x : Fin 256) (d : Fin 128) :
    @Eq EReal (View.readAt (Elt Ideal) arg3.view (Rect.unit (s := S4096x256) off S256x128.size inb).toLoadRect X3 (ix2 x d : S256x128.Idx))
      (arg3.view.read (Elt Ideal) X3 (ix2 ⟨b * 256 + x.val, by omega⟩ ⟨g.val * 128 + d.val, by omega⟩ : S4096x256.Idx)) := by
  subst h
  refine congrArg (arg3.view.read (Elt Ideal) X3) ?_
  funext a
  apply Fin.ext
  fin_cases a
  · exact (by omega : b * 256 + 1 * x.val = b * 256 + x.val)
  · exact (by omega : g.val * 128 + 1 * d.val = g.val * 128 + d.val)

/-- A block's scores are the row's at its positions. -/
theorem score_line (qb b : ℕ) (g : Fin 2) (hb : b < 16) (q4 : FVec Ideal S512x128 .bf16) (kb : Vec Ideal S256x128 .bf16) (K : Vec Ideal S4096x256 .bf16) (sel : Vec Ideal S128x128 .bf16)
    (hk : ∀ (x : Fin 256) (d : Fin 128), @Eq EReal (kb (ix2 x d)) (K (ix2 ⟨b * 256 + x.val, by omega⟩ ⟨g.val * 128 + d.val, by omega⟩))) (ρ : Fin 512) (x : Fin 256) :
    score qb b g hb q4 kb sel ρ x = line qb q4 K sel g ρ (b * 256 + x.val) := by
  unfold score line
  rw [dif_pos (show b * 256 + x.val < 4096 by omega)]
  have e : flag g b hb x = ⟨g.val * 64 + (b * 256 + x.val) / 64, by omega⟩ := Fin.ext (by
    show g.val * 64 + b * 4 + x.val / 64 = g.val * 64 + (b * 256 + x.val) / 64
    omega)
  rw [e]
  exact if_congr Iff.rfl (Finset.sum_congr rfl fun d _ => congrArg (fun y : EReal => q4 (ix2 ρ d) * y) (hk x d)) rfl

/-- What a trip of the loop of group 0 writes: the body's results over the whole scratches. -/
theorem trip1_top (v25 : BitVec 32) (v30 : FVec Ideal S512x128 .bf16) (v34 : FVec Ideal S512x128 .f32) (X3 : BufTy.Contents (Elt Ideal) arg3.view.ty) (X4 : BufTy.Contents (Elt Ideal) arg4.view.ty) (X5 : BufTy.Contents (Elt Ideal) arg5.view.ty) (k : Fin (k0_t1_loop i).trips) (f7 : BufTy.Contents (Elt Ideal) arg7.view.ty) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 (k0_pay40 i) lanes v25 v30 v34 X3 X4 X5 k).1 f7 f8 f9 = [⟨Rect.unit (s := S512x128) ![0, 0] S512x128.size inb_S512x128_S512x128_0_0, k0_pay45 (F := Ideal) (k0_pay8 (F := Ideal) (k0_pay40 i) (k0_pay4 (F := Ideal) v30 (View.readAt (Elt Ideal) arg3.view (Rect.unit (s := S4096x256) (k0_off1 i k) S256x128.size (k0_off1_inb i k)).toLoadRect X3)) (k0_pay5 i lanes 0#32 1#32 k) (k0_pay6 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7))⟩] := by
  unfold trip_k0_t1
  rfl

theorem trip1_norm (v25 : BitVec 32) (v30 : FVec Ideal S512x128 .bf16) (v34 : FVec Ideal S512x128 .f32) (X3 : BufTy.Contents (Elt Ideal) arg3.view.ty) (X4 : BufTy.Contents (Elt Ideal) arg4.view.ty) (X5 : BufTy.Contents (Elt Ideal) arg5.view.ty) (k : Fin (k0_t1_loop i).trips) (f7 : BufTy.Contents (Elt Ideal) arg7.view.ty) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 (k0_pay40 i) lanes v25 v30 v34 X3 X4 X5 k).2.1 f7 f8 f9 = [⟨Rect.unit (s := S512x128) ![0, 0] S512x128.size inb_S512x128_S512x128_0_0, k0_pay11 (F := Ideal) (k0_pay40 i) (k0_pay4 (F := Ideal) v30 (View.readAt (Elt Ideal) arg3.view (Rect.unit (s := S4096x256) (k0_off1 i k) S256x128.size (k0_off1_inb i k)).toLoadRect X3)) (k0_pay5 i lanes 0#32 1#32 k) (k0_pay6 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7) (View.readAt (Elt Ideal) arg8.view (Rect.unit (s := S512x128) ![0, 0] S512x128.size inb_S512x128_S512x128_0_0).toLoadRect f8)⟩] := by
  unfold trip_k0_t1
  rfl

theorem trip1_acc (v25 : BitVec 32) (v30 : FVec Ideal S512x128 .bf16) (v34 : FVec Ideal S512x128 .f32) (X3 : BufTy.Contents (Elt Ideal) arg3.view.ty) (X4 : BufTy.Contents (Elt Ideal) arg4.view.ty) (X5 : BufTy.Contents (Elt Ideal) arg5.view.ty) (k : Fin (k0_t1_loop i).trips) (f7 : BufTy.Contents (Elt Ideal) arg7.view.ty) (f8 : BufTy.Contents (Elt Ideal) arg8.view.ty) (f9 : BufTy.Contents (Elt Ideal) arg9.view.ty) :
    (trip_k0_t1 (F := Ideal) 𝒱 c bd i arg2 harg2 arg3 harg3 arg4 harg4 arg5 harg5 arg6 harg6 arg7 harg7 arg8 harg8 arg9 harg9 (k0_pay40 i) lanes v25 v30 v34 X3 X4 X5 k).2.2.1 f7 f8 f9 = [⟨Rect.unit (s := S512x128) ![0, 0] S512x128.size inb_S512x128_S512x128_0_0, k0_pay12 (F := Ideal) (k0_pay40 i) (View.readAt (Elt Ideal) arg4.view (Rect.unit (s := S4096x256) (k0_off1 i k) S256x128.size (k0_off1_inb i k)).toLoadRect X4) (k0_pay4 (F := Ideal) v30 (View.readAt (Elt Ideal) arg3.view (Rect.unit (s := S4096x256) (k0_off1 i k) S256x128.size (k0_off1_inb i k)).toLoadRect X3)) (k0_pay5 i lanes 0#32 1#32 k) (k0_pay6 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7) (View.readAt (Elt Ideal) arg9.view (Rect.unit (s := S512x128) ![0, 0] S512x128.size inb_S512x128_S512x128_0_0).toLoadRect f9)⟩] := by
  unfold trip_k0_t1
  rfl

/-- THE LOOP'S INVARIANT of group 0: after `n` trips the scratches hold the running softmax over the first `n` blocks. -/
theorem loop1 (v25 : BitVec 32) (v30 : FVec Ideal S512x128 .bf16) (v34 : FVec Ideal S512x128 .f32) (X3 : BufTy.Contents (Elt Ideal) arg3.view.ty) (X4 : BufTy.Contents (Elt Ideal) arg4.view.ty) (X5 : BufTy.Contents (Elt Ideal) arg5.view.ty) (G7 : BufTy.Contents (Elt Ideal) arg7.view.ty) (G8 : BufTy.Contents (Elt Ideal) arg8.view.ty) (G9 : BufTy.Contents (Elt Ideal) arg9.view.ty)
    (hS : ∀ ρ k, (line (i 1).val v30 (arg3.view.read (Elt Ideal) X3) (arg5.view.read (Elt Ideal) X5) 0) ρ k ≠ ⊤)
    (h0 : Inv 0 (line (i 1).val v30 (arg3.view.read (Elt Ideal) X3) (arg5.view.read (Elt Ideal) X5) 0) (column (arg4.view.read (Elt Ideal) X4) 0)
      (arg7.view.read (Elt Ideal) G7) (arg8.view.read (Elt Ideal) G8) (arg9.view.read (Elt Ideal) G9)) (n : ℕ) (hn : n ≤ (k0_t1_loop i).trips) :
    Inv n (line (i 1).val v30 (arg3.view.read (Elt Ideal) X3) (arg5.view.read (Elt Ideal) X5) 0) (column (arg4.view.read (Elt Ideal) X4) 0)
      (arg7.view.read (Elt Ideal) (arg7.view.writes (Elt Ideal) G7 (pb_k0_t1 (F := Ideal) 𝒱 c bd i arg2 harg2 arg3 harg3 arg4 harg4 arg5 harg5 arg6 harg6 arg7 harg7 arg8 harg8 arg9 harg9 (k0_pay40 i) lanes v25 v30 v34 X3 X4 X5 G7 G8 G9 n).1))
      (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 (k0_pay40 i) lanes v25 v30 v34 X3 X4 X5 G7 G8 G9 n).2.1))
      (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 (k0_pay40 i) lanes v25 v30 v34 X3 X4 X5 G7 G8 G9 n).2.2)) := by
  have hi : (i 1).val < 32 := (i 1).isLt
  induction n with
  | zero => exact h0
  | succ n ih =>
    have hk : n < (k0_t1_loop i).trips := hn
    have hk' := hk
    rw [trips_eq] at hk'
    have hb : n < 16 := by omega
    have ih := ih hk.le
    have e := pb_k0_t1_succ (F := Ideal) 𝒱 c bd i arg2 harg2 arg3 harg3 arg4 harg4 arg5 harg5 arg6 harg6 arg7 harg7 arg8 harg8 arg9 harg9 (k0_pay40 i) lanes v25 v30 v34 X3 X4 X5 G7 G8 G9 ⟨n, hk⟩
    dsimp only at e
    rw [e]
    dsimp only
    generalize pb_k0_t1 (F := Ideal) 𝒱 c bd i arg2 harg2 arg3 harg3 arg4 harg4 arg5 harg5 arg6 harg6 arg7 harg7 arg8 harg8 arg9 harg9 (k0_pay40 i) lanes v25 v30 v34 X3 X4 X5 G7 G8 G9 n = prev at ih
    obtain ⟨P7, P8, P9⟩ := prev
    dsimp only at ih ⊢
    rw [trip1_top, trip1_norm, trip1_acc]
    rw [List.singleton_append, List.singleton_append, List.singleton_append]
    rw [View.read_writes_full (s := S512x128), View.read_writes_full (s := S512x128), View.read_writes_full (s := S512x128)]
    have hst := step1 (k0_pay40 i) (View.readAt (Elt Ideal) arg4.view (Rect.unit (s := S4096x256) (k0_off1 i ⟨n, hk⟩) S256x128.size (k0_off1_inb i ⟨n, hk⟩)).toLoadRect X4) (k0_pay4 (F := Ideal) v30 (View.readAt (Elt Ideal) arg3.view (Rect.unit (s := S4096x256) (k0_off1 i ⟨n, hk⟩) S256x128.size (k0_off1_inb i ⟨n, hk⟩)).toLoadRect X3)) (k0_pay5 i lanes 0#32 1#32 ⟨n, hk⟩) (k0_pay6 (F := Ideal) i 0#32 1#32 ⟨n, hk⟩) (arg5.view.read (Elt Ideal) X5) (score (i 1).val n 0 hb v30 (View.readAt (Elt Ideal) arg3.view (Rect.unit (s := S4096x256) (k0_off1 i ⟨n, hk⟩) S256x128.size (k0_off1_inb i ⟨n, hk⟩)).toLoadRect X3) (arg5.view.read (Elt Ideal) X5))
      (fun ρ x => score1 i v30 ⟨n, hk⟩ (View.readAt (Elt Ideal) arg3.view (Rect.unit (s := S4096x256) (k0_off1 i ⟨n, hk⟩) S256x128.size (k0_off1_inb i ⟨n, hk⟩)).toLoadRect X3) (arg5.view.read (Elt Ideal) X5) n hb hi (iv_eq n) ρ x)
      (arg7.view.read (Elt Ideal) (arg7.view.writes (Elt Ideal) G7 P7)) (arg8.view.read (Elt Ideal) (arg8.view.writes (Elt Ideal) G8 P8)) (arg9.view.read (Elt Ideal) (arg9.view.writes (Elt Ideal) G9 P9))
    have r5 : (View.readAt (Elt Ideal) arg5.view (Rect.unit (s := S128x128) ![0, 0] S128x128.size inb_S128x128_S128x128_0_0).toLoadRect X5) = (arg5.view.read (Elt Ideal) X5) := View.readAt_full (s := S128x128) _ _ _
    have r7 : (View.readAt (Elt Ideal) arg7.view (Rect.unit (s := S512x128) ![0, 0] S512x128.size inb_S512x128_S512x128_0_0).toLoadRect (arg7.view.writes (Elt Ideal) G7 P7)) = _ := View.readAt_full (s := S512x128) _ _ _
    have r8 : (View.readAt (Elt Ideal) arg8.view (Rect.unit (s := S512x128) ![0, 0] S512x128.size inb_S512x128_S512x128_0_0).toLoadRect (arg8.view.writes (Elt Ideal) G8 P8)) = _ := View.readAt_full (s := S512x128) _ _ _
    have r9 : (View.readAt (Elt Ideal) arg9.view (Rect.unit (s := S512x128) ![0, 0] S512x128.size inb_S512x128_S512x128_0_0).toLoadRect (arg9.view.writes (Elt Ideal) G9 P9)) = _ := View.readAt_full (s := S512x128) _ _ _
    rw [r5, r7, r8, r9]
    refine ih.succ hst hS (fun ρ x => ?_) (fun x e => ?_)
    · exact score_line (i 1).val n 0 hb v30 _ _ _ (fun x d => ld_at arg3 X3 _ _ n 0 hb (row1 i ⟨n, hk⟩) x d) ρ x
    · unfold column
      rw [dif_pos (show n * 256 + x.val < 4096 by omega)]
      exact ld_at arg4 X4 _ _ n 0 hb (row1 i ⟨n, hk⟩) x e

/-- What a trip of the loop of group 1 writes: the body's results over the whole scratches. -/
theorem trip3_top (v25 : BitVec 32) (v63 v64 v65 v66 : Vec Ideal S128x128 .bf16) (X3 : BufTy.Contents (Elt Ideal) arg3.view.ty) (X4 : BufTy.Contents (Elt Ideal) arg4.view.ty) (X5 : BufTy.Contents (Elt Ideal) arg5.view.ty) (k : Fin (k0_t3_loop i).trips) (f7 : BufTy.Contents (Elt Ideal) arg7.view.ty) (f8 : BufTy.Contents (Elt Ideal) arg8.view.ty) (f9 : BufTy.Contents (Elt Ideal) arg9.view.ty) :
    (trip_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 k).1 f7 f8 f9 = [⟨Rect.unit (s := S512x128) ![0, 0] S512x128.size inb_S512x128_S512x128_0_0, k0_pay56 (F := Ideal) (k0_pay26 (F := Ideal) (k0_pay40 i) (k0_pay22 (F := Ideal) (k0_pay52 (F := Ideal) v63 v64 v65 v66) (View.readAt (Elt Ideal) arg3.view (Rect.unit (s := S4096x256) (k0_off3 i k) S256x128.size (k0_off3_inb i k)).toLoadRect X3)) (k0_pay23 i lanes 0#32 1#32 k) (k0_pay24 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7))⟩] := by
  unfold trip_k0_t3
  rfl

theorem trip3_norm (v25 : BitVec 32) (v63 v64 v65 v66 : Vec Ideal S128x128 .bf16) (X3 : BufTy.Contents (Elt Ideal) arg3.view.ty) (X4 : BufTy.Contents (Elt Ideal) arg4.view.ty) (X5 : BufTy.Contents (Elt Ideal) arg5.view.ty) (k : Fin (k0_t3_loop i).trips) (f7 : BufTy.Contents (Elt Ideal) arg7.view.ty) (f8 : BufTy.Contents (Elt Ideal) arg8.view.ty) (f9 : BufTy.Contents (Elt Ideal) arg9.view.ty) :
    (trip_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 k).2.1 f7 f8 f9 = [⟨Rect.unit (s := S512x128) ![0, 0] S512x128.size inb_S512x128_S512x128_0_0, k0_pay29 (F := Ideal) (k0_pay40 i) (k0_pay22 (F := Ideal) (k0_pay52 (F := Ideal) v63 v64 v65 v66) (View.readAt (Elt Ideal) arg3.view (Rect.unit (s := S4096x256) (k0_off3 i k) S256x128.size (k0_off3_inb i k)).toLoadRect X3)) (k0_pay23 i lanes 0#32 1#32 k) (k0_pay24 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7) (View.readAt (Elt Ideal) arg8.view (Rect.unit (s := S512x128) ![0, 0] S512x128.size inb_S512x128_S512x128_0_0).toLoadRect f8)⟩] := by
  unfold trip_k0_t3
  rfl

theorem trip3_acc (v25 : BitVec 32) (v63 v64 v65 v66 : Vec Ideal S128x128 .bf16) (X3 : BufTy.Contents (Elt Ideal) arg3.view.ty) (X4 : BufTy.Contents (Elt Ideal) arg4.view.ty) (X5 : BufTy.Contents (Elt Ideal) arg5.view.ty) (k : Fin (k0_t3_loop i).trips) (f7 : BufTy.Contents (Elt Ideal) arg7.view.ty) (f8 : BufTy.Contents (Elt Ideal) arg8.view.ty) (f9 : BufTy.Contents (Elt Ideal) arg9.view.ty) :
    (trip_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 k).2.2.1 f7 f8 f9 = [⟨Rect.unit (s := S512x128) ![0, 0] S512x128.size inb_S512x128_S512x128_0_0, k0_pay30 (F := Ideal) (k0_pay40 i) (View.readAt (Elt Ideal) arg4.view (Rect.unit (s := S4096x256) (k0_off3 i k) S256x128.size (k0_off3_inb i k)).toLoadRect X4) (k0_pay22 (F := Ideal) (k0_pay52 (F := Ideal) v63 v64 v65 v66) (View.readAt (Elt Ideal) arg3.view (Rect.unit (s := S4096x256) (k0_off3 i k) S256x128.size (k0_off3_inb i k)).toLoadRect X3)) (k0_pay23 i lanes 0#32 1#32 k) (k0_pay24 (F := Ideal) i 0#32 1#32 k) (View.readAt (Elt Ideal) arg5.view (Rect.unit (s := S128x128) ![0, 0] S128x128.size inb_S128x128_S128x128_0_0).toLoadRect X5) (View.readAt (Elt Ideal) arg7.view (Rect.unit (s := S512x128) ![0, 0] S512x128.size inb_S512x128_S512x128_0_0).toLoadRect f7) (View.readAt (Elt Ideal) arg9.view (Rect.unit (s := S512x128) ![0, 0] S512x128.size inb_S512x128_S512x128_0_0).toLoadRect f9)⟩] := by
  unfold trip_k0_t3
  rfl

/-- THE LOOP'S INVARIANT of group 1: after `n` trips the scratches hold the running softmax over the first `n` blocks. -/
theorem loop3 (v25 : BitVec 32) (v63 v64 v65 v66 : Vec Ideal S128x128 .bf16) (X3 : BufTy.Contents (Elt Ideal) arg3.view.ty) (X4 : BufTy.Contents (Elt Ideal) arg4.view.ty) (X5 : BufTy.Contents (Elt Ideal) arg5.view.ty) (G7 : BufTy.Contents (Elt Ideal) arg7.view.ty) (G8 : BufTy.Contents (Elt Ideal) arg8.view.ty) (G9 : BufTy.Contents (Elt Ideal) arg9.view.ty)
    (hS : ∀ ρ k, (line (i 1).val (k0_pay52 (F := Ideal) v63 v64 v65 v66) (arg3.view.read (Elt Ideal) X3) (arg5.view.read (Elt Ideal) X5) 1) ρ k ≠ ⊤)
    (h0 : Inv 0 (line (i 1).val (k0_pay52 (F := Ideal) v63 v64 v65 v66) (arg3.view.read (Elt Ideal) X3) (arg5.view.read (Elt Ideal) X5) 1) (column (arg4.view.read (Elt Ideal) X4) 1)
      (arg7.view.read (Elt Ideal) G7) (arg8.view.read (Elt Ideal) G8) (arg9.view.read (Elt Ideal) G9)) (n : ℕ) (hn : n ≤ (k0_t3_loop i).trips) :
    Inv n (line (i 1).val (k0_pay52 (F := Ideal) v63 v64 v65 v66) (arg3.view.read (Elt Ideal) X3) (arg5.view.read (Elt Ideal) X5) 1) (column (arg4.view.read (Elt Ideal) X4) 1)
      (arg7.view.read (Elt Ideal) (arg7.view.writes (Elt Ideal) G7 (pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 G7 G8 G9 n).1))
      (arg8.view.read (Elt Ideal) (arg8.view.writes (Elt Ideal) G8 (pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 G7 G8 G9 n).2.1))
      (arg9.view.read (Elt Ideal) (arg9.view.writes (Elt Ideal) G9 (pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 G7 G8 G9 n).2.2)) := by
  have hi : (i 1).val < 32 := (i 1).isLt
  induction n with
  | zero => exact h0
  | succ n ih =>
    have hk : n < (k0_t3_loop i).trips := hn
    have hk' := hk
    rw [trips3_eq] at hk'
    have hb : n < 16 := by omega
    have ih := ih hk.le
    have e := pb_k0_t3_succ (F := Ideal) 𝒱 c bd i arg2 harg2 arg3 harg3 arg4 harg4 arg5 harg5 arg6 harg6 arg7 harg7 arg8 harg8 arg9 harg9 (k0_pay40 i) lanes v25 v63 v64 v65 v66 X3 X4 X5 G7 G8 G9 ⟨n, hk⟩
    dsimp only at e
    rw [e]
    dsimp only
    generalize pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 G7 G8 G9 n = prev at ih
    obtain ⟨P7, P8, P9⟩ := prev
    dsimp only at ih ⊢
    rw [trip3_top, trip3_norm, trip3_acc]
    rw [List.singleton_append, List.singleton_append, List.singleton_append]
    rw [View.read_writes_full (s := S512x128), View.read_writes_full (s := S512x128), View.read_writes_full (s := S512x128)]
    have hst := step3 (k0_pay40 i) (View.readAt (Elt Ideal) arg4.view (Rect.unit (s := S4096x256) (k0_off3 i ⟨n, hk⟩) S256x128.size (k0_off3_inb i ⟨n, hk⟩)).toLoadRect X4) (k0_pay22 (F := Ideal) (k0_pay52 (F := Ideal) v63 v64 v65 v66) (View.readAt (Elt Ideal) arg3.view (Rect.unit (s := S4096x256) (k0_off3 i ⟨n, hk⟩) S256x128.size (k0_off3_inb i ⟨n, hk⟩)).toLoadRect X3)) (k0_pay23 i lanes 0#32 1#32 ⟨n, hk⟩) (k0_pay24 (F := Ideal) i 0#32 1#32 ⟨n, hk⟩) (arg5.view.read (Elt Ideal) X5) (score (i 1).val n 1 hb (k0_pay52 (F := Ideal) v63 v64 v65 v66) (View.readAt (Elt Ideal) arg3.view (Rect.unit (s := S4096x256) (k0_off3 i ⟨n, hk⟩) S256x128.size (k0_off3_inb i ⟨n, hk⟩)).toLoadRect X3) (arg5.view.read (Elt Ideal) X5))
      (fun ρ x => score3 i (k0_pay52 (F := Ideal) v63 v64 v65 v66) ⟨n, hk⟩ (View.readAt (Elt Ideal) arg3.view (Rect.unit (s := S4096x256) (k0_off3 i ⟨n, hk⟩) S256x128.size (k0_off3_inb i ⟨n, hk⟩)).toLoadRect X3) (arg5.view.read (Elt Ideal) X5) n hb hi (iv_eq n) ρ x)
      (arg7.view.read (Elt Ideal) (arg7.view.writes (Elt Ideal) G7 P7)) (arg8.view.read (Elt Ideal) (arg8.view.writes (Elt Ideal) G8 P8)) (arg9.view.read (Elt Ideal) (arg9.view.writes (Elt Ideal) G9 P9))
    have r5 : (View.readAt (Elt Ideal) arg5.view (Rect.unit (s := S128x128) ![0, 0] S128x128.size inb_S128x128_S128x128_0_0).toLoadRect X5) = (arg5.view.read (Elt Ideal) X5) := View.readAt_full (s := S128x128) _ _ _
    have r7 : (View.readAt (Elt Ideal) arg7.view (Rect.unit (s := S512x128) ![0, 0] S512x128.size inb_S512x128_S512x128_0_0).toLoadRect (arg7.view.writes (Elt Ideal) G7 P7)) = _ := View.readAt_full (s := S512x128) _ _ _
    have r8 : (View.readAt (Elt Ideal) arg8.view (Rect.unit (s := S512x128) ![0, 0] S512x128.size inb_S512x128_S512x128_0_0).toLoadRect (arg8.view.writes (Elt Ideal) G8 P8)) = _ := View.readAt_full (s := S512x128) _ _ _
    have r9 : (View.readAt (Elt Ideal) arg9.view (Rect.unit (s := S512x128) ![0, 0] S512x128.size inb_S512x128_S512x128_0_0).toLoadRect (arg9.view.writes (Elt Ideal) G9 P9)) = _ := View.readAt_full (s := S512x128) _ _ _
    rw [r5, r7, r8, r9]
    refine ih.succ hst hS (fun ρ x => ?_) (fun x e => ?_)
    · exact score_line (i 1).val n 1 hb (k0_pay52 (F := Ideal) v63 v64 v65 v66) _ _ _ (fun x d => ld_at arg3 X3 _ _ n 1 hb (row3 i ⟨n, hk⟩) x d) ρ x
    · unfold column
      rw [dif_pos (show n * 256 + x.val < 4096 by omega)]
      exact ld_at arg4 X4 _ _ n 1 hb (row3 i ⟨n, hk⟩) x e

end Cert.SlcProof

end
-- ==== Proof.SlcBlocks.lean ====
/-
  The selected branch: the blocks the grid point reads and writes at an index of the arrays.
-/
module

public import proofs.«01_k».proof.Proof.Gen.SlcIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.SlcProof

open Idealize.ShloMosaic Idealize.ShloMosaic.TcCoe Idealize.SL.Sem
open Cert.SlcIdeal Cert.SlcIdeal.Gen

variable (m : (ℓ : Loc nD τ sig) → Buf (Elt Ideal) ℓ)

/-- The arguments as arrays. -/
abbrev arr0 : (⟨S32768x1536, .bf16⟩ : BufTy).Contents (Elt Ideal) := m (((0 : Dev nD) : Thread nD τ).loc main_arg0)
abbrev arr1 : (⟨S32768x9856, .bf16⟩ : BufTy).Contents (Elt Ideal) := m (((0 : Dev nD) : Thread nD τ).loc main_arg1)
abbrev arr2 : (⟨S32768x128, .bf16⟩ : BufTy).Contents (Elt Ideal) := m (((0 : Dev nD) : Thread nD τ).loc main_arg2)

/-- The grid's second coordinate is the tile within the batch. -/
theorem coord1 : ∀ t : Fin cfg0.N, (grid0.coords t 1).val = t.val % 32 := (by decide +kernel : ∀ t : Fin grid0.N, (grid0.coords t 1).val = t.val % 32)

/-- The blocks of the windows at a grid point. -/
theorem idx0 : ∀ t : Fin cfg0.N, ∀ b : Fin 2, win0_0.index t b = (![t.val, 0] : Fin 2 → ℕ) b := (by decide +kernel : ∀ t : Fin grid0.N, ∀ b : Fin 2, win0_0.index t b = (![t.val, 0] : Fin 2 → ℕ) b)
theorem idx1 : ∀ t : Fin cfg0.N, ∀ b : Fin 2, win0_1.index t b = (![t.val / 32, 4] : Fin 2 → ℕ) b := (by decide +kernel : ∀ t : Fin grid0.N, ∀ b : Fin 2, win0_1.index t b = (![t.val / 32, 4] : Fin 2 → ℕ) b)
theorem idx2 : ∀ t : Fin cfg0.N, ∀ b : Fin 2, win0_2.index t b = (![t.val / 32, 36] : Fin 2 → ℕ) b := (by decide +kernel : ∀ t : Fin grid0.N, ∀ b : Fin 2, win0_2.index t b = (![t.val / 32, 36] : Fin 2 → ℕ) b)
theorem idx3 : ∀ t : Fin cfg0.N, ∀ b : Fin 2, win0_3.index t b = (![t.val, 0] : Fin 2 → ℕ) b := (by decide +kernel : ∀ t : Fin grid0.N, ∀ b : Fin 2, win0_3.index t b = (![t.val, 0] : Fin 2 → ℕ) b)
theorem idx4 : ∀ t : Fin cfg0.N, ∀ b : Fin 2, win0_4.index t b = (![t.val, 0] : Fin 2 → ℕ) b := (by decide +kernel : ∀ t : Fin grid0.N, ∀ b : Fin 2, win0_4.index t b = (![t.val, 0] : Fin 2 → ℕ) b)

/-- The block of queries at a grid point. -/
theorem q_at (t : Fin 256) (a : Fin 128) (k : Fin 1024) :
    @Eq EReal (X0_0 m 0 t (ix2 a k : S128x1024.Idx)) (arr0 m (ix2 ⟨t.val * 128 + a.val, by omega⟩ ⟨k.val, by omega⟩)) := by
  unfold X0_0 Pipeline.Window.fill
  rw [dif_pos (moved0_0 t _)]
  refine (show _ = (V m 0 main_arg0 : (⟨S32768x1536, .bf16⟩ : BufTy).Contents (Elt Ideal)) (((cfg0.win 0).rect t).emb _) from rfl).trans ?_
  rw [V_main_arg0 m 0]
  refine congrArg (arr0 m) ?_
  funext b
  apply Fin.ext
  refine (Pipeline.Window.rect_emb_val _ _ _ _).trans ?_
  rw [show (cfg0.win 0).index t b = (![t.val, 0] : Fin 2 → ℕ) b from idx0 t b, show (cfg0.win 0).size b = S128x1024.size b from rfl]
  fin_cases b
  · exact (by omega : (t.val) * 128 + a.val = t.val * 128 + a.val)
  · exact (by omega : 0 * 1024 + k.val = k.val)

/-- The keys of a grid point's batch. -/
theorem k_at (t : Fin 256) (a : Fin 4096) (k : Fin 256) :
    @Eq EReal (iblk m 0 1 t (ix2 a k : S4096x256.Idx)) (arr0 m (ix2 ⟨t.val / 32 * 4096 + a.val, by omega⟩ ⟨1024 + k.val, by omega⟩)) := by
  refine (show _ = (V m 0 main_arg0 : (⟨S32768x1536, .bf16⟩ : BufTy).Contents (Elt Ideal)) (((cfg0.win 1).rect t).emb (ix2 a k : S4096x256.Idx)) from rfl).trans ?_
  rw [V_main_arg0 m 0]
  refine congrArg (arr0 m) ?_
  funext b
  apply Fin.ext
  refine (Pipeline.Window.rect_emb_val _ _ _ _).trans ?_
  rw [show (cfg0.win 1).index t b = (![t.val / 32, 4] : Fin 2 → ℕ) b from idx1 t b, show (cfg0.win 1).size b = S4096x256.size b from rfl]
  fin_cases b
  · exact (by omega : (t.val / 32) * 4096 + a.val = t.val / 32 * 4096 + a.val)
  · exact (by omega : 4 * 256 + k.val = 1024 + k.val)

/-- The values of a grid point's batch. -/
theorem v_at (t : Fin 256) (a : Fin 4096) (k : Fin 256) :
    @Eq EReal (X0_2 m 0 t (ix2 a k : S4096x256.Idx)) (arr1 m (ix2 ⟨t.val / 32 * 4096 + a.val, by omega⟩ ⟨9216 + k.val, by omega⟩)) := by
  unfold X0_2 Pipeline.Window.fill
  rw [dif_pos (moved0_2 t _)]
  refine (show _ = (V m 0 main_arg1 : (⟨S32768x9856, .bf16⟩ : BufTy).Contents (Elt Ideal)) (((cfg0.win 2).rect t).emb _) from rfl).trans ?_
  rw [V_main_arg1 m 0]
  refine congrArg (arr1 m) ?_
  funext b
  apply Fin.ext
  refine (Pipeline.Window.rect_emb_val _ _ _ _).trans ?_
  rw [show (cfg0.win 2).index t b = (![t.val / 32, 36] : Fin 2 → ℕ) b from idx2 t b, show (cfg0.win 2).size b = S4096x256.size b from rfl]
  fin_cases b
  · exact (by omega : (t.val / 32) * 4096 + a.val = t.val / 32 * 4096 + a.val)
  · exact (by omega : 36 * 256 + k.val = 9216 + k.val)

/-- The picked blocks of a grid point's queries. -/
theorem sel_at (t : Fin 256) (a : Fin 128) (k : Fin 128) :
    @Eq EReal (iblk m 0 3 t (ix2 a k : S128x128.Idx)) (arr2 m (ix2 ⟨t.val * 128 + a.val, by omega⟩ k)) := by
  refine (show _ = (V m 0 main_arg2 : (⟨S32768x128, .bf16⟩ : BufTy).Contents (Elt Ideal)) (((cfg0.win 3).rect t).emb (ix2 a k : S128x128.Idx)) from rfl).trans ?_
  rw [V_main_arg2 m 0]
  refine congrArg (arr2 m) ?_
  funext b
  apply Fin.ext
  refine (Pipeline.Window.rect_emb_val _ _ _ _).trans ?_
  rw [show (cfg0.win 3).index t b = (![t.val, 0] : Fin 2 → ℕ) b from idx3 t b, show (cfg0.win 3).size b = S128x128.size b from rfl]
  fin_cases b
  · exact (by omega : t.val * 128 + a.val = t.val * 128 + a.val)
  · exact (by omega : 0 * 128 + k.val = k.val)

/-- A result block's element in the array. -/
theorem y_at (t : Fin 256) (a : Fin 128) (d : Fin 1024) :
    @Eq S32768x1024.Idx (((cfg0.win 4).rect t).emb (ix2 a d : S128x1024.Idx)) (ix2 ⟨t.val * 128 + a.val, by omega⟩ d) := by
  funext b
  apply Fin.ext
  refine (Pipeline.Window.rect_emb_val _ _ _ _).trans ?_
  rw [show (cfg0.win 4).index t b = (![t.val, 0] : Fin 2 → ℕ) b from idx4 t b, show (cfg0.win 4).size b = S128x1024.size b from rfl]
  fin_cases b
  · exact (by omega : t.val * 128 + a.val = t.val * 128 + a.val)
  · exact (by omega : 0 * 1024 + d.val = d.val)

/-- Every block of the result is written back, one for each grid point. -/
theorem covers : (cfg0.win 4).Covers := by
  have n0 : (cfg0.win 4).nblk (0 : Fin 2) = grid0.N := by
    show (S32768x1024.size 0 + S128x1024.size 0 - 1) / S128x1024.size 0 = grid0.N
    decide
  have n1 : (cfg0.win 4).nblk (1 : Fin 2) = 1 := by
    show (S32768x1024.size 1 + S128x1024.size 1 - 1) / S128x1024.size 1 = 1
    decide
  refine ⟨fun a => ?_, fun β => ⟨⟨(β (0 : Fin 2)).val, (β (0 : Fin 2)).isLt.trans_eq n0⟩, flush0_4 _, fun a => ⟨?_, Or.inl rfl⟩⟩⟩
  · revert a
    exact (by decide : ∀ a : Fin 2, 0 < S128x1024.size a)
  refine (idx4 ⟨(β (0 : Fin 2)).val, (β (0 : Fin 2)).isLt.trans_eq n0⟩ a).trans ?_
  fin_cases a
  · rfl
  · exact (Nat.lt_one_iff.mp ((β (1 : Fin 2)).isLt.trans_eq n1)).symm

end Cert.SlcProof

end
-- ==== Proof.SlcReference.lean ====
/-
  The selected branch's reference at a row and a column.
-/
module

public import proofs.«01_k».proof.Proof.WinSoftmax
public import proofs.«01_k».proof.Proof.SwaWords
public import proofs.«01_k».proof.Proof.Gen.SlcRefIdeal.Read
public import Idealize.ShloMosaic.Lib.Pointwise

@[expose] public section

set_option maxRecDepth 16384

noncomputable section

namespace Cert.SlcRefProof

open Idealize.ShloMosaic Idealize.ShloMosaic.TcCoe Idealize.SL.Sem
open Cert.SlcRefIdeal Cert.SlcRefIdeal.Gen Cert.SlcRefIdeal.Read

variable (x0 : (⟨S32768x1536, .bf16⟩ : BufTy).Contents (Elt Ideal)) (x1 : (⟨S32768x9856, .bf16⟩ : BufTy).Contents (Elt Ideal)) (x2 : (⟨S32768x128, .bf16⟩ : BufTy).Contents (Elt Ideal))

/-- A query's product with a key. -/
def dot (b : Fin 8) (g : Fin 2) (h : Fin 4) (q k : Fin 4096) : EReal :=
  ∑ d : Fin 128, x0 (ix2 ⟨b.val * 4096 + q.val, by omega⟩ ⟨(g.val * 4 + h.val) * 128 + d.val, by omega⟩)
    * x0 (ix2 ⟨b.val * 4096 + k.val, by omega⟩ ⟨1024 + (g.val * 128 + d.val), by omega⟩)

/-- A query's key is used: its block is picked and it is not after the query. -/
abbrev used (b : Fin 8) (g : Fin 2) (q k : Fin 4096) : Prop :=
  Ideal.ofBits FTy.f32 1056964608#32 < (x2 (ix2 ⟨b.val * 4096 + q.val, by omega⟩ ⟨g.val * 64 + k.val / 64, by omega⟩) : EReal) ∧ k.val ≤ q.val

open Classical in
/-- A query's scores over the keys of its batch, those not used hidden. -/
def row (b : Fin 8) (g : Fin 2) (h : Fin 4) (q k : Fin 4096) : EReal :=
  if used x2 b g q k then dot x0 b g h q k else ⊥

/-- The row of scores by a key's position, hidden past the batch. -/
def line (b : Fin 8) (g : Fin 2) (h : Fin 4) (q : Fin 4096) (k : ℕ) : EReal := if hk : k < 4096 then row x0 x2 b g h q ⟨k, hk⟩ else ⊥

theorem line_at (b : Fin 8) (g : Fin 2) (h : Fin 4) (q k : Fin 4096) : line x0 x2 b g h q k.val = row x0 x2 b g h q k := dif_pos k.isLt

theorem dot_at (b : Fin 8) (g : Fin 2) (h : Fin 4) (q k : Fin 4096) : val_main_v10 (F := Ideal) x0 (ix5 b g h q k) = dot x0 b g h q k := by
  unfold dot
  pointwise [val_main_v10, val_main_v9, val_main_v5, val_main_v4, val_main_v3, val_main_v2, val_main_v1, val_main_v0]
  refine Finset.sum_congr rfl fun d _ => (mul_comm _ _).trans ?_
  refine congrArg (fun c => x0 (ix2 _ c) * _) (Fin.ext ?_)
  show g.val * 512 + h.val * 128 + d.val = (g.val * 4 + h.val) * 128 + d.val
  omega

theorem le_iff (x y : ℕ) (hx : x < 65536) (hy : y < 65536) : IntOp.cmpi .sle (BitVec.ofNat 32 x) (BitVec.ofNat 32 y) = 1#1 ↔ x ≤ y := by
  unfold IntOp.cmpi
  dsimp only
  rw [Cert.SwaWords.ofBool_one, BitVec.sle_eq_decide, decide_eq_true_iff, BitVec.toInt_ofNat', BitVec.toInt_ofNat']
  rw [Int.bmod_eq_of_le (by omega) (by omega), Int.bmod_eq_of_le (by omega) (by omega)]
  omega

theorem causal_at (b : Fin 8) (g : Fin 2) (q k : Fin 4096) : val_main_v25 (F := Ideal) (ix4 b g q k) = 1#1 ↔ k.val ≤ q.val := by
  rw [← le_iff k.val q.val (by omega) (by omega)]
  pointwise [val_main_v25, val_main_v24, val_main_v23, val_main_v22, val_main_v21, val_main_v20, val_main_v19, val_main_v18]

theorem flag_at (b : Fin 8) (g : Fin 2) (q k : Fin 4096) : val_main_v17 (F := Ideal) x2 (ix4 b g q k) = 1#1 ↔
    Ideal.ofBits FTy.f32 1056964608#32 < (x2 (ix2 ⟨b.val * 4096 + q.val, by omega⟩ ⟨g.val * 64 + k.val / 64, by omega⟩) : EReal) := by
  pointwise [val_main_v17, val_main_v16, val_main_v15, val_main_v14, val_main_v13, val_main_v12, val_main_v11, val_main_cst]
  rw [Cert.SwaWords.ofBool_one, decide_eq_true_iff]

theorem used_at (b : Fin 8) (g : Fin 2) (q k : Fin 4096) : val_main_v26 (F := Ideal) x2 (ix4 b g q k) = 1#1 ↔ used x2 b g q k := by
  unfold used
  rw [← flag_at, ← causal_at b g q k, ← Cert.SwaWords.and_one]
  pointwise [val_main_v26]

theorem row_at (b : Fin 8) (g : Fin 2) (h : Fin 4) (q k : Fin 4096) : val_main_v28 (F := Ideal) x0 x2 (ix5 b g h q k) = row x0 x2 b g h q k := by
  unfold row
  have e : val_main_call0_v1 (F := Ideal) x2 (ix5 b g h q k) = val_main_v26 (F := Ideal) x2 (ix4 b g q k) := by pointwise [val_main_call0_v1, val_main_v27]
  pointwise [val_main_v28, val_main_call0_v2, val_main_call0_v0, val_main_cst_0, dot_at, e]
  unfold Scalar.select
  refine if_congr (used_at x2 b g q k) rfl rfl

/-- The largest of a row by its positions is the largest over its keys. -/
theorem top_line (n : ℕ) (S : ℕ → EReal) : Finset.univ.fold max ⊥ (fun k : Fin n => S k.val) = Cert.WinProof.top (Finset.range n) S := by
  unfold Cert.WinProof.top
  rw [show Finset.univ.fold max ⊥ (fun k : Fin n => S k.val) = Finset.univ.sup (fun k : Fin n => S k.val) from rfl]
  refine le_antisymm (Finset.sup_le fun k _ => Finset.le_sup (f := S) (Finset.mem_range.mpr k.isLt)) (Finset.sup_le fun k hk => ?_)
  exact Finset.le_sup (f := fun k : Fin n => S k.val) (Finset.mem_univ ⟨k, Finset.mem_range.mp hk⟩)

theorem fold_at (b : Fin 8) (g : Fin 2) (h : Fin 4) (q : Fin 4096) : val_main_v29 (F := Ideal) x0 x2 (ix4 b g h q) = Finset.univ.fold max ⊥ (row x0 x2 b g h q) := by
  pointwise [val_main_v29, val_main_cst_1]
  refine congrArg₂ (fun z f => Finset.univ.fold max z f) rfl (funext fun k => row_at x0 x2 b g h q k)

theorem fold_line (b : Fin 8) (g : Fin 2) (h : Fin 4) (q : Fin 4096) : Finset.univ.fold max ⊥ (row x0 x2 b g h q) = Cert.WinProof.top (Finset.range 4096) (line x0 x2 b g h q) := by
  rw [← top_line]
  simp only [line_at]

theorem maximumf_bot (a : EReal) : (FloatOps.maximumf (F := Ideal) (φ := .f32) (Ideal.ofBits FTy.f32 4286578688#32) a : EReal) = a := max_eq_right bot_le

theorem max_at (b : Fin 8) (g : Fin 2) (h : Fin 4) (q : Fin 4096) (z : Fin 1) :
    val_main_v32 (F := Ideal) x0 x2 (ix5 b g h q z) = Cert.WinProof.top (Finset.range 4096) (line x0 x2 b g h q) := by
  have e : val_main_v32 (F := Ideal) x0 x2 (ix5 b g h q z) = val_main_v31 (F := Ideal) x0 x2 (ix4 b g h q) := by pointwise [val_main_v32]
  have e' : val_main_v30 (F := Ideal) (ix4 b g h q) = Ideal.ofBits FTy.f32 4286578688#32 := by pointwise [val_main_v30, val_main_cst_2]
  rw [e, val_main_v31_apply, e', fold_at, fold_line]
  exact maximumf_bot _

theorem exp_at (b : Fin 8) (g : Fin 2) (h : Fin 4) (q k : Fin 4096) :
    val_main_v35 (F := Ideal) x0 x2 (ix5 b g h q k) = Ideal.exp (line x0 x2 b g h q k.val - Cert.WinProof.top (Finset.range 4096) (line x0 x2 b g h q)) := by
  pointwise [val_main_v35, val_main_v34, val_main_v33, max_at, row_at]
  rw [line_at]

theorem norm_at (b : Fin 8) (g : Fin 2) (h : Fin 4) (q : Fin 4096) (z : Fin 1) :
    val_main_v37 (F := Ideal) x0 x2 (ix5 b g h q z) = Cert.WinProof.mass (Finset.range 4096) (line x0 x2 b g h q) (fun _ => 1) := by
  unfold Cert.WinProof.mass
  rw [Finset.sum_range]
  pointwise [val_main_v37, val_main_v36, val_main_cst_3, exp_at]

/-- THE REFERENCE AT A ROW AND A COLUMN: the head's softmax over the keys of the batch. -/
theorem ref_at (r : Fin 32768) (c : Fin 1024) :
    val_main_v43 (F := Ideal) x0 x1 x2 (ix2 r c) = Cert.WinProof.out (line x0 x2 ⟨r.val / 4096, by omega⟩ ⟨c.val / 512, by omega⟩ ⟨c.val / 128 % 4, by omega⟩ ⟨r.val % 4096, by omega⟩)
      (fun k => if hk : k < 4096 then x1 (ix2 ⟨r.val / 4096 * 4096 + k, by omega⟩ ⟨9216 + (c.val / 512 * 128 + c.val % 128), by omega⟩) else 0) := by
  unfold Cert.WinProof.out
  pointwise [val_main_v43, val_main_v42, val_main_v41, val_main_v40, val_main_v39, val_main_v38, val_main_v8, val_main_v7, val_main_v6, norm_at, exp_at]
  refine Finset.sum_congr rfl fun k _ => (mul_comm _ _).trans ?_
  rfl

end Cert.SlcRefProof

end
-- ==== Proof.SlcFinite.lean ====
/-
  What the selected branch's precondition says: no query and no key is infinite, and every query has a picked block
  that does not start after the query's own.
-/
module

public import proofs.«01_k».proof.Proof.SlcFacts
public import proofs.«01_k».proof.Proof.SwaFinite
public import proofs.«01_k».proof.Proof.SwaWords
public import proofs.«01_k».proof.Proof.SlcReference

@[expose] public section

set_option maxRecDepth 16384

noncomputable section

namespace Cert.SlcProof

open Idealize.ShloMosaic

/-- The precondition at an element: no query and no key is infinite. -/
theorem finite {x0 x1 x2} (h : Cert.Pre_finite_slc.fn (F := Ideal) x0 x1 x2 = fun _ => 1#1) (i : Fin 32768) (j : Fin 1280) :
    (x0 (ix2 i ⟨j.val, by omega⟩) : EReal) ≠ ⊥ ∧ (x0 (ix2 i ⟨j.val, by omega⟩) : EReal) ≠ ⊤ := by
  have h' := congrFun h (fun a => a.elim0)
  unfold Cert.Pre_finite_slc.fn at h'
  dsimp only at h'
  have h2 := (by decide : ∀ x y : BitVec 1, IntOp.andi x y = 1#1 → x = 1#1 ∧ y = 1#1) _ _ h'
  have := Host.reduce_andi_all (hu := Cert.Pre_finite_slc.Facts.h_S_) _ _ _ _ h2.1 (ix2 i j)
  pointwise at this
  rw [show Ideal.ofBits FTy.bf16 32640#16 = (⊤ : EReal) from rfl] at this
  exact Cert.SwaProof.abs_lt _ this

/-- The half is not negative. -/
theorem half_nonneg : (0 : EReal) ≤ Ideal.ofBits FTy.f32 1056964608#32 := by
  have h : Ideal.ofBits FTy.f32 1056964608#32 = (((1 : ℝ) / 2 : ℝ) : EReal) := by
    simp [Ideal.ofBits, Ideal.ieee, -EReal.coe_mul]
    norm_num
  rw [h]
  exact EReal.coe_nonneg.mpr (by norm_num)

/-- A maximum, from the lower infinity, that is past the half has a member past the half. -/
theorem past_half (n : ℕ) (f : Fin n → EReal) (h : Ideal.ofBits FTy.f32 1056964608#32 < Finset.fold max (Ideal.ofBits FTy.f32 4286578688#32) f Finset.univ) :
    ∃ k, Ideal.ofBits FTy.f32 1056964608#32 < f k := by
  rw [show Ideal.ofBits FTy.f32 4286578688#32 = (⊥ : EReal) from rfl] at h
  rcases (Finset.lt_fold_max _).mp h with h | ⟨k, _, hk⟩
  · exact absurd h not_lt_bot
  · exact ⟨k, hk⟩

/-- A selected number past the half is the selected one: the other is zero. -/
theorem select_half (c : BitVec 1) (x : EReal) (h : Ideal.ofBits FTy.f32 1056964608#32 < (Scalar.select c x 0 : EReal)) : c = 1#1 ∧ Ideal.ofBits FTy.f32 1056964608#32 < x := by
  unfold Scalar.select at h
  split at h
  · rename_i hc
    exact ⟨hc, h⟩
  · exact absurd h half_nonneg.not_gt

/-- The picks of a query's row up to its own block, the others zero. -/
def picks (x2 : FVec Ideal Cert.Pre_finite_slc.S32768x128 .bf16) (b : Fin 8) (s w : Fin 64) (g : Fin 2) (k : Fin 64) : EReal :=
  Scalar.select (IntOp.cmpi .sle (BitVec.ofNat 32 k.val) (BitVec.ofNat 32 s.val)) (x2 (ix2 ⟨b.val * 4096 + s.val * 64 + w.val, by omega⟩ ⟨g.val * 64 + k.val, by omega⟩) : EReal) 0

/-- The largest pick up to a query's block, as the precondition writes it. -/
def most (x2 : FVec Ideal Cert.Pre_finite_slc.S32768x128 .bf16) : FVec Ideal Cert.Pre_finite_slc.S8x64x64x2 .f32 :=
  Host.reduce FloatOps.maximumf
    (select (cmpi .sle (iotaInDim Cert.Pre_finite_slc.S8x64x64x2x64 32 4) (iotaInDim Cert.Pre_finite_slc.S8x64x64x2x64 32 1))
      (shapeCast Cert.Pre_finite_slc.S8x64x64x2x64 (extf .f32 x2 Cert.Pre_finite_slc.Facts.bitsLt_bf16_f32) Cert.Pre_finite_slc.Facts.shapeCasts_S32768x128_S8x64x64x2x64)
      (broadcastInDim Cert.Pre_finite_slc.S8x64x64x2x64 ![] Cert.Pre_finite_slc.Facts.bcast_S_S8x64x64x2x64 (constant Cert.Pre_finite_slc.S_ .f32 0x00000000#32)))
    (constant Cert.Pre_finite_slc.S_ .f32 0xFF800000#32) Cert.Pre_finite_slc.Facts.reducesTo_S8x64x64x2x64_S8x64x64x2_d4 Cert.Pre_finite_slc.Facts.h_S_

theorem most_at (x2 : FVec Ideal Cert.Pre_finite_slc.S32768x128 .bf16) (b : Fin 8) (s w : Fin 64) (g : Fin 2) :
    @Eq EReal (most x2 (ix4 b s w g)) (Finset.fold max (Ideal.ofBits FTy.f32 4286578688#32) (picks x2 b s w g) Finset.univ) := by
  unfold picks
  pointwise [most]

theorem most_half {x0 x1 x2} (h : Cert.Pre_finite_slc.fn (F := Ideal) x0 x1 x2 = fun _ => 1#1) (i : Cert.Pre_finite_slc.S8x64x64x2.Idx) :
    (cmpf .ogt (most x2) (broadcastInDim Cert.Pre_finite_slc.S8x64x64x2 ![] Cert.Pre_finite_slc.Facts.bcast_S_S8x64x64x2 (constant (F := Ideal) Cert.Pre_finite_slc.S_ .f32 0x3F000000#32)) : IVec Cert.Pre_finite_slc.S8x64x64x2 1) i = 1#1 := by
  have h' := congrFun h (fun a => a.elim0)
  unfold Cert.Pre_finite_slc.fn at h'
  dsimp only at h'
  have h2 := (by decide : ∀ x y : BitVec 1, IntOp.andi x y = 1#1 → x = 1#1 ∧ y = 1#1) _ _ h'
  exact Host.reduce_andi_all (hu := Cert.Pre_finite_slc.Facts.h_S_) _ _ _ _ h2.2 i

theorem half_lt (x : FVec Ideal Cert.Pre_finite_slc.S8x64x64x2 .f32) (i : Cert.Pre_finite_slc.S8x64x64x2.Idx)
    (h : (cmpf .ogt x (broadcastInDim Cert.Pre_finite_slc.S8x64x64x2 ![] Cert.Pre_finite_slc.Facts.bcast_S_S8x64x64x2 (constant (F := Ideal) Cert.Pre_finite_slc.S_ .f32 0x3F000000#32)) : IVec Cert.Pre_finite_slc.S8x64x64x2 1) i = 1#1) :
    Ideal.ofBits FTy.f32 1056964608#32 < (x i : EReal) := by
  pointwise at h
  rw [Cert.SwaWords.ofBool_one, decide_eq_true_iff] at h
  exact h

/-- The precondition at a query's block and group: the largest of the picks up to it is past the half. -/
theorem best_fold {x0 x1 x2} (h : Cert.Pre_finite_slc.fn (F := Ideal) x0 x1 x2 = fun _ => 1#1) (b : Fin 8) (s w : Fin 64) (g : Fin 2) :
    Ideal.ofBits FTy.f32 1056964608#32 < Finset.fold max (Ideal.ofBits FTy.f32 4286578688#32) (picks x2 b s w g) Finset.univ := by
  have := half_lt _ _ (most_half h (ix4 b s w g))
  rw [most_at] at this
  exact this

/-- Every query has a picked block that does not start after it. -/
theorem best {x0 x1 x2} (h : Cert.Pre_finite_slc.fn (F := Ideal) x0 x1 x2 = fun _ => 1#1) (b : Fin 8) (s w : Fin 64) (g : Fin 2) :
    ∃ k : Fin 64, k.val ≤ s.val ∧ Ideal.ofBits FTy.f32 1056964608#32 < (x2 (ix2 ⟨b.val * 4096 + s.val * 64 + w.val, by omega⟩ ⟨g.val * 64 + k.val, by omega⟩) : EReal) := by
  obtain ⟨k, hk⟩ := past_half _ _ (best_fold h b s w g)
  obtain ⟨hc, hx⟩ := select_half _ _ hk
  exact ⟨k, (Cert.SlcRefProof.le_iff k.val s.val (by omega) (by omega)).mp hc, hx⟩

end Cert.SlcProof

end
-- ==== Proof.SlcOut.lean ====
/-
  The selected branch: what a grid point writes, head by head, is the head's softmax over the keys of the batch.
-/
module

public import proofs.«01_k».proof.Proof.SlcLoop
public import proofs.«01_k».proof.Proof.SlcBlocks
public import proofs.«01_k».proof.Proof.SlcFinite
public import proofs.«01_k».proof.Proof.WinFinite
public import proofs.«01_k».proof.Proof.SlcReference
public import Idealize.ShloMosaic.Lib.LoopRemainder
public import Idealize.ShloMosaic.Lib.Pipeline.ValueKit.Tiles

@[expose] public section

set_option maxRecDepth 16384

noncomputable section

namespace Cert.SlcProof

open Idealize.ShloMosaic Idealize.ShloMosaic.TcCoe Idealize.SL.Sem
open Cert.SlcIdeal Cert.SlcIdeal.Gen
open Cert.WinProof (out walk sum_fin keys mass)

/-- A row of a tile's scores, of finite queries and keys, is never the upper infinity. -/
theorem line_ne_top (qb : ℕ) (q4 : FVec Ideal S512x128 .bf16) (K : Vec Ideal S4096x256 .bf16) (sel : Vec Ideal S128x128 .bf16) (g : Fin 2) (hq : ∀ (ρ : Fin 512) (d : Fin 128), @Ne EReal (q4 (ix2 ρ d)) ⊥ ∧ @Ne EReal (q4 (ix2 ρ d)) ⊤)
    (hK : ∀ (j : Fin 4096) (d : Fin 256), @Ne EReal (K (ix2 j d)) ⊥ ∧ @Ne EReal (K (ix2 j d)) ⊤) (ρ : Fin 512) (k : ℕ) : line qb q4 K sel g ρ k ≠ ⊤ := by
  unfold line
  split
  · split
    · exact (sum_fin _ _ (fun _ => hq _ _) (fun _ => hK _ _)).2
    · exact bot_ne_top
  · exact bot_ne_top

/-- Every query of a tile has a picked block that does not start after it. -/
abbrev Picked (qb : ℕ) (sel : Vec Ideal S128x128 .bf16) (g : Fin 2) : Prop :=
  ∀ a : Fin 128, ∃ k : Fin 64, k.val * 64 ≤ qb * 128 + a.val ∧ hit (sel (ix2 a ⟨g.val * 64 + k.val, by omega⟩))

/-- The whole walk's quotient is the softmax over the batch's keys. -/
theorem quotient (qb : ℕ) (hqb : qb < 32) (q4 : FVec Ideal S512x128 .bf16) (K V : Vec Ideal S4096x256 .bf16) (sel : Vec Ideal S128x128 .bf16) (g : Fin 2) (hq : ∀ (ρ : Fin 512) (d : Fin 128), @Ne EReal (q4 (ix2 ρ d)) ⊥ ∧ @Ne EReal (q4 (ix2 ρ d)) ⊤)
    (hK : ∀ (j : Fin 4096) (d : Fin 256), @Ne EReal (K (ix2 j d)) ⊥ ∧ @Ne EReal (K (ix2 j d)) ⊤) (hp : Picked qb sel g) (M L A : Vec Ideal S512x128 .f32)
    (n : ℕ) (hn : n = qb / 2 + 1) (h : Inv n (line qb q4 K sel g) (column V g) M L A) (ρ : Fin 512) (e : Fin 128) :
    Ideal.div (A (ix2 ρ e)) (L (ix2 ρ e)) = out (line qb q4 K sel g ρ) (column V g e) := by
  subst hn
  rw [h.acc, h.norm]
  obtain ⟨k0, hk0, hh⟩ := hp ⟨ρ.val % 128, Nat.mod_lt _ (by decide)⟩
  have hk0 : k0.val * 64 ≤ qb * 128 + ρ.val % 128 := hk0
  refine walk _ _ _ _ (by omega) (line_ne_top qb q4 K sel g hq hK ρ) (fun k hk => ?_) (k0.val * 64) ?_
  · unfold line
    split
    · refine if_neg fun hn => ?_
      obtain ⟨h1, h2⟩ := hn
      omega
    · rfl
  · have hc : (⟨g.val * 64 + k0.val * 64 / 64, by omega⟩ : Fin 128) = ⟨g.val * 64 + k0.val, by omega⟩ := Fin.ext (by show g.val * 64 + k0.val * 64 / 64 = g.val * 64 + k0.val; omega)
    unfold line
    rw [dif_pos (show k0.val * 64 < 4096 by omega), if_pos ⟨by rw [hc]; exact hh, hk0⟩]
    exact (sum_fin _ _ (fun _ => hq _ _) (fun _ => hK _ _)).1

/-- A list of writes to a scratch that covers it first. -/
abbrev over (v : Memref sig .tc .vmem S512x128 .f32) (w : Vec Ideal S512x128 .f32) (L : List (View.Piece (Elt Ideal) S512x128 .f32)) : BufTy.Contents (Elt Ideal) v.view.ty :=
  v.view.writes (Elt Ideal) v.view.junk (⟨Rect.unit (s := S512x128) ![0, 0] S512x128.size inb_S512x128_S512x128_0_0, w⟩ :: L)

/-- The scratches before a loop: nothing seen yet, whatever was written before. -/
theorem start (S : Fin 512 → ℕ → EReal) (W : Fin 128 → ℕ → EReal) (arg7 arg8 arg9 : Memref sig .tc .vmem S512x128 .f32) (w7 w8 w9 : Vec Ideal S512x128 .f32) (L7 L8 L9 : List (View.Piece (Elt Ideal) S512x128 .f32))
    (hM : ∀ (ρ : Fin 512) (c : Fin 128), @Eq EReal (w7 (ix2 ρ c)) ⊥) (hL : ∀ (ρ : Fin 512) (c : Fin 128), @Eq EReal (w8 (ix2 ρ c)) 0) (hA : ∀ (ρ : Fin 512) (c : Fin 128), @Eq EReal (w9 (ix2 ρ c)) 0) :
    Inv 0 S W
      (arg7.view.read (Elt Ideal) (over arg7 w7 L7))
      (arg8.view.read (Elt Ideal) (over arg8 w8 L8))
      (arg9.view.read (Elt Ideal) (over arg9 w9 L9)) := by
  unfold over
  rw [View.read_writes_full (s := S512x128), View.read_writes_full (s := S512x128), View.read_writes_full (s := S512x128)]
  exact Inv.zero S W hM hL hA

theorem init42 (ρ : Fin 512) (c : Fin 128) : @Eq EReal (k0_pay42 (F := Ideal) (ix2 ρ c)) ⊥ := by
  pointwise [k0_pay42]
  rfl
theorem init53 (ρ : Fin 512) (c : Fin 128) : @Eq EReal (k0_pay53 (F := Ideal) (ix2 ρ c)) ⊥ := by
  pointwise [k0_pay53]
  rfl
theorem init43 (ρ : Fin 512) (c : Fin 128) : @Eq EReal (k0_pay43 (F := Ideal) (ix2 ρ c)) 0 := by
  pointwise [k0_pay43]
theorem init44 (ρ : Fin 512) (c : Fin 128) : @Eq EReal (k0_pay44 (F := Ideal) (ix2 ρ c)) 0 := by
  pointwise [k0_pay44]
theorem init54 (ρ : Fin 512) (c : Fin 128) : @Eq EReal (k0_pay54 (F := Ideal) (ix2 ρ c)) 0 := by
  pointwise [k0_pay54]
theorem init55 (ρ : Fin 512) (c : Fin 128) : @Eq EReal (k0_pay55 (F := Ideal) (ix2 ρ c)) 0 := by
  pointwise [k0_pay55]

variable (m : (ℓ : Loc nD τ sig) → Buf (Elt Ideal) ℓ)

/-- A head's rows of scores at a grid point are the reference's. -/
theorem line_eq (t : Fin 256) (g : Fin 2) (r : Fin 4) (a : Fin 128) (q4 : FVec Ideal S512x128 .bf16)
    (hq : ∀ d : Fin 128, @Eq EReal (q4 (ix2 ⟨r.val * 128 + a.val, by omega⟩ d)) (arr0 m (ix2 ⟨t.val * 128 + a.val, by omega⟩ ⟨(g.val * 4 + r.val) * 128 + d.val, by omega⟩))) :
    line (t.val % 32) q4 (iblk m 0 1 t) (iblk m 0 3 t) g ⟨r.val * 128 + a.val, by omega⟩
      = Cert.SlcRefProof.line (arr0 m) (arr2 m) ⟨t.val / 32, by omega⟩ g r ⟨t.val % 32 * 128 + a.val, by omega⟩ := by
  have ha : (⟨(r.val * 128 + a.val) % 128, Nat.mod_lt _ (by decide)⟩ : Fin 128) = a := Fin.ext (by show (r.val * 128 + a.val) % 128 = a.val; omega)
  have hrow : (⟨t.val * 128 + a.val, by omega⟩ : Fin 32768) = ⟨t.val / 32 * 4096 + (t.val % 32 * 128 + a.val), by omega⟩ := Fin.ext (by show t.val * 128 + a.val = t.val / 32 * 4096 + (t.val % 32 * 128 + a.val); omega)
  funext j
  unfold line Cert.SlcRefProof.line Cert.SlcRefProof.row
  refine dite_congr rfl (fun hj => ?_) fun _ => rfl
  refine if_congr (and_congr ?_ ?_) ?_ rfl
  · rw [ha, sel_at, hrow]
  · show j ≤ t.val % 32 * 128 + (r.val * 128 + a.val) % 128 ↔ j ≤ t.val % 32 * 128 + a.val
    rw [show (r.val * 128 + a.val) % 128 = a.val from by omega]
  unfold Cert.SlcRefProof.dot
  refine Finset.sum_congr rfl fun d _ => ?_
  rw [hq d, k_at]
  exact congrArg (fun i : Fin 32768 => arr0 m (ix2 i _) * _) hrow

/-- A column of values at a grid point is the array's. -/
theorem column_eq (t : Fin 256) (g : Fin 2) (e : Fin 128) :
    column (X0_2 m 0 t) g e = fun k => if hk : k < 4096 then arr1 m (ix2 ⟨t.val / 32 * 4096 + k, by omega⟩ ⟨9216 + (g.val * 128 + e.val), by omega⟩) else 0 := by
  funext k
  unfold column
  exact dite_congr rfl (fun hk => v_at m t _ _) fun _ => rfl

end Cert.SlcProof

end
-- ==== Proof.SlcHeads.lean ====
/-
  The selected branch: the block a grid point writes, head by head.
-/
module

public import proofs.«01_k».proof.Proof.SlcOut
public import Idealize.ShloMosaic.Lib.LoopRemainder
public import Idealize.ShloMosaic.Lib.Pipeline.ValueKit.Tiles

@[expose] public section

set_option maxRecDepth 16384

noncomputable section

namespace Cert.SlcProof

open Idealize.ShloMosaic Idealize.ShloMosaic.TcCoe Idealize.SL.Sem
open Cert.SlcIdeal Cert.SlcIdeal.Gen
open Cert.WinProof (out)

section Loops

variable (𝒱 : Variants) (c : Dev nD) (bd : Option 𝒱.V) (i : grid0.Coords) (arg2 : Memref sig .tc .vmem S128x1024 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S128x128 .bf16) (harg5 : arg5.IsWhole) (arg6 : Memref sig .tc .vmem S128x1024 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)

/-- The quotient the scratches of the first walk leave. -/
theorem fin1 (v25 : BitVec 32) (v30 : FVec Ideal S512x128 .bf16) (X3 : BufTy.Contents (Elt Ideal) arg3.view.ty) (X4 : BufTy.Contents (Elt Ideal) arg4.view.ty) (X5 : BufTy.Contents (Elt Ideal) arg5.view.ty) (L7 L8 L9 : List (View.Piece (Elt Ideal) S512x128 .f32)) (K V : Vec Ideal S4096x256 .bf16) (sel : Vec Ideal S128x128 .bf16)
    (h3 : arg3.view.read (Elt Ideal) X3 = K) (h4 : arg4.view.read (Elt Ideal) X4 = V) (h5 : arg5.view.read (Elt Ideal) X5 = sel) (hq : ∀ (ρ : Fin 512) (d : Fin 128), @Ne EReal (v30 (ix2 ρ d)) ⊥ ∧ @Ne EReal (v30 (ix2 ρ d)) ⊤)
    (hK : ∀ (j : Fin 4096) (d : Fin 256), @Ne EReal (K (ix2 j d)) ⊥ ∧ @Ne EReal (K (ix2 j d)) ⊤) (hp : Picked (i 1).val sel 0) (ρ : Fin 512) (e : Fin 128) :
    Ideal.div (arg9.view.read (Elt Ideal) (arg9.view.writes (Elt Ideal) (over arg9 (k0_pay44 (F := Ideal)) L9) (pb_k0_t1 (F := Ideal) 𝒱 c bd i arg2 harg2 arg3 harg3 arg4 harg4 arg5 harg5 arg6 harg6 arg7 harg7 arg8 harg8 arg9 harg9 (k0_pay40 i) lanes v25 v30 k0_pay42 X3 X4 X5 (over arg7 (k0_pay42 (F := Ideal)) L7) (over arg8 (k0_pay43 (F := Ideal)) L8) (over arg9 (k0_pay44 (F := Ideal)) L9) (k0_t1_loop i).trips).2.2) (ix2 ρ e))
        (arg8.view.read (Elt Ideal) (arg8.view.writes (Elt Ideal) (over arg8 (k0_pay43 (F := Ideal)) L8) (pb_k0_t1 (F := Ideal) 𝒱 c bd i arg2 harg2 arg3 harg3 arg4 harg4 arg5 harg5 arg6 harg6 arg7 harg7 arg8 harg8 arg9 harg9 (k0_pay40 i) lanes v25 v30 k0_pay42 X3 X4 X5 (over arg7 (k0_pay42 (F := Ideal)) L7) (over arg8 (k0_pay43 (F := Ideal)) L8) (over arg9 (k0_pay44 (F := Ideal)) L9) (k0_t1_loop i).trips).2.1) (ix2 ρ e))
      = out (line (i 1).val v30 K sel 0 ρ) (column V 0 e) := by
  subst h3 h4 h5
  have hS := line_ne_top (i 1).val v30 (arg3.view.read (Elt Ideal) X3) (arg5.view.read (Elt Ideal) X5) 0 hq hK
  have h0 := start (line (i 1).val v30 (arg3.view.read (Elt Ideal) X3) (arg5.view.read (Elt Ideal) X5) 0) (column (arg4.view.read (Elt Ideal) X4) 0) arg7 arg8 arg9 (k0_pay42 (F := Ideal)) (k0_pay43 (F := Ideal)) (k0_pay44 (F := Ideal)) L7 L8 L9 init42 init43 init44
  generalize (over arg7 (k0_pay42 (F := Ideal)) L7) = G7 at h0 ⊢
  generalize (over arg8 (k0_pay43 (F := Ideal)) L8) = G8 at h0 ⊢
  generalize (over arg9 (k0_pay44 (F := Ideal)) L9) = G9 at h0 ⊢
  have h := loop1 𝒱 c bd i arg2 harg2 arg3 harg3 arg4 harg4 arg5 harg5 arg6 harg6 arg7 harg7 arg8 harg8 arg9 harg9 v25 v30 k0_pay42 X3 X4 X5 G7 G8 G9 hS h0 _ le_rfl
  exact quotient (i 1).val (i 1).isLt v30 _ _ _ 0 hq hK hp _ _ _ _ (trips_eq i) h ρ e

/-- The quotient the scratches of the second walk leave. -/
theorem fin3 (v25 : BitVec 32) (v63 v64 v65 v66 : Vec Ideal S128x128 .bf16) (X3 : BufTy.Contents (Elt Ideal) arg3.view.ty) (X4 : BufTy.Contents (Elt Ideal) arg4.view.ty) (X5 : BufTy.Contents (Elt Ideal) arg5.view.ty) (L7 L8 L9 : List (View.Piece (Elt Ideal) S512x128 .f32)) (K V : Vec Ideal S4096x256 .bf16) (sel : Vec Ideal S128x128 .bf16)
    (h3 : arg3.view.read (Elt Ideal) X3 = K) (h4 : arg4.view.read (Elt Ideal) X4 = V) (h5 : arg5.view.read (Elt Ideal) X5 = sel) (hq : ∀ (ρ : Fin 512) (d : Fin 128), @Ne EReal ((k0_pay52 (F := Ideal) v63 v64 v65 v66) (ix2 ρ d)) ⊥ ∧ @Ne EReal ((k0_pay52 (F := Ideal) v63 v64 v65 v66) (ix2 ρ d)) ⊤)
    (hK : ∀ (j : Fin 4096) (d : Fin 256), @Ne EReal (K (ix2 j d)) ⊥ ∧ @Ne EReal (K (ix2 j d)) ⊤) (hp : Picked (i 1).val sel 1) (ρ : Fin 512) (e : Fin 128) :
    Ideal.div (arg9.view.read (Elt Ideal) (arg9.view.writes (Elt Ideal) (over arg9 (k0_pay55 (F := Ideal)) L9) (pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 (over arg7 (k0_pay53 (F := Ideal)) L7) (over arg8 (k0_pay54 (F := Ideal)) L8) (over arg9 (k0_pay55 (F := Ideal)) L9) (k0_t3_loop i).trips).2.2) (ix2 ρ e))
        (arg8.view.read (Elt Ideal) (arg8.view.writes (Elt Ideal) (over arg8 (k0_pay54 (F := Ideal)) L8) (pb_k0_t3 (F := Ideal) 𝒱 c bd i arg2 harg2 arg3 harg3 arg4 harg4 arg5 harg5 arg6 harg6 arg7 harg7 arg8 harg8 arg9 harg9 (k0_pay40 i) lanes v25 v63 v64 v65 v66 X3 X4 X5 (over arg7 (k0_pay53 (F := Ideal)) L7) (over arg8 (k0_pay54 (F := Ideal)) L8) (over arg9 (k0_pay55 (F := Ideal)) L9) (k0_t3_loop i).trips).2.1) (ix2 ρ e))
      = out (line (i 1).val (k0_pay52 (F := Ideal) v63 v64 v65 v66) K sel 1 ρ) (column V 1 e) := by
  subst h3 h4 h5
  have hS := line_ne_top (i 1).val (k0_pay52 (F := Ideal) v63 v64 v65 v66) (arg3.view.read (Elt Ideal) X3) (arg5.view.read (Elt Ideal) X5) 1 hq hK
  have h0 := start (line (i 1).val (k0_pay52 (F := Ideal) v63 v64 v65 v66) (arg3.view.read (Elt Ideal) X3) (arg5.view.read (Elt Ideal) X5) 1) (column (arg4.view.read (Elt Ideal) X4) 1) arg7 arg8 arg9 (k0_pay53 (F := Ideal)) (k0_pay54 (F := Ideal)) (k0_pay55 (F := Ideal)) L7 L8 L9 init53 init54 init55
  generalize (over arg7 (k0_pay53 (F := Ideal)) L7) = G7 at h0 ⊢
  generalize (over arg8 (k0_pay54 (F := Ideal)) L8) = G8 at h0 ⊢
  generalize (over arg9 (k0_pay55 (F := Ideal)) L9) = G9 at h0 ⊢
  have h := loop3 𝒱 c bd i arg2 harg2 arg3 harg3 arg4 harg4 arg5 harg5 arg6 harg6 arg7 harg7 arg8 harg8 arg9 harg9 v25 v63 v64 v65 v66 X3 X4 X5 G7 G8 G9 hS h0 _ le_rfl
  exact quotient (i 1).val (i 1).isLt (k0_pay52 (F := Ideal) v63 v64 v65 v66) _ _ _ 1 hq hK hp _ _ _ _ (trips3_eq i) h ρ e

end Loops

theorem pay48_at (A L : Vec Ideal S512x128 .f32) (a e : Fin 128) : @Eq EReal (k0_pay48 A L (ix2 a e)) (Ideal.div (A (ix2 ⟨0 * 128 + a.val, by omega⟩ e)) (L (ix2 ⟨0 * 128 + a.val, by omega⟩ e))) := by
  pointwise [k0_pay48, k0_pay47]
theorem pay59_at (A L : Vec Ideal S512x128 .f32) (a e : Fin 128) : @Eq EReal (k0_pay59 A L (ix2 a e)) (Ideal.div (A (ix2 ⟨0 * 128 + a.val, by omega⟩ e)) (L (ix2 ⟨0 * 128 + a.val, by omega⟩ e))) := by
  pointwise [k0_pay59, k0_pay58]
theorem pay49_at (A L : Vec Ideal S512x128 .f32) (a e : Fin 128) : @Eq EReal (k0_pay49 A L (ix2 a e)) (Ideal.div (A (ix2 ⟨1 * 128 + a.val, by omega⟩ e)) (L (ix2 ⟨1 * 128 + a.val, by omega⟩ e))) := by
  pointwise [k0_pay49, k0_pay47]
theorem pay1_at (A L : Vec Ideal S512x128 .f32) (a e : Fin 128) : @Eq EReal (k0_pay1 (k0_pay58 A L) (ix2 a e)) (Ideal.div (A (ix2 ⟨1 * 128 + a.val, by omega⟩ e)) (L (ix2 ⟨1 * 128 + a.val, by omega⟩ e))) := by
  pointwise [k0_pay1, k0_pay58]
theorem pay50_at (A L : Vec Ideal S512x128 .f32) (a e : Fin 128) : @Eq EReal (k0_pay50 A L (ix2 a e)) (Ideal.div (A (ix2 ⟨2 * 128 + a.val, by omega⟩ e)) (L (ix2 ⟨2 * 128 + a.val, by omega⟩ e))) := by
  pointwise [k0_pay50, k0_pay47]
theorem pay2_at (A L : Vec Ideal S512x128 .f32) (a e : Fin 128) : @Eq EReal (k0_pay2 (k0_pay58 A L) (ix2 a e)) (Ideal.div (A (ix2 ⟨2 * 128 + a.val, by omega⟩ e)) (L (ix2 ⟨2 * 128 + a.val, by omega⟩ e))) := by
  pointwise [k0_pay2, k0_pay58]
theorem pay51_at (A L : Vec Ideal S512x128 .f32) (a e : Fin 128) : @Eq EReal (k0_pay51 A L (ix2 a e)) (Ideal.div (A (ix2 ⟨3 * 128 + a.val, by omega⟩ e)) (L (ix2 ⟨3 * 128 + a.val, by omega⟩ e))) := by
  pointwise [k0_pay51, k0_pay47]
theorem pay3_at (A L : Vec Ideal S512x128 .f32) (a e : Fin 128) : @Eq EReal (k0_pay3 (k0_pay58 A L) (ix2 a e)) (Ideal.div (A (ix2 ⟨3 * 128 + a.val, by omega⟩ e)) (L (ix2 ⟨3 * 128 + a.val, by omega⟩ e))) := by
  pointwise [k0_pay3, k0_pay58]

/-- The rows of four heads, one after another. -/
theorem rows41 (v : Fin 4 → Vec Ideal S128x128 .bf16) (r : Fin 4) (a d : Fin 128) : @Eq EReal (k0_pay41 (v 0) (v 1) (v 2) (v 3) (ix2 ⟨r.val * 128 + a.val, by omega⟩ d)) (v r (ix2 a d)) := by
  fin_cases r
  · pointwise [k0_pay41]
  · pointwise [k0_pay41]
  · pointwise [k0_pay41]
    rw [dif_neg (by omega), dif_neg (by omega), dif_pos (by omega)]
    exact congrArg (v 2) (congrArg (ix2 · d) (Fin.ext (by show 256 + a.val - 128 - 128 = a.val; omega)))
  · pointwise [k0_pay41]
    rw [dif_neg (by omega), dif_neg (by omega), dif_neg (by omega)]
    exact congrArg (v 3) (congrArg (ix2 · d) (Fin.ext (by show 384 + a.val - 128 - 128 - 128 = a.val; omega)))
theorem rows52 (v : Fin 4 → Vec Ideal S128x128 .bf16) (r : Fin 4) (a d : Fin 128) : @Eq EReal (k0_pay52 (v 0) (v 1) (v 2) (v 3) (ix2 ⟨r.val * 128 + a.val, by omega⟩ d)) (v r (ix2 a d)) :=
  rows41 v r a d

variable (m : (ℓ : Loc nD τ sig) → Buf (Elt Ideal) ℓ)

/-- A head's block of queries. -/
theorem block (t : Fin 256) (o : ℕ) (ho : o + 128 ≤ 1024) (inb : ∀ b : Fin 2, (![0, o] : Fin 2 → ℕ) b + (![128, 128] : Fin 2 → ℕ) b ≤ S128x1024.size b) (a d : Fin 128) :
    @Eq EReal (View.ld (X0_0 m 0 t) (Rect.unit (s := S128x1024) ![0, o] ![128, 128] inb) (ix2 a d : S128x128.Idx)) (arr0 m (ix2 ⟨t.val * 128 + a.val, by omega⟩ ⟨o + d.val, by omega⟩)) := by
  refine Eq.trans (congrArg (X0_0 m 0 t) ?_) (q_at m t a ⟨o + d.val, by omega⟩)
  funext b
  fin_cases b
  · exact Fin.ext (show 0 + 1 * a.val = a.val by omega)
  · exact Fin.ext (show o + 1 * d.val = o + d.val by omega)

end Cert.SlcProof

end
-- ==== Proof.SlcTile.lean ====
/-
  The selected branch: the block a grid point writes is the reference's rows.
-/
module

public import proofs.«01_k».proof.Proof.SlcHeads
public import Idealize.ShloMosaic.Lib.LoopRemainder
public import Idealize.ShloMosaic.Lib.Pipeline.ValueKit.Tiles

@[expose] public section

set_option maxRecDepth 16384

noncomputable section

namespace Cert.SlcProof

open Idealize.ShloMosaic Idealize.ShloMosaic.TcCoe Idealize.SL.Sem
open Cert.SlcIdeal Cert.SlcIdeal.Gen
open Cert.WinProof (out)

variable (m : (ℓ : Loc nD τ sig) → Buf (Elt Ideal) ℓ)

/-- What the block holds at a row and a column: the head's softmax over the batch's keys. -/
def target (t : Fin 256) (a : Fin 128) (col : Fin 1024) : EReal :=
  out (Cert.SlcRefProof.line (arr0 m) (arr2 m) ⟨t.val / 32, by omega⟩ ⟨col.val / 512, by omega⟩ ⟨col.val / 128 % 4, by omega⟩ ⟨t.val % 32 * 128 + a.val, by omega⟩)
    (fun k => if hk : k < 4096 then arr1 m (ix2 ⟨t.val / 32 * 4096 + k, by omega⟩ ⟨9216 + (col.val / 512 * 128 + col.val % 128), by omega⟩) else 0)

/-- A head's column of a tile is the target's. -/
theorem head (t : Fin 256) (g : Fin 2) (r : Fin 4) (a e : Fin 128) (col : Fin 1024) (hc : col.val = (g.val * 4 + r.val) * 128 + e.val) (q4 : FVec Ideal S512x128 .bf16)
    (hq : ∀ d : Fin 128, @Eq EReal (q4 (ix2 ⟨r.val * 128 + a.val, by omega⟩ d)) (arr0 m (ix2 ⟨t.val * 128 + a.val, by omega⟩ ⟨(g.val * 4 + r.val) * 128 + d.val, by omega⟩))) :
    out (line (grid0.coords t 1).val q4 (iblk m 0 1 t) (iblk m 0 3 t) g ⟨r.val * 128 + a.val, by omega⟩) (column (X0_2 m 0 t) g e) = target m t a col := by
  have e1 : (⟨col.val / 512, by omega⟩ : Fin 2) = g := Fin.ext (by show col.val / 512 = g.val; omega)
  have e2 : (⟨col.val / 128 % 4, by omega⟩ : Fin 4) = r := Fin.ext (by show col.val / 128 % 4 = r.val; omega)
  have e3 : ∀ h, (⟨9216 + (col.val / 512 * 128 + col.val % 128), h⟩ : Fin 9856) = ⟨9216 + (g.val * 128 + e.val), by omega⟩ := fun h => Fin.ext (by show 9216 + (col.val / 512 * 128 + col.val % 128) = 9216 + (g.val * 128 + e.val); omega)
  unfold target
  rw [e1, e2]
  refine Eq.trans (congrArg (fun n : ℕ => out (line n q4 (iblk m 0 1 t) (iblk m 0 3 t) g ⟨r.val * 128 + a.val, by omega⟩) (column (X0_2 m 0 t) g e)) (coord1 t)) ?_
  rw [line_eq m t g r a q4 hq, column_eq]
  exact congrArg _ (funext fun k => dite_congr rfl (fun hk => congrArg (fun i : Fin 9856 => arr1 m (ix2 ⟨t.val / 32 * 4096 + k, by omega⟩ i)) (e3 (by omega)).symm) fun _ => rfl)

/-- The queries of the first group of heads at a grid point. -/
abbrev quad0 (t : Fin 256) : FVec Ideal S512x128 .bf16 :=
  k0_pay41 (F := Ideal) (View.ld (X0_0 m 0 t) (Rect.unit (s := S128x1024) ![0, 0] ![128, 128] inb_S128x1024_S128x128_0_0))
    (View.ld (X0_0 m 0 t) (Rect.unit (s := S128x1024) ![0, 128] ![128, 128] inb_S128x1024_S128x128_0_128))
    (View.ld (X0_0 m 0 t) (Rect.unit (s := S128x1024) ![0, 256] ![128, 128] inb_S128x1024_S128x128_0_256))
    (View.ld (X0_0 m 0 t) (Rect.unit (s := S128x1024) ![0, 384] ![128, 128] inb_S128x1024_S128x128_0_384))

theorem quad0_at (t : Fin 256) (r : Fin 4) (a d : Fin 128) :
    @Eq EReal (quad0 m t (ix2 ⟨r.val * 128 + a.val, by omega⟩ d)) (arr0 m (ix2 ⟨t.val * 128 + a.val, by omega⟩ ⟨((0 : Fin 2).val * 4 + r.val) * 128 + d.val, by omega⟩)) := by
  refine (rows41 ![(View.ld (X0_0 m 0 t) (Rect.unit (s := S128x1024) ![0, 0] ![128, 128] inb_S128x1024_S128x128_0_0)), (View.ld (X0_0 m 0 t) (Rect.unit (s := S128x1024) ![0, 128] ![128, 128] inb_S128x1024_S128x128_0_128)),
    (View.ld (X0_0 m 0 t) (Rect.unit (s := S128x1024) ![0, 256] ![128, 128] inb_S128x1024_S128x128_0_256)), (View.ld (X0_0 m 0 t) (Rect.unit (s := S128x1024) ![0, 384] ![128, 128] inb_S128x1024_S128x128_0_384))] r a d).trans ?_
  fin_cases r
  · exact block m t 0 (by omega) _ a d
  · exact block m t 128 (by omega) _ a d
  · exact block m t 256 (by omega) _ a d
  · exact block m t 384 (by omega) _ a d

theorem quad0_fin (hp : Cert.Pre_finite_slc.fn (F := Ideal) (arr0 m) (arr1 m) (arr2 m) = fun _ => 1#1) (t : Fin 256) (ρ : Fin 512) (d : Fin 128) :
    @Ne EReal (quad0 m t (ix2 ρ d)) ⊥ ∧ @Ne EReal (quad0 m t (ix2 ρ d)) ⊤ := by
  have hr : ρ = ⟨(⟨ρ.val / 128, by omega⟩ : Fin 4).val * 128 + (⟨ρ.val % 128, by omega⟩ : Fin 128).val, by dsimp only; omega⟩ := Fin.ext (by show ρ.val = ρ.val / 128 * 128 + ρ.val % 128; omega)
  rw [hr, quad0_at]
  exact finite hp _ ⟨((0 : Fin 2).val * 4 + ρ.val / 128) * 128 + d.val, by have : ((0 : Fin 2).val) = 0 := rfl; omega⟩

/-- The queries of the second group of heads at a grid point. -/
abbrev quad1 (t : Fin 256) : FVec Ideal S512x128 .bf16 :=
  k0_pay52 (F := Ideal) (View.ld (X0_0 m 0 t) (Rect.unit (s := S128x1024) ![0, 512] ![128, 128] inb_S128x1024_S128x128_0_512))
    (View.ld (X0_0 m 0 t) (Rect.unit (s := S128x1024) ![0, 640] ![128, 128] inb_S128x1024_S128x128_0_640))
    (View.ld (X0_0 m 0 t) (Rect.unit (s := S128x1024) ![0, 768] ![128, 128] inb_S128x1024_S128x128_0_768))
    (View.ld (X0_0 m 0 t) (Rect.unit (s := S128x1024) ![0, 896] ![128, 128] inb_S128x1024_S128x128_0_896))

theorem quad1_at (t : Fin 256) (r : Fin 4) (a d : Fin 128) :
    @Eq EReal (quad1 m t (ix2 ⟨r.val * 128 + a.val, by omega⟩ d)) (arr0 m (ix2 ⟨t.val * 128 + a.val, by omega⟩ ⟨((1 : Fin 2).val * 4 + r.val) * 128 + d.val, by omega⟩)) := by
  refine (rows52 ![(View.ld (X0_0 m 0 t) (Rect.unit (s := S128x1024) ![0, 512] ![128, 128] inb_S128x1024_S128x128_0_512)), (View.ld (X0_0 m 0 t) (Rect.unit (s := S128x1024) ![0, 640] ![128, 128] inb_S128x1024_S128x128_0_640)),
    (View.ld (X0_0 m 0 t) (Rect.unit (s := S128x1024) ![0, 768] ![128, 128] inb_S128x1024_S128x128_0_768)), (View.ld (X0_0 m 0 t) (Rect.unit (s := S128x1024) ![0, 896] ![128, 128] inb_S128x1024_S128x128_0_896))] r a d).trans ?_
  fin_cases r
  · exact block m t 512 (by omega) _ a d
  · exact block m t 640 (by omega) _ a d
  · exact block m t 768 (by omega) _ a d
  · exact block m t 896 (by omega) _ a d

theorem quad1_fin (hp : Cert.Pre_finite_slc.fn (F := Ideal) (arr0 m) (arr1 m) (arr2 m) = fun _ => 1#1) (t : Fin 256) (ρ : Fin 512) (d : Fin 128) :
    @Ne EReal (quad1 m t (ix2 ρ d)) ⊥ ∧ @Ne EReal (quad1 m t (ix2 ρ d)) ⊤ := by
  have hr : ρ = ⟨(⟨ρ.val / 128, by omega⟩ : Fin 4).val * 128 + (⟨ρ.val % 128, by omega⟩ : Fin 128).val, by dsimp only; omega⟩ := Fin.ext (by show ρ.val = ρ.val / 128 * 128 + ρ.val % 128; omega)
  rw [hr, quad1_at]
  exact finite hp _ ⟨((1 : Fin 2).val * 4 + ρ.val / 128) * 128 + d.val, by have : ((1 : Fin 2).val) = 1 := rfl; omega⟩

theorem keys_fin (hp : Cert.Pre_finite_slc.fn (F := Ideal) (arr0 m) (arr1 m) (arr2 m) = fun _ => 1#1) (t : Fin 256) (j : Fin 4096) (d : Fin 256) :
    @Ne EReal (iblk m 0 1 t (ix2 j d : S4096x256.Idx)) ⊥ ∧ @Ne EReal (iblk m 0 1 t (ix2 j d : S4096x256.Idx)) ⊤ := by
  rw [k_at]
  exact finite hp _ ⟨1024 + d.val, by omega⟩

/-- Every query of a tile has a picked block that does not start after it. -/
theorem picked (hp : Cert.Pre_finite_slc.fn (F := Ideal) (arr0 m) (arr1 m) (arr2 m) = fun _ => 1#1) (t : Fin 256) (g : Fin 2) : Picked (grid0.coords t 1).val (iblk m 0 3 t) g := by
  intro a
  obtain ⟨k, hk, hh⟩ := best hp ⟨t.val / 32, by omega⟩ ⟨(t.val % 32 * 128 + a.val) / 64, by omega⟩ ⟨a.val % 64, Nat.mod_lt _ (by decide)⟩ g
  have hk : k.val ≤ (t.val % 32 * 128 + a.val) / 64 := hk
  have hc : (grid0.coords t 1).val = t.val % 32 := coord1 t
  refine ⟨k, by rw [hc]; omega, ?_⟩
  unfold hit
  rw [sel_at]
  have hrow : (⟨t.val * 128 + a.val, by omega⟩ : Fin 32768) = ⟨t.val / 32 * 4096 + (t.val % 32 * 128 + a.val) / 64 * 64 + a.val % 64, by omega⟩ :=
    Fin.ext (by show t.val * 128 + a.val = t.val / 32 * 4096 + (t.val % 32 * 128 + a.val) / 64 * 64 + a.val % 64; omega)
  rw [hrow]
  exact hh

theorem whole_read (v : View sig .tc .vmem S512x128 .f32) (L : List (View.Piece (Elt Ideal) S512x128 .f32)) :
    v.readCov (Val := Elt Ideal) L (Rect.unit (s := S512x128) ![0, 0] ![512, 128] inb_S512x128_S512x128_0_0).toLoadRect = v.read (Elt Ideal) (v.writes (Elt Ideal) v.junk L) :=
  View.readAt_full v _ _

/-- The block a grid point writes. -/
theorem out_at (hp : Cert.Pre_finite_slc.fn (F := Ideal) (arr0 m) (arr1 m) (arr2 m) = fun _ => 1#1) (t : Fin 256) (a : Fin 128) (col : Fin 1024) :
    @Eq EReal (outsAt0 m 0 t (ix2 a col : S128x1024.Idx)) (target m t a col) := by
  have hK := keys_fin m hp t
  have r1 := (hs0_1 t).read_unread (iblk m 0 1 t)
  have r2 := (hs0_2 t).read_unread (X0_2 m 0 t)
  have r3 := (hs0_3 t).read_unread (iblk m 0 3 t)
  unfold outsAt0
  frame_out
  canon_tiles x h
  case piece0 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 896 + e.val := h1
    simp only [Scf.rem_trips, pb_k0_t2, pb_k0_t4, List.nil_append, View.writes_append, whole_read]
    refine (pay3_at _ _ a e).trans ?_
    refine (fin3 Variants.none 0 none (grid0.coords t) _ _ _ _ _ _ _ _ _ _ scM0_0 _ scM0_1 _ scM0_2 _ _ (View.ld (X0_0 m 0 t) (Rect.unit (s := S128x1024) ![0, 512] ![128, 128] inb_S128x1024_S128x128_0_512)) (View.ld (X0_0 m 0 t) (Rect.unit (s := S128x1024) ![0, 640] ![128, 128] inb_S128x1024_S128x128_0_640)) (View.ld (X0_0 m 0 t) (Rect.unit (s := S128x1024) ![0, 768] ![128, 128] inb_S128x1024_S128x128_0_768)) (View.ld (X0_0 m 0 t) (Rect.unit (s := S128x1024) ![0, 896] ![128, 128] inb_S128x1024_S128x128_0_896)) _ _ _ _ _ _ _ _ _ r1 r2 r3 (quad1_fin m hp t) hK (picked m hp t 1) ⟨3 * 128 + a.val, by omega⟩ e).trans ?_
    exact head m t 1 3 a e col (by show col.val = (1 * 4 + 3) * 128 + e.val; omega) (quad1 m t) (quad1_at m t 3 a)
  case piece1 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 768 + e.val := h1
    simp only [Scf.rem_trips, pb_k0_t2, pb_k0_t4, List.nil_append, View.writes_append, whole_read]
    refine (pay2_at _ _ a e).trans ?_
    refine (fin3 Variants.none 0 none (grid0.coords t) _ _ _ _ _ _ _ _ _ _ scM0_0 _ scM0_1 _ scM0_2 _ _ (View.ld (X0_0 m 0 t) (Rect.unit (s := S128x1024) ![0, 512] ![128, 128] inb_S128x1024_S128x128_0_512)) (View.ld (X0_0 m 0 t) (Rect.unit (s := S128x1024) ![0, 640] ![128, 128] inb_S128x1024_S128x128_0_640)) (View.ld (X0_0 m 0 t) (Rect.unit (s := S128x1024) ![0, 768] ![128, 128] inb_S128x1024_S128x128_0_768)) (View.ld (X0_0 m 0 t) (Rect.unit (s := S128x1024) ![0, 896] ![128, 128] inb_S128x1024_S128x128_0_896)) _ _ _ _ _ _ _ _ _ r1 r2 r3 (quad1_fin m hp t) hK (picked m hp t 1) ⟨2 * 128 + a.val, by omega⟩ e).trans ?_
    exact head m t 1 2 a e col (by show col.val = (1 * 4 + 2) * 128 + e.val; omega) (quad1 m t) (quad1_at m t 2 a)
  case piece2 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 640 + e.val := h1
    simp only [Scf.rem_trips, pb_k0_t2, pb_k0_t4, List.nil_append, View.writes_append, whole_read]
    refine (pay1_at _ _ a e).trans ?_
    refine (fin3 Variants.none 0 none (grid0.coords t) _ _ _ _ _ _ _ _ _ _ scM0_0 _ scM0_1 _ scM0_2 _ _ (View.ld (X0_0 m 0 t) (Rect.unit (s := S128x1024) ![0, 512] ![128, 128] inb_S128x1024_S128x128_0_512)) (View.ld (X0_0 m 0 t) (Rect.unit (s := S128x1024) ![0, 640] ![128, 128] inb_S128x1024_S128x128_0_640)) (View.ld (X0_0 m 0 t) (Rect.unit (s := S128x1024) ![0, 768] ![128, 128] inb_S128x1024_S128x128_0_768)) (View.ld (X0_0 m 0 t) (Rect.unit (s := S128x1024) ![0, 896] ![128, 128] inb_S128x1024_S128x128_0_896)) _ _ _ _ _ _ _ _ _ r1 r2 r3 (quad1_fin m hp t) hK (picked m hp t 1) ⟨1 * 128 + a.val, by omega⟩ e).trans ?_
    exact head m t 1 1 a e col (by show col.val = (1 * 4 + 1) * 128 + e.val; omega) (quad1 m t) (quad1_at m t 1 a)
  case piece3 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 512 + e.val := h1
    simp only [Scf.rem_trips, pb_k0_t2, pb_k0_t4, List.nil_append, View.writes_append, whole_read]
    refine (pay59_at _ _ a e).trans ?_
    refine (fin3 Variants.none 0 none (grid0.coords t) _ _ _ _ _ _ _ _ _ _ scM0_0 _ scM0_1 _ scM0_2 _ _ (View.ld (X0_0 m 0 t) (Rect.unit (s := S128x1024) ![0, 512] ![128, 128] inb_S128x1024_S128x128_0_512)) (View.ld (X0_0 m 0 t) (Rect.unit (s := S128x1024) ![0, 640] ![128, 128] inb_S128x1024_S128x128_0_640)) (View.ld (X0_0 m 0 t) (Rect.unit (s := S128x1024) ![0, 768] ![128, 128] inb_S128x1024_S128x128_0_768)) (View.ld (X0_0 m 0 t) (Rect.unit (s := S128x1024) ![0, 896] ![128, 128] inb_S128x1024_S128x128_0_896)) _ _ _ _ _ _ _ _ _ r1 r2 r3 (quad1_fin m hp t) hK (picked m hp t 1) ⟨0 * 128 + a.val, by omega⟩ e).trans ?_
    exact head m t 1 0 a e col (by show col.val = (1 * 4 + 0) * 128 + e.val; omega) (quad1 m t) (quad1_at m t 0 a)
  case piece4 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 384 + e.val := h1
    simp only [Scf.rem_trips, pb_k0_t2, pb_k0_t4, List.nil_append, View.writes_append, whole_read]
    refine (pay51_at _ _ a e).trans ?_
    refine (fin1 Variants.none 0 none (grid0.coords t) _ _ _ _ _ _ _ _ _ _ scM0_0 _ scM0_1 _ scM0_2 _ _ (quad0 m t) _ _ _ _ _ _ _ _ _ r1 r2 r3 (quad0_fin m hp t) hK (picked m hp t 0) ⟨3 * 128 + a.val, by omega⟩ e).trans ?_
    exact head m t 0 3 a e col (by show col.val = (0 * 4 + 3) * 128 + e.val; omega) (quad0 m t) (quad0_at m t 3 a)
  case piece5 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 256 + e.val := h1
    simp only [Scf.rem_trips, pb_k0_t2, pb_k0_t4, List.nil_append, View.writes_append, whole_read]
    refine (pay50_at _ _ a e).trans ?_
    refine (fin1 Variants.none 0 none (grid0.coords t) _ _ _ _ _ _ _ _ _ _ scM0_0 _ scM0_1 _ scM0_2 _ _ (quad0 m t) _ _ _ _ _ _ _ _ _ r1 r2 r3 (quad0_fin m hp t) hK (picked m hp t 0) ⟨2 * 128 + a.val, by omega⟩ e).trans ?_
    exact head m t 0 2 a e col (by show col.val = (0 * 4 + 2) * 128 + e.val; omega) (quad0 m t) (quad0_at m t 2 a)
  case piece6 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = 128 + e.val := h1
    simp only [Scf.rem_trips, pb_k0_t2, pb_k0_t4, List.nil_append, View.writes_append, whole_read]
    refine (pay49_at _ _ a e).trans ?_
    refine (fin1 Variants.none 0 none (grid0.coords t) _ _ _ _ _ _ _ _ _ _ scM0_0 _ scM0_1 _ scM0_2 _ _ (quad0 m t) _ _ _ _ _ _ _ _ _ r1 r2 r3 (quad0_fin m hp t) hK (picked m hp t 0) ⟨1 * 128 + a.val, by omega⟩ e).trans ?_
    exact head m t 0 1 a e col (by show col.val = (0 * 4 + 1) * 128 + e.val; omega) (quad0 m t) (quad0_at m t 1 a)
  case piece7 =>
    obtain ⟨b, e, rfl⟩ : ∃ b e : Fin 128, x = (ix2 b e : S128x128.Idx) := ⟨x (0 : Fin 2), x (1 : Fin 2), by funext b; fin_cases b <;> rfl⟩
    obtain rfl : a = b := Fin.ext h0
    have h1 : col.val = e.val := h1
    simp only [Scf.rem_trips, pb_k0_t2, pb_k0_t4, List.nil_append, View.writes_append, whole_read]
    refine (pay48_at _ _ a e).trans ?_
    refine (fin1 Variants.none 0 none (grid0.coords t) _ _ _ _ _ _ _ _ _ _ scM0_0 _ scM0_1 _ scM0_2 _ _ (quad0 m t) _ _ _ _ _ _ _ _ _ r1 r2 r3 (quad0_fin m hp t) hK (picked m hp t 0) ⟨0 * 128 + a.val, by omega⟩ e).trans ?_
    exact head m t 0 0 a e col (by show col.val = (0 * 4 + 0) * 128 + e.val; omega) (quad0 m t) (quad0_at m t 0 a)

end Cert.SlcProof

end
-- ==== Proof.SlcValue.lean ====
/-
  The selected branch's value: the array the kernel leaves is the reference's.
-/
module

public import proofs.«01_k».proof.Proof.SlcTile

@[expose] public section

set_option maxRecDepth 16384

noncomputable section

namespace Cert.SlcProof

open Idealize.ShloMosaic Idealize.ShloMosaic.TcCoe Idealize.SL.Sem
open Cert.SlcIdeal Cert.SlcIdeal.Gen

variable (m : (ℓ : Loc nD τ sig) → Buf (Elt Ideal) ℓ)

/-- A tile's output at a row and a column is the reference's. -/
theorem tile_at (t : Fin 256) (a : Fin 128) (col : Fin 1024) :
    @Eq EReal (target m t a col) (Cert.SlcRefIdeal.Read.val_main_v43 (F := Ideal) (arr0 m) (arr1 m) (arr2 m) (ix2 ⟨t.val * 128 + a.val, by omega⟩ col)) := by
  refine Eq.trans ?_ (Cert.SlcRefProof.ref_at (arr0 m) (arr1 m) (arr2 m) ⟨t.val * 128 + a.val, by omega⟩ col).symm
  unfold target
  have eb : (⟨(t.val * 128 + a.val) / 4096, by omega⟩ : Fin 8) = ⟨t.val / 32, by omega⟩ := Fin.ext (by show (t.val * 128 + a.val) / 4096 = t.val / 32; omega)
  have eq : (⟨(t.val * 128 + a.val) % 4096, by omega⟩ : Fin 4096) = ⟨t.val % 32 * 128 + a.val, by omega⟩ :=
    Fin.ext (by show (t.val * 128 + a.val) % 4096 = t.val % 32 * 128 + a.val; omega)
  rw [eb, eq]
  refine congrArg _ (funext fun k => dite_congr rfl (fun hk => congrArg (arr1 m) (congrArg (fun i : Fin 32768 => ix2 i _) (Fin.ext ?_))) fun _ => rfl)
  show t.val / 32 * 4096 + k = (t.val * 128 + a.val) / 4096 * 4096 + k
  omega

/-- The result array the kernel leaves is the reference's. -/
theorem final (c : Dev nD) (hp : Cert.Pre_finite_slc.fn (F := Ideal) (m ((c : Thread nD τ).loc main_arg0)) (m ((c : Thread nD τ).loc main_arg1)) (m ((c : Thread nD τ).loc main_arg2)) = fun _ => 1#1) :
    (dats m 0 c).arrAt 4 cfg0.N
      = Cert.SlcRefIdeal.Read.val_main_v43 (F := Ideal) (m ((c : Thread nD τ).loc main_arg0)) (m ((c : Thread nD τ).loc main_arg1)) (m ((c : Thread nD τ).loc main_arg2)) := by
  obtain rfl : c = 0 := Subsingleton.elim _ _
  refine (dats m 0 0).arrAt_eq_of_covers 4 _ covers fun t hf y => ?_
  blk_simp
  rw [after0_4]
  obtain ⟨a, d, rfl⟩ : ∃ (a : Fin 128) (d : Fin 1024), y = (ix2 a d : S128x1024.Idx) := ⟨y (0 : Fin 2), y (1 : Fin 2), by funext b; fin_cases b <;> rfl⟩
  exact (out_at m hp t a d).trans ((tile_at m t a d).trans (congrArg _ (y_at t a d).symm))

end Cert.SlcProof

end
-- ==== Proof.lean ====
/-
  The claims of the certificate, each from the module that proves it: the frames are the generated runs, the values
  are the modules `<Call>Value`.
-/
module

public import proofs.«01_k».proof.Defs
public import proofs.«01_k».proof.Proof.Gen.Swa.Frame
public import proofs.«01_k».proof.Proof.Gen.SwaIdeal.Frame
public import proofs.«01_k».proof.Proof.Gen.SwaRefIdeal.Run
public import proofs.«01_k».proof.Proof.Gen.Win.Frame
public import proofs.«01_k».proof.Proof.Gen.WinIdeal.Frame
public import proofs.«01_k».proof.Proof.Gen.WinRefIdeal.Run
public import proofs.«01_k».proof.Proof.Gen.Slc.Frame
public import proofs.«01_k».proof.Proof.Gen.SlcIdeal.Frame
public import proofs.«01_k».proof.Proof.Gen.SlcRefIdeal.Run
public import proofs.«01_k».proof.Proof.Gen.Experts.Frame
public import proofs.«01_k».proof.Proof.Gen.ExpertsIdeal.Frame
public import proofs.«01_k».proof.Proof.Gen.ExpertsRefIdeal.Run
public import proofs.«01_k».proof.Proof.Gen.Combine.Frame
public import proofs.«01_k».proof.Proof.Gen.CombineIdeal.Frame
public import proofs.«01_k».proof.Proof.Gen.CombineRefIdeal.Run
public import proofs.«01_k».proof.Proof.Gen.SwaIdeal.Value
public import proofs.«01_k».proof.Proof.Gen.SwaRef.Run
public import proofs.«01_k».proof.Proof.Gen.SwaRefIdeal.Read
public import proofs.«01_k».proof.Proof.Gen.Pre_finite_swa
public import proofs.«01_k».proof.Proof.Gen.WinIdeal.Value
public import proofs.«01_k».proof.Proof.Gen.WinRef.Run
public import proofs.«01_k».proof.Proof.Gen.WinRefIdeal.Read
public import proofs.«01_k».proof.Proof.Gen.Pre_finite_win
public import proofs.«01_k».proof.Proof.Gen.SlcIdeal.Value
public import proofs.«01_k».proof.Proof.Gen.SlcRef.Run
public import proofs.«01_k».proof.Proof.Gen.SlcRefIdeal.Read
public import proofs.«01_k».proof.Proof.SlcFacts
public import proofs.«01_k».proof.Proof.Gen.Pre_te_range
public import proofs.«01_k».proof.Proof.ExpertsTable
public import proofs.«01_k».proof.Proof.SwaValue
public import proofs.«01_k».proof.Proof.ExpertsValue
public import proofs.«01_k».proof.Proof.CombineValue
public import proofs.«01_k».proof.Proof.WinValue
public import proofs.«01_k».proof.Proof.SlcValue
public import proofs.«01_k».proof.Proof.Gen.ExpertsRefIdeal.Read
public import proofs.«01_k».proof.Proof.Gen.CombineRefIdeal.Read
public import proofs.«01_k».proof.Proof.Gen.CombineIdeal.Value
public import Idealize.ShloMosaic.Adequacy
public import Idealize.ShloMosaic.Init

@[expose] public section

noncomputable section

namespace Cert.Proof

open Idealize.ShloMosaic Idealize.SL.Sem

/-- The table's range gives the frame of the experts call its side condition. -/
theorem ok_of_pre (m : (ℓ : Loc Cert.Experts.nD Cert.Experts.τ Cert.Experts.sig) → Buf (Elt Bits) ℓ) (h : Cert.Pre_Experts m) : Cert.Experts.Gen.Ok m :=
  Cert.ExpertsProof.ok m (fun i => Cert.ExpertsProof.word_lt (h 0) i)

/-- The same for the idealized kernel. -/
theorem okIdeal_of_pre (m : (ℓ : Loc Cert.ExpertsIdeal.nD Cert.ExpertsIdeal.τ Cert.ExpertsIdeal.sig) → Buf (Elt Ideal) ℓ) (h : Cert.Pre_ExpertsIdeal m) : Cert.ExpertsIdeal.Gen.Ok m :=
  Cert.ExpertsProof.okIdeal m (fun i => Cert.ExpertsProof.word_lt (h 0) i)

/-- The swa call and its reference leave one array. -/
theorem algebraic_swa : Cert.algebraic_SwaIdeal_SwaRefIdeal_pre_finite_swa := fun m ρ m' ρ' hp hag =>
  ⟨_, (θ_run _ _ _).mono (fun _ h c => ⟨(h c).1.trans (Cert.SwaProof.final m c (hp c)), (h c).2⟩) (Cert.SwaIdeal.Value.run_blocks m ρ),
    (θ_run _ _ _).mono (fun _ h c => ⟨(h c).1.trans (by
      obtain ⟨h0, h1, h2⟩ := hag c
      rw [Cert.SwaRefIdeal.Read.val_main_v43_eq, h0, h1, h2]), (h c).2⟩) (Cert.SwaRefIdeal.Value.run m' ρ')⟩

/-- The experts call and its reference leave one array. -/
theorem algebraic_experts : Cert.algebraic_ExpertsIdeal_ExpertsRefIdeal := fun m ρ m' ρ' hp hag =>
  ⟨_, Cert.ExpertsProof.run m ρ (fun i => Cert.ExpertsProof.word_lt (hp 0) i),
    (θ_run _ _ _).mono (fun _ h c => ⟨(h c).1.trans (by
      obtain ⟨h0, h1, h2, h3, h4⟩ := hag c
      rw [Cert.ExpertsRefIdeal.Read.val_main_v74_eq, h0, h1, h2, h3, h4]), (h c).2⟩) (Cert.ExpertsRefIdeal.Value.run m' ρ')⟩

/-- The combine call and its reference leave one array. -/
theorem algebraic_combine : Cert.algebraic_CombineIdeal_CombineRefIdeal := fun m ρ m' ρ' _ hag =>
  ⟨_, (θ_run _ _ _).mono (fun _ h c => ⟨(h c).1.trans (Cert.CombineProof.final5 m c), (h c).2⟩) (Cert.CombineIdeal.Value.run_blocks m ρ),
    (θ_run _ _ _).mono (fun _ h c => ⟨(h c).1.trans (by
      obtain ⟨h0, h1, h2, h3, h4⟩ := hag c
      rw [Cert.CombineRefIdeal.Read.val_main_v21_eq, h0, h1, h2, h3, h4]), (h c).2⟩) (Cert.CombineRefIdeal.Value.run m' ρ')⟩

/-- The win call and its reference leave one array. -/
theorem algebraic_win : Cert.algebraic_WinIdeal_WinRefIdeal_pre_finite_win := fun m ρ m' ρ' hp hag =>
  ⟨_, (θ_run _ _ _).mono (fun _ h c => ⟨(h c).1.trans (Cert.WinProof.final m c (hp c)), (h c).2⟩) (Cert.WinIdeal.Value.run_blocks m ρ),
    (θ_run _ _ _).mono (fun _ h c => ⟨(h c).1.trans (by
      obtain ⟨h0, h1⟩ := hag c
      rw [Cert.WinRefIdeal.Read.val_main_v37_eq, h0, h1]), (h c).2⟩) (Cert.WinRefIdeal.Value.run m' ρ')⟩

/-- The slc call and its reference leave one array. -/
theorem algebraic_slc : Cert.algebraic_SlcIdeal_SlcRefIdeal_pre_finite_slc := fun m ρ m' ρ' hp hag =>
  ⟨_, (θ_run _ _ _).mono (fun _ h c => ⟨(h c).1.trans (Cert.SlcProof.final m c (hp c)), (h c).2⟩) (Cert.SlcIdeal.Value.run_blocks m ρ),
    (θ_run _ _ _).mono (fun _ h c => ⟨(h c).1.trans (by
      obtain ⟨h0, h1, h2⟩ := hag c
      rw [Cert.SlcRefIdeal.Read.val_main_v43_eq, h0, h1, h2]), (h c).2⟩) (Cert.SlcRefIdeal.Value.run m' ρ')⟩

/-- Every claim. -/
theorem claim : Cert.Claim :=
  ⟨Cert.Swa.Gen.facts, Cert.SwaIdeal.Gen.facts, Cert.SwaRefIdeal.Gen.facts, Cert.SwaRef.Gen.facts, Cert.Win.Gen.facts, Cert.WinIdeal.Gen.facts, Cert.WinRefIdeal.Gen.facts, Cert.WinRef.Gen.facts, Cert.Slc.Gen.facts, Cert.SlcIdeal.Gen.facts, Cert.SlcRefIdeal.Gen.facts, Cert.SlcRef.Gen.facts, Cert.Experts.Gen.facts, Cert.ExpertsIdeal.Gen.facts, Cert.ExpertsRefIdeal.Gen.facts, Cert.Combine.Gen.facts, Cert.CombineIdeal.Gen.facts, Cert.CombineRefIdeal.Gen.facts, Cert.Pre_finite_swa.Gen.facts, Cert.Pre_finite_win.Gen.facts, Cert.SlcFacts.facts, Cert.Pre_te_range.Gen.facts,
   fun m ρ _ => Cert.Swa.Gen.frame m ρ,
   fun m ρ _ => Cert.SwaIdeal.Gen.frame m ρ,
   fun m ρ _ => Cert.SwaIdeal.Gen.frame m ρ,
   fun m ρ _ => (θ_run _ _ _).mono (fun r h => ⟨fun c => (h c).2, sem_eq_zero_of_no_sems (by decide) r.2⟩) (Cert.SwaRefIdeal.Value.run m ρ),
   fun m ρ _ => (θ_run _ _ _).mono (fun r h => ⟨fun c => (h c).2, sem_eq_zero_of_no_sems (by decide) r.2⟩) (Cert.SwaRefIdeal.Value.run m ρ),
   fun m ρ _ => (θ_run _ _ _).mono (fun r h => ⟨fun c => (h c).2, sem_eq_zero_of_no_sems (by decide) r.2⟩) (Cert.SwaRef.Value.run m ρ),
   fun m ρ _ => Cert.Win.Gen.frame m ρ,
   fun m ρ _ => Cert.WinIdeal.Gen.frame m ρ,
   fun m ρ _ => Cert.WinIdeal.Gen.frame m ρ,
   fun m ρ _ => (θ_run _ _ _).mono (fun r h => ⟨fun c => (h c).2, sem_eq_zero_of_no_sems (by decide) r.2⟩) (Cert.WinRefIdeal.Value.run m ρ),
   fun m ρ _ => (θ_run _ _ _).mono (fun r h => ⟨fun c => (h c).2, sem_eq_zero_of_no_sems (by decide) r.2⟩) (Cert.WinRefIdeal.Value.run m ρ),
   fun m ρ _ => (θ_run _ _ _).mono (fun r h => ⟨fun c => (h c).2, sem_eq_zero_of_no_sems (by decide) r.2⟩) (Cert.WinRef.Value.run m ρ),
   fun m ρ _ => Cert.Slc.Gen.frame m ρ,
   fun m ρ _ => Cert.SlcIdeal.Gen.frame m ρ,
   fun m ρ _ => Cert.SlcIdeal.Gen.frame m ρ,
   fun m ρ _ => (θ_run _ _ _).mono (fun r h => ⟨fun c => (h c).2, sem_eq_zero_of_no_sems (by decide) r.2⟩) (Cert.SlcRefIdeal.Value.run m ρ),
   fun m ρ _ => (θ_run _ _ _).mono (fun r h => ⟨fun c => (h c).2, sem_eq_zero_of_no_sems (by decide) r.2⟩) (Cert.SlcRefIdeal.Value.run m ρ),
   fun m ρ _ => (θ_run _ _ _).mono (fun r h => ⟨fun c => (h c).2, sem_eq_zero_of_no_sems (by decide) r.2⟩) (Cert.SlcRef.Value.run m ρ),
   fun m ρ h => Cert.Experts.Gen.frame m ρ (ok_of_pre m h),
   fun m ρ h => Cert.ExpertsIdeal.Gen.frame m ρ (okIdeal_of_pre m h),
   fun m ρ _ => (θ_run _ _ _).mono (fun r h => ⟨fun c => (h c).2, sem_eq_zero_of_no_sems (by decide) r.2⟩) (Cert.ExpertsRefIdeal.Value.run m ρ),
   fun m ρ _ => (θ_run _ _ _).mono (fun r h => ⟨fun c => (h c).2, sem_eq_zero_of_no_sems (by decide) r.2⟩) (Cert.ExpertsRefIdeal.Value.run m ρ),
   fun m ρ _ => Cert.Combine.Gen.frame m ρ,
   fun m ρ _ => Cert.CombineIdeal.Gen.frame m ρ,
   fun m ρ _ => (θ_run _ _ _).mono (fun r h => ⟨fun c => (h c).2, sem_eq_zero_of_no_sems (by decide) r.2⟩) (Cert.CombineRefIdeal.Value.run m ρ),
   IdealRules.named_const.statement Cert.SwaIdeal.κ "mask" .f32 0xF149F2CA#32 _ rfl,
   trivial,
   algebraic_swa,
   IdealRules.named_const.statement Cert.WinIdeal.κ "mask" .f32 0xF149F2CA#32 _ rfl,
   trivial,
   algebraic_win,
   IdealRules.named_const.statement Cert.SlcIdeal.κ "mask" .f32 0xF149F2CA#32 _ rfl,
   trivial,
   algebraic_slc,
   trivial,
   algebraic_experts,
   trivial,
   algebraic_combine⟩

end Cert.Proof

end
